-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_ids : Cert.Pre_sorted_ids.Facts) (hPre_sorted_finite : Cert.Pre_sorted_finite.Facts),
    quiescent_Kernel (hKernel := hKernel) (hPre_sorted_ids := hPre_sorted_ids)
    ∧ quiescent_KernelIdeal (hKernelIdeal := hKernelIdeal) (hPre_sorted_ids := hPre_sorted_ids)
    ∧ quiescent_KernelIdeal_pre_sorted_finite (hKernelIdeal := hKernelIdeal) (hPre_sorted_finite := hPre_sorted_finite)
    ∧ quiescent_ReferenceIdeal (hReferenceIdeal := hReferenceIdeal) (hPre_sorted_ids := hPre_sorted_ids)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_sorted_finite.lean ====
abbrev S16x128 : Shape := ⟨2, ![16, 128]⟩
abbrev S32768x128 : Shape := ⟨2, ![32768, 128]⟩
abbrev S32768 : Shape := ⟨1, ![32768]⟩
abbrev S128x128 : Shape := ⟨2, ![128, 128]⟩
abbrev S_ : Shape := ⟨0, ![]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_1 : S32768.Slices ![1] S32767
  slices_S32768_S32767_0 : S32768.Slices ![0] S32767
  reducesTo_S32767_S_d0 : S32767.ReducesTo [0] S_
  bcast_S_S16x128 : S_.BroadcastsInDim S16x128 (![] : Fin 0 → Fin S16x128.rank)
  reducesTo_S16x128_S_d0_1 : S16x128.ReducesTo [0, 1] S_
  bcast_S_S32768x128 : S_.BroadcastsInDim S32768x128 (![] : Fin 0 → Fin S32768x128.rank)
  reducesTo_S32768x128_S_d0_1 : S32768x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg1 : FVec F S32768x128 .f32) (main_arg3 : FVec F S128x128 .f32) (main_v16 : IVec S_ 1) : IVec S_ 1 :=
  let main_v17 : FVec F S32768x128 .f32 := Host.absf main_arg1
  let main_cst_5 : FVec F S_ .f32 := constant S_ .f32 0x7F800000#32
  let main_v18 : FVec F S32768x128 .f32 := broadcastInDim S32768x128 ![] bcast_S_S32768x128 main_cst_5
  let main_v19 : IVec S32768x128 1 := cmpf .olt main_v17 main_v18
  let main_c_6 : IVec S_ 1 := constantI S_ 1 1#1
  let main_v20 : IVec S_ 1 := (fun x v => Host.reduce IntOp.andi x v reducesTo_S32768x128_S_d0_1 h_S_) main_v19 main_c_6
  let main_v21 : IVec S_ 1 := andi main_v16 main_v20
  let main_v22 : FVec F S128x128 .f32 := Host.absf main_arg3
  let main_cst_7 : FVec F S_ .f32 := constant S_ .f32 0x7F800000#32
  let main_v23 : FVec F S128x128 .f32 := broadcastInDim S128x128 ![] bcast_S_S128x128 main_cst_7
  let main_v24 : IVec S128x128 1 := cmpf .olt main_v22 main_v23
  let main_c_8 : IVec S_ 1 := constantI S_ 1 1#1
  let main_v25 : IVec S_ 1 := (fun x v => Host.reduce IntOp.andi x v reducesTo_S128x128_S_d0_1 h_S_) main_v24 main_c_8
  let main_v26 : IVec S_ 1 := andi main_v21 main_v25
  main_v26

def fn {F : FTy → Type} [FloatOps F] (main_arg0 : FVec F S16x128 .f32) (main_arg1 : FVec F S32768x128 .f32) (main_arg2 : IVec S32768 32) (main_arg3 : FVec F S128x128 .f32) : IVec S_ 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 16#32
  let main_v3 : IVec S32768 32 := broadcastInDim S32768 ![] bcast_S_S32768 main_c_1
  let main_v4 : IVec S32768 1 := cmpi .slt main_arg2 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  let main_v7 : IVec S32767 32 := (extractStridedSlice S32767 ![1] · slices_S32768_S32767_1) main_arg2
  let main_v8 : IVec S32767 32 := (extractStridedSlice S32767 ![0] · slices_S32768_S32767_0) main_arg2
  let main_v9 : IVec S32767 1 := cmpi .sge main_v7 main_v8
  let main_c_3 : IVec S_ 1 := constantI S_ 1 1#1
  let main_v10 : IVec S_ 1 := (fun x v => Host.reduce IntOp.andi x v reducesTo_S32767_S_d0 h_S_) main_v9 main_c_3
  let main_v11 : IVec S_ 1 := andi main_v6 main_v10
  let main_v12 : FVec F S16x128 .f32 := Host.absf main_arg0
  let main_cst : FVec F S_ .f32 := constant S_ .f32 0x7F800000#32
  let main_v13 : FVec F S16x128 .f32 := broadcastInDim S16x128 ![] bcast_S_S16x128 main_cst
  let main_v14 : IVec S16x128 1 := cmpf .olt main_v12 main_v13
  let main_c_4 : IVec S_ 1 := constantI S_ 1 1#1
  let main_v15 : IVec S_ 1 := (fun x v => Host.reduce IntOp.andi x v reducesTo_S16x128_S_d0_1 h_S_) main_v14 main_c_4
  let main_v16 : IVec S_ 1 := andi main_v11 main_v15
  fn_part1 (F := F) main_arg1 main_arg3 main_v16
-- ==== Pre_sorted_ids.lean ====
abbrev S16x128 : Shape := ⟨2, ![16, 128]⟩
abbrev S32768x128 : Shape := ⟨2, ![32768, 128]⟩
abbrev S32768 : Shape := ⟨1, ![32768]⟩
abbrev S128x128 : Shape := ⟨2, ![128, 128]⟩
abbrev S_ : Shape := ⟨0, ![]⟩
abbrev S32767 : Shape := ⟨1, ![32767]⟩

class Facts : Prop where
  bcast_S_S32768 : S_.BroadcastsInDim S32768 (![] : Fin 0 → Fin S32768.rank)
  reducesTo_S32768_S_d0 : S32768.ReducesTo [0] S_
  h_S_ : 0 < S_.numel
  slices_S32768_S32767_1 : S32768.Slices ![1] S32767
  slices_S32768_S32767_0 : S32768.Slices ![0] S32767
  reducesTo_S32767_S_d0 : S32767.ReducesTo [0] S_

variable [Facts]

def fn {F : FTy → Type} [FloatOps F] (main_arg0 : FVec F S16x128 .f32) (main_arg1 : FVec F S32768x128 .f32) (main_arg2 : IVec S32768 32) (main_arg3 : FVec F S128x128 .f32) : IVec S_ 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 16#32
  let main_v3 : IVec S32768 32 := broadcastInDim S32768 ![] bcast_S_S32768 main_c_1
  let main_v4 : IVec S32768 1 := cmpi .slt main_arg2 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  let main_v7 : IVec S32767 32 := (extractStridedSlice S32767 ![1] · slices_S32768_S32767_1) main_arg2
  let main_v8 : IVec S32767 32 := (extractStridedSlice S32767 ![0] · slices_S32768_S32767_0) main_arg2
  let main_v9 : IVec S32767 1 := cmpi .sge main_v7 main_v8
  let main_c_3 : IVec S_ 1 := constantI S_ 1 1#1
  let main_v10 : IVec S_ 1 := (fun x v => Host.reduce IntOp.andi x v reducesTo_S32767_S_d0 h_S_) main_v9 main_c_3
  let main_v11 : IVec S_ 1 := andi main_v6 main_v10
  main_v11
-- ==== Kernel.lean ====
abbrev S16x128 : Shape := ⟨2, ![16, 128]⟩
abbrev S32768x128 : Shape := ⟨2, ![32768, 128]⟩
abbrev S32768 : Shape := ⟨1, ![32768]⟩
abbrev S128x128 : Shape := ⟨2, ![128, 128]⟩
abbrev S16x1x2048 : Shape := ⟨3, ![16, 1, 2048]⟩
abbrev S2048x128 : Shape := ⟨2, ![2048, 128]⟩
abbrev S1x1x2048 : Shape := ⟨3, ![1, 1, 2048]⟩
abbrev S1x2048 : Shape := ⟨2, ![1, 2048]⟩
abbrev S16x2048 : Shape := ⟨2, ![16, 2048]⟩
abbrev S2048 : Shape := ⟨1, ![2048]⟩
abbrev S128x16 : Shape := ⟨2, ![128, 16]⟩
abbrev S128x2048 : Shape := ⟨2, ![128, 2048]⟩
abbrev S256x128 : Shape := ⟨2, ![256, 128]⟩
abbrev S256 : Shape := ⟨1, ![256]⟩
abbrev S16 : Shape := ⟨1, ![16]⟩
abbrev S_ : Shape := ⟨0, ![]⟩
abbrev S1 : Shape := ⟨1, ![1]⟩
abbrev S1x16 : Shape := ⟨2, ![1, 16]⟩
abbrev S128x16x128 : Shape := ⟨3, ![128, 16, 128]⟩
abbrev S128x16x1 : Shape := ⟨3, ![128, 16, 1]⟩
abbrev S16x1 : Shape := ⟨2, ![16, 1]⟩

abbrev nBuf : Table → Nat
  | .hbm => 11
  | .local .tc .vmem => 13
  | .local .scVector .vmem => 8
  | _ => 0

abbrev bufTy : (tb : Table) → Fin (nBuf tb) → BufTy
  | .hbm, ⟨0, _⟩ => ⟨S16x128, .f32⟩
  | .hbm, ⟨1, _⟩ => ⟨S32768x128, .f32⟩
  | .hbm, ⟨2, _⟩ => ⟨S32768, .i32⟩
  | .hbm, ⟨3, _⟩ => ⟨S128x128, .f32⟩
  | .hbm, ⟨4, _⟩ => ⟨S16x1x2048, .i32⟩
  | .hbm, ⟨5, _⟩ => ⟨S16x1x2048, .f32⟩
  | .hbm, ⟨6, _⟩ => ⟨S32768, .f32⟩
  | .hbm, ⟨7, _⟩ => ⟨S128x16, .f32⟩
  | .hbm, ⟨8, _⟩ => ⟨S128x16, .f32⟩
  | .hbm, ⟨9, _⟩ => ⟨S128x2048, .f32⟩
  | .hbm, ⟨10, _⟩ => ⟨S16x128, .f32⟩
  | .local .tc .vmem, ⟨0, _⟩ => ⟨S16x128, .f32⟩
  | .local .tc .vmem, ⟨1, _⟩ => ⟨S128x128, .f32⟩
  | .local .tc .vmem, ⟨2, _⟩ => ⟨S2048x128, .f32⟩
  | .local .tc .vmem, ⟨3, _⟩ => ⟨S2048x128, .f32⟩
  | .local .tc .vmem, ⟨4, _⟩ => ⟨S1x1x2048, .i32⟩
  | .local .tc .vmem, ⟨5, _⟩ => ⟨S1x1x2048, .i32⟩
  | .local .tc .vmem, ⟨6, _⟩ => ⟨S1x1x2048, .f32⟩
  | .local .tc .vmem, ⟨7, _⟩ => ⟨S1x1x2048, .f32⟩
  | .local .tc .vmem, ⟨8, _⟩ => ⟨S16x128, .f32⟩
  | .local .tc .vmem, ⟨9, _⟩ => ⟨S128x16, .f32⟩
  | .local .tc .vmem, ⟨10, _⟩ => ⟨S128x16, .f32⟩
  | .local .tc .vmem, ⟨11, _⟩ => ⟨S128x2048, .f32⟩
  | .local .tc .vmem, ⟨12, _⟩ => ⟨S16x128, .f32⟩
  | .local .scVector .vmem, ⟨0, _⟩ => ⟨S256x128, .f32⟩
  | .local .scVector .vmem, ⟨1, _⟩ => ⟨S256, .f32⟩
  | .local .scVector .vmem, ⟨2, _⟩ => ⟨S256, .i32⟩
  | .local .scVector .vmem, ⟨3, _⟩ => ⟨S256, .f32⟩
  | .local .scVector .vmem, ⟨4, _⟩ => ⟨S16, .f32⟩
  | .local .scVector .vmem, ⟨5, _⟩ => ⟨S16, .f32⟩
  | .local .scVector .vmem, ⟨6, _⟩ => ⟨S2048, .f32⟩
  | .local .scVector .vmem, ⟨7, _⟩ => ⟨S16, .f32⟩
  | _, _ => ⟨S16x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_arg1_scv : Ref sig .scVector := ⟨.hbm, 1, rfl⟩
abbrev main_v2_scv : Ref sig .scVector := ⟨.hbm, 6, rfl⟩
abbrev main_arg2_scv : Ref sig .scVector := ⟨.hbm, 2, rfl⟩
abbrev main_v3_0_scv : Ref sig .scVector := ⟨.hbm, 7, rfl⟩
abbrev main_v3_1_scv : Ref sig .scVector := ⟨.hbm, 8, rfl⟩
abbrev main_v3_2_scv : Ref sig .scVector := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc2_sem0_0 : DmaSem sig := 14
abbrev cc2_sem1_0 : DmaSem sig := 15
abbrev cc2_sem2_0 : DmaSem sig := 16
abbrev cc2_sem3_0 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![2, 16], ![false, false]⟩

@[reducible] def k1_t1_loop : Scf.Loop 32 :=
  let c0_i32_0 : BitVec 32 := 0#32
  let c4_i32 : BitVec 32 := 4#32
  let v3 : BitVec 32 := Scalar.addi c0_i32_0 c4_i32
  let c1_i32 : BitVec 32 := 1#32
  ⟨c0_i32_0, v3, c1_i32⟩
def k1_off1 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg16 : BitVec 32 := Scf.iv c0_i32_0 c1_i32 k1_t1
  let v6 : BitVec 32 := Scalar.addi v5 arg16
  let c256_i32 : BitVec 32 := 256#32
  let v7 : BitVec 32 := Scalar.muli v6 c256_i32
  let c0_i32_28_r0 : BitVec 32 := 0#32
  ![v7.toNat, 0]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg16 : BitVec 32 := Scf.iv c0_i32_0 c1_i32 k1_t1
  let v6 : BitVec 32 := Scalar.addi v5 arg16
  let c256_i32 : BitVec 32 := 256#32
  let v7 : BitVec 32 := Scalar.muli v6 c256_i32
  ![v7.toNat]
@[reducible] def k1_t2_loop (v10 : BitVec 32) (v13 : BitVec 32) : Scf.Loop 32 :=
  let c1_i32_3 : BitVec 32 := 1#32
  let v14 : BitVec 32 := Scalar.addi v13 c1_i32_3
  let v16 : BitVec 32 := Scalar.subi v14 v10
  let c1_i32_4 : BitVec 32 := 1#32
  let v18 : BitVec 32 := Scalar.divsi v16 c1_i32_4
  let v19 : BitVec 32 := Scalar.muli v18 c1_i32_4
  let v20 : BitVec 32 := Scalar.addi v10 v19
  let c1_i32_5 : BitVec 32 := 1#32
  ⟨v10, v20, c1_i32_5⟩

@[reducible] def k1_t3_loop : Scf.Loop 32 :=
  let c0_i32_29 : BitVec 32 := 0#32
  let c16_i32_30 : BitVec 32 := 16#32
  let v41 : BitVec 32 := Scalar.addi c0_i32_29 c16_i32_30
  let c1_i32_31 : BitVec 32 := 1#32
  ⟨c0_i32_29, v41, c1_i32_31⟩
def k1_off3 (k1_t3 : Fin k1_t3_loop.trips) : Fin 1 → Nat :=
  let c0_i32_29 : BitVec 32 := 0#32
  let c1_i32_31 : BitVec 32 := 1#32
  let arg20 : BitVec 32 := Scf.iv c0_i32_29 c1_i32_31 k1_t3
  let c16_i32_40 : BitVec 32 := 16#32
  let v66 : BitVec 32 := Scalar.muli arg20 c16_i32_40
  let v67 : Index := Scalar.indexCast v66
  ![v67.toNat]

def k1_chk2 (v46 : IVec S16 32) : Prop :=
  (∀ a x, ((![v46] : Fin 1 → IVec S16 32) a x).toNat < S16.size a)
theorem k1_idx1_inb : ∀ (v46 : IVec S16 32) (k1_hw2 : k1_chk2 v46), ∀ a x, ((![v46] : Fin 1 → IVec S16 32) a x).toNat < S16.size a := fun v46 k1_hw2 => k1_hw2

def k1_chk3 (v51 : IVec S16 32) : Prop :=
  (∀ a x, ((![v51] : Fin 1 → IVec S16 32) a x).toNat < S16.size a)
theorem k1_idx2_inb : ∀ (v51 : IVec S16 32) (k1_hw3 : k1_chk3 v51), ∀ a x, ((![v51] : Fin 1 → IVec S16 32) a x).toNat < S16.size a := fun v51 k1_hw3 => k1_hw3

def k1_chk4 (v56 : IVec S16 32) : Prop :=
  (∀ a x, ((![v56] : Fin 1 → IVec S16 32) a x).toNat < S16.size a)
theorem k1_idx3_inb : ∀ (v56 : IVec S16 32) (k1_hw4 : k1_chk4 v56), ∀ a x, ((![v56] : Fin 1 → IVec S16 32) a x).toNat < S16.size a := fun v56 k1_hw4 => k1_hw4

def k1_chk5 (v61 : IVec S16 32) : Prop :=
  (∀ a x, ((![v61] : Fin 1 → IVec S16 32) a x).toNat < S16.size a)
theorem k1_idx4_inb : ∀ (v61 : IVec S16 32) (k1_hw5 : k1_chk5 v61), ∀ a x, ((![v61] : Fin 1 → IVec S16 32) a x).toNat < S16.size a := fun v61 k1_hw5 => k1_hw5
@[reducible] def k1_t4_loop (v10 : BitVec 32) (v13 : BitVec 32) : Scf.Loop 32 :=
  let c1_i32_3 : BitVec 32 := 1#32
  let v14 : BitVec 32 := Scalar.addi v13 c1_i32_3
  let v16 : BitVec 32 := Scalar.subi v14 v10
  let c1_i32_4 : BitVec 32 := 1#32
  let v18 : BitVec 32 := Scalar.divsi v16 c1_i32_4
  let v19 : BitVec 32 := Scalar.muli v18 c1_i32_4
  let v20 : BitVec 32 := Scalar.addi v10 v19
  let v17 : BitVec 32 := Scalar.addi v10 v16
  let c1_i32_6 : BitVec 32 := 1#32
  ⟨v20, v17, c1_i32_6⟩
@[reducible] def k1_t5_loop : Scf.Loop 32 :=
  let c0_i32_29 : BitVec 32 := 0#32
  let c16_i32_30 : BitVec 32 := 16#32
  let v41 : BitVec 32 := Scalar.addi c0_i32_29 c16_i32_30
  let c1_i32_31 : BitVec 32 := 1#32
  ⟨c0_i32_29, v41, c1_i32_31⟩
def k1_off4 (k1_t5 : Fin k1_t5_loop.trips) : Fin 1 → Nat :=
  let c0_i32_29 : BitVec 32 := 0#32
  let c1_i32_31 : BitVec 32 := 1#32
  let arg20 : BitVec 32 := Scf.iv c0_i32_29 c1_i32_31 k1_t5
  let c16_i32_40 : BitVec 32 := 16#32
  let v66 : BitVec 32 := Scalar.muli arg20 c16_i32_40
  let v67 : Index := Scalar.indexCast v66
  ![v67.toNat]

def k1_chk6 (v46 : IVec S16 32) : Prop :=
  (∀ a x, ((![v46] : Fin 1 → IVec S16 32) a x).toNat < S16.size a)
theorem k1_idx5_inb : ∀ (v46 : IVec S16 32) (k1_hw6 : k1_chk6 v46), ∀ a x, ((![v46] : Fin 1 → IVec S16 32) a x).toNat < S16.size a := fun v46 k1_hw6 => k1_hw6

def k1_chk7 (v51 : IVec S16 32) : Prop :=
  (∀ a x, ((![v51] : Fin 1 → IVec S16 32) a x).toNat < S16.size a)
theorem k1_idx6_inb : ∀ (v51 : IVec S16 32) (k1_hw7 : k1_chk7 v51), ∀ a x, ((![v51] : Fin 1 → IVec S16 32) a x).toNat < S16.size a := fun v51 k1_hw7 => k1_hw7

def k1_chk8 (v56 : IVec S16 32) : Prop :=
  (∀ a x, ((![v56] : Fin 1 → IVec S16 32) a x).toNat < S16.size a)
theorem k1_idx7_inb : ∀ (v56 : IVec S16 32) (k1_hw8 : k1_chk8 v56), ∀ a x, ((![v56] : Fin 1 → IVec S16 32) a x).toNat < S16.size a := fun v56 k1_hw8 => k1_hw8

def k1_chk9 (v61 : IVec S16 32) : Prop :=
  (∀ a x, ((![v61] : Fin 1 → IVec S16 32) a x).toNat < S16.size a)
theorem k1_idx8_inb : ∀ (v61 : IVec S16 32) (k1_hw9 : k1_chk9 v61), ∀ a x, ((![v61] : Fin 1 → IVec S16 32) a x).toNat < S16.size a := fun v61 k1_hw9 => k1_hw9
@[reducible] def k1_t6_loop : Scf.Loop 32 :=
  let c0_i32_9 : BitVec 32 := 0#32
  let c16_i32 : BitVec 32 := 16#32
  let v24 : BitVec 32 := Scalar.addi c0_i32_9 c16_i32
  let c1_i32_10 : BitVec 32 := 1#32
  ⟨c0_i32_9, v24, c1_i32_10⟩
def k1_off5 (k1_t6 : Fin k1_t6_loop.trips) : Fin 1 → Nat :=
  let c0_i32_9 : BitVec 32 := 0#32
  let c1_i32_10 : BitVec 32 := 1#32
  let arg18 : BitVec 32 := Scf.iv c0_i32_9 c1_i32_10 k1_t6
  let c16_i32_28 : BitVec 32 := 16#32
  let v40 : BitVec 32 := Scalar.muli arg18 c16_i32_28
  let v41 : Index := Scalar.indexCast v40
  ![v41.toNat]

def k1_chk10 (v45 : IVec S16 32) : Prop :=
  (∀ a x, ((![v45] : Fin 1 → IVec S16 32) a x).toNat < S16.size a)
theorem k1_idx9_inb : ∀ (v45 : IVec S16 32) (k1_hw10 : k1_chk10 v45), ∀ a x, ((![v45] : Fin 1 → IVec S16 32) a x).toNat < S16.size a := fun v45 k1_hw10 => k1_hw10
def k1_off6 (k1_t6 : Fin k1_t6_loop.trips) : Fin 1 → Nat :=
  let c0_i32_9 : BitVec 32 := 0#32
  let c1_i32_10 : BitVec 32 := 1#32
  let arg18 : BitVec 32 := Scf.iv c0_i32_9 c1_i32_10 k1_t6
  let c16_i32_30 : BitVec 32 := 16#32
  let v49 : BitVec 32 := Scalar.muli arg18 c16_i32_30
  let v50 : Index := Scalar.indexCast v49
  ![v50.toNat]
@[reducible] def k1_t7_loop (v10 : BitVec 32) (v13 : BitVec 32) : Scf.Loop 32 :=
  let c1_i32_12 : BitVec 32 := 1#32
  let v26 : BitVec 32 := Scalar.addi v13 c1_i32_12
  let v28 : BitVec 32 := Scalar.subi v26 v10
  let c1_i32_14 : BitVec 32 := 1#32
  let v30 : BitVec 32 := Scalar.divsi v28 c1_i32_14
  let v31 : BitVec 32 := Scalar.muli v30 c1_i32_14
  let v32 : BitVec 32 := Scalar.addi v10 v31
  let c1_i32_15 : BitVec 32 := 1#32
  ⟨v10, v32, c1_i32_15⟩
@[reducible] def k1_t8_loop : Scf.Loop 32 :=
  let c0_i32_29 : BitVec 32 := 0#32
  let c16_i32_30 : BitVec 32 := 16#32
  let v41 : BitVec 32 := Scalar.addi c0_i32_29 c16_i32_30
  let c1_i32_31 : BitVec 32 := 1#32
  ⟨c0_i32_29, v41, c1_i32_31⟩
def k1_off7 (k1_t8 : Fin k1_t8_loop.trips) : Fin 1 → Nat :=
  let c0_i32_29 : BitVec 32 := 0#32
  let c1_i32_31 : BitVec 32 := 1#32
  let arg20 : BitVec 32 := Scf.iv c0_i32_29 c1_i32_31 k1_t8
  let c16_i32_40 : BitVec 32 := 16#32
  let v66 : BitVec 32 := Scalar.muli arg20 c16_i32_40
  let v67 : Index := Scalar.indexCast v66
  ![v67.toNat]

def k1_chk11 (v46 : IVec S16 32) : Prop :=
  (∀ a x, ((![v46] : Fin 1 → IVec S16 32) a x).toNat < S16.size a)
theorem k1_idx10_inb : ∀ (v46 : IVec S16 32) (k1_hw11 : k1_chk11 v46), ∀ a x, ((![v46] : Fin 1 → IVec S16 32) a x).toNat < S16.size a := fun v46 k1_hw11 => k1_hw11

def k1_chk12 (v51 : IVec S16 32) : Prop :=
  (∀ a x, ((![v51] : Fin 1 → IVec S16 32) a x).toNat < S16.size a)
theorem k1_idx11_inb : ∀ (v51 : IVec S16 32) (k1_hw12 : k1_chk12 v51), ∀ a x, ((![v51] : Fin 1 → IVec S16 32) a x).toNat < S16.size a := fun v51 k1_hw12 => k1_hw12

def k1_chk13 (v56 : IVec S16 32) : Prop :=
  (∀ a x, ((![v56] : Fin 1 → IVec S16 32) a x).toNat < S16.size a)
theorem k1_idx12_inb : ∀ (v56 : IVec S16 32) (k1_hw13 : k1_chk13 v56), ∀ a x, ((![v56] : Fin 1 → IVec S16 32) a x).toNat < S16.size a := fun v56 k1_hw13 => k1_hw13

def k1_chk14 (v61 : IVec S16 32) : Prop :=
  (∀ a x, ((![v61] : Fin 1 → IVec S16 32) a x).toNat < S16.size a)
theorem k1_idx13_inb : ∀ (v61 : IVec S16 32) (k1_hw14 : k1_chk14 v61), ∀ a x, ((![v61] : Fin 1 → IVec S16 32) a x).toNat < S16.size a := fun v61 k1_hw14 => k1_hw14
@[reducible] def k1_t9_loop (v10 : BitVec 32) (v13 : BitVec 32) : Scf.Loop 32 :=
  let c1_i32_12 : BitVec 32 := 1#32
  let v26 : BitVec 32 := Scalar.addi v13 c1_i32_12
  let v28 : BitVec 32 := Scalar.subi v26 v10
  let c1_i32_14 : BitVec 32 := 1#32
  let v30 : BitVec 32 := Scalar.divsi v28 c1_i32_14
  let v31 : BitVec 32 := Scalar.muli v30 c1_i32_14
  let v32 : BitVec 32 := Scalar.addi v10 v31
  let v29 : BitVec 32 := Scalar.addi v10 v28
  let c1_i32_16 : BitVec 32 := 1#32
  ⟨v32, v29, c1_i32_16⟩

def k1_chk1 (v10 : BitVec 32) (v13 : BitVec 32) : Prop :=
  ((k1_t2_loop v10 v13).OK) ∧
  ((k1_t4_loop v10 v13).OK) ∧
  ((k1_t7_loop v10 v13).OK) ∧
  ((k1_t9_loop v10 v13).OK)
theorem k1_t2_ok : ∀ (v10 : BitVec 32) (v13 : BitVec 32) (k1_hw1 : k1_chk1 v10 v13), (k1_t2_loop v10 v13).OK := fun v10 v13 k1_hw1 => k1_hw1.1
theorem k1_t4_ok : ∀ (v10 : BitVec 32) (v13 : BitVec 32) (k1_hw1 : k1_chk1 v10 v13), (k1_t4_loop v10 v13).OK := fun v10 v13 k1_hw1 => k1_hw1.2.1
theorem k1_t7_ok : ∀ (v10 : BitVec 32) (v13 : BitVec 32) (k1_hw1 : k1_chk1 v10 v13), (k1_t7_loop v10 v13).OK := fun v10 v13 k1_hw1 => k1_hw1.2.2.1
theorem k1_t9_ok : ∀ (v10 : BitVec 32) (v13 : BitVec 32) (k1_hw1 : k1_chk1 v10 v13), (k1_t9_loop v10 v13).OK := fun v10 v13 k1_hw1 => k1_hw1.2.2.2

@[reducible] def k1_t10_loop : Scf.Loop 32 :=
  let c0_i32_29 : BitVec 32 := 0#32
  let c16_i32_30 : BitVec 32 := 16#32
  let v41 : BitVec 32 := Scalar.addi c0_i32_29 c16_i32_30
  let c1_i32_31 : BitVec 32 := 1#32
  ⟨c0_i32_29, v41, c1_i32_31⟩
def k1_off8 (k1_t10 : Fin k1_t10_loop.trips) : Fin 1 → Nat :=
  let c0_i32_29 : BitVec 32 := 0#32
  let c1_i32_31 : BitVec 32 := 1#32
  let arg20 : BitVec 32 := Scf.iv c0_i32_29 c1_i32_31 k1_t10
  let c16_i32_40 : BitVec 32 := 16#32
  let v66 : BitVec 32 := Scalar.muli arg20 c16_i32_40
  let v67 : Index := Scalar.indexCast v66
  ![v67.toNat]

def k1_chk15 (v46 : IVec S16 32) : Prop :=
  (∀ a x, ((![v46] : Fin 1 → IVec S16 32) a x).toNat < S16.size a)
theorem k1_idx14_inb : ∀ (v46 : IVec S16 32) (k1_hw15 : k1_chk15 v46), ∀ a x, ((![v46] : Fin 1 → IVec S16 32) a x).toNat < S16.size a := fun v46 k1_hw15 => k1_hw15

def k1_chk16 (v51 : IVec S16 32) : Prop :=
  (∀ a x, ((![v51] : Fin 1 → IVec S16 32) a x).toNat < S16.size a)
theorem k1_idx15_inb : ∀ (v51 : IVec S16 32) (k1_hw16 : k1_chk16 v51), ∀ a x, ((![v51] : Fin 1 → IVec S16 32) a x).toNat < S16.size a := fun v51 k1_hw16 => k1_hw16

def k1_chk17 (v56 : IVec S16 32) : Prop :=
  (∀ a x, ((![v56] : Fin 1 → IVec S16 32) a x).toNat < S16.size a)
theorem k1_idx16_inb : ∀ (v56 : IVec S16 32) (k1_hw17 : k1_chk17 v56), ∀ a x, ((![v56] : Fin 1 → IVec S16 32) a x).toNat < S16.size a := fun v56 k1_hw17 => k1_hw17

def k1_chk18 (v61 : IVec S16 32) : Prop :=
  (∀ a x, ((![v61] : Fin 1 → IVec S16 32) a x).toNat < S16.size a)
theorem k1_idx17_inb : ∀ (v61 : IVec S16 32) (k1_hw18 : k1_chk18 v61), ∀ a x, ((![v61] : Fin 1 → IVec S16 32) a x).toNat < S16.size a := fun v61 k1_hw18 => k1_hw18
@[reducible] def k1_t11_loop : Scf.Loop 32 :=
  let c0_i32_19 : BitVec 32 := 0#32
  let c128_i32 : BitVec 32 := 128#32
  let v36 : BitVec 32 := Scalar.addi c0_i32_19 c128_i32
  let c1_i32_20 : BitVec 32 := 1#32
  ⟨c0_i32_19, v36, c1_i32_20⟩
def k1_off9 (k1_t11 : Fin k1_t11_loop.trips) : Fin 1 → Nat :=
  let c0_i32_19 : BitVec 32 := 0#32
  let c1_i32_20 : BitVec 32 := 1#32
  let arg18 : BitVec 32 := Scf.iv c0_i32_19 c1_i32_20 k1_t11
  let c16_i32_29 : BitVec 32 := 16#32
  let v41 : BitVec 32 := Scalar.muli arg18 c16_i32_29
  let v42 : Index := Scalar.indexCast v41
  ![v42.toNat]
@[reducible] def k1_t12_loop : Scf.Loop 32 :=
  let c0_i32_23 : BitVec 32 := 0#32
  let c16_i32_24 : BitVec 32 := 16#32
  let v38 : BitVec 32 := Scalar.addi c0_i32_23 c16_i32_24
  let c1_i32_25 : BitVec 32 := 1#32
  ⟨c0_i32_23, v38, c1_i32_25⟩
def k1_off10 (k1_t12 : Fin k1_t12_loop.trips) : Fin 1 → Nat :=
  let c0_i32_23 : BitVec 32 := 0#32
  let c1_i32_25 : BitVec 32 := 1#32
  let arg18 : BitVec 32 := Scf.iv c0_i32_23 c1_i32_25 k1_t12
  let c16_i32_28 : BitVec 32 := 16#32
  let v40 : BitVec 32 := Scalar.muli arg18 c16_i32_28
  let v41 : Index := Scalar.indexCast v40
  ![v41.toNat]
def k1_off11 (v49 : BitVec 32) (c0_i32_31 : BitVec 32) : Fin 1 → Nat :=
  let c128_i32_30 : BitVec 32 := 128#32
  let v50 : BitVec 32 := Scalar.muli v49 c128_i32_30
  let v51 : BitVec 32 := Scalar.addi v50 c0_i32_31
  let v52 : Index := Scalar.indexCast v51
  ![v52.toNat]

def k1_chk19 (v49 : BitVec 32) : Prop :=
  (∀ (r : Fin 8), ∀ a, (k1_off11 v49 (BitVec.ofNat 32 (16 * r.val))) a + S16.size a ≤ S2048.size a)
theorem k1_off11_inb : ∀ (v49 : BitVec 32) (k1_hw19 : k1_chk19 v49), ∀ (r : Fin 8), ∀ a, (k1_off11 v49 (BitVec.ofNat 32 (16 * r.val))) a + S16.size a ≤ S2048.size a := fun v49 k1_hw19 r => k1_hw19 r

def k1_off12 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_32 : BitVec 32 := 16#32
  let v54 : BitVec 32 := Scalar.muli arg18 c16_i32_32
  let c0_i32_33 : BitVec 32 := 0#32
  let v55 : BitVec 32 := Scalar.addi v54 c0_i32_33
  let v56 : Index := Scalar.indexCast v55
  let c0_34 : Index := 0#32
  ![v56.toNat, 0]
def k1_off13 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_36 : BitVec 32 := 16#32
  let v66 : BitVec 32 := Scalar.muli arg18 c16_i32_36
  let c0_i32_37 : BitVec 32 := 0#32
  let v67 : BitVec 32 := Scalar.addi v66 c0_i32_37
  let v68 : Index := Scalar.indexCast v67
  let c16 : Index := 16#32
  ![v68.toNat, 16]
def k1_off14 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_38 : BitVec 32 := 16#32
  let v78 : BitVec 32 := Scalar.muli arg18 c16_i32_38
  let c0_i32_39 : BitVec 32 := 0#32
  let v79 : BitVec 32 := Scalar.addi v78 c0_i32_39
  let v80 : Index := Scalar.indexCast v79
  let c32 : Index := 32#32
  ![v80.toNat, 32]
def k1_off15 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_40 : BitVec 32 := 16#32
  let v90 : BitVec 32 := Scalar.muli arg18 c16_i32_40
  let c0_i32_41 : BitVec 32 := 0#32
  let v91 : BitVec 32 := Scalar.addi v90 c0_i32_41
  let v92 : Index := Scalar.indexCast v91
  let c48 : Index := 48#32
  ![v92.toNat, 48]
def k1_off16 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_42 : BitVec 32 := 16#32
  let v102 : BitVec 32 := Scalar.muli arg18 c16_i32_42
  let c0_i32_43 : BitVec 32 := 0#32
  let v103 : BitVec 32 := Scalar.addi v102 c0_i32_43
  let v104 : Index := Scalar.indexCast v103
  let c64 : Index := 64#32
  ![v104.toNat, 64]
def k1_off17 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_44 : BitVec 32 := 16#32
  let v114 : BitVec 32 := Scalar.muli arg18 c16_i32_44
  let c0_i32_45 : BitVec 32 := 0#32
  let v115 : BitVec 32 := Scalar.addi v114 c0_i32_45
  let v116 : Index := Scalar.indexCast v115
  let c80 : Index := 80#32
  ![v116.toNat, 80]
def k1_off18 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_46 : BitVec 32 := 16#32
  let v126 : BitVec 32 := Scalar.muli arg18 c16_i32_46
  let c0_i32_47 : BitVec 32 := 0#32
  let v127 : BitVec 32 := Scalar.addi v126 c0_i32_47
  let v128 : Index := Scalar.indexCast v127
  let c96 : Index := 96#32
  ![v128.toNat, 96]
def k1_off19 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_48 : BitVec 32 := 16#32
  let v138 : BitVec 32 := Scalar.muli arg18 c16_i32_48
  let c0_i32_49 : BitVec 32 := 0#32
  let v139 : BitVec 32 := Scalar.addi v138 c0_i32_49
  let v140 : Index := Scalar.indexCast v139
  let c112 : Index := 112#32
  ![v140.toNat, 112]
def k1_off20 (v150 : BitVec 32) (c0_i32_51 : BitVec 32) : Fin 1 → Nat :=
  let c128_i32_50 : BitVec 32 := 128#32
  let v151 : BitVec 32 := Scalar.muli v150 c128_i32_50
  let v152 : BitVec 32 := Scalar.addi v151 c0_i32_51
  let v153 : Index := Scalar.indexCast v152
  ![v153.toNat]

def k1_chk20 (v150 : BitVec 32) : Prop :=
  (∀ (r : Fin 8), ∀ a, (k1_off20 v150 (BitVec.ofNat 32 (16 * r.val))) a + S16.size a ≤ S2048.size a)
theorem k1_off20_inb : ∀ (v150 : BitVec 32) (k1_hw20 : k1_chk20 v150), ∀ (r : Fin 8), ∀ a, (k1_off20 v150 (BitVec.ofNat 32 (16 * r.val))) a + S16.size a ≤ S2048.size a := fun v150 k1_hw20 r => k1_hw20 r

def k1_off21 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_52 : BitVec 32 := 16#32
  let v155 : BitVec 32 := Scalar.muli arg18 c16_i32_52
  let c1_i32_53 : BitVec 32 := 1#32
  let v156 : BitVec 32 := Scalar.addi v155 c1_i32_53
  let v157 : Index := Scalar.indexCast v156
  let c0_54 : Index := 0#32
  ![v157.toNat, 0]
def k1_off22 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_56 : BitVec 32 := 16#32
  let v167 : BitVec 32 := Scalar.muli arg18 c16_i32_56
  let c1_i32_57 : BitVec 32 := 1#32
  let v168 : BitVec 32 := Scalar.addi v167 c1_i32_57
  let v169 : Index := Scalar.indexCast v168
  let c16_58 : Index := 16#32
  ![v169.toNat, 16]
def k1_off23 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_60 : BitVec 32 := 16#32
  let v179 : BitVec 32 := Scalar.muli arg18 c16_i32_60
  let c1_i32_61 : BitVec 32 := 1#32
  let v180 : BitVec 32 := Scalar.addi v179 c1_i32_61
  let v181 : Index := Scalar.indexCast v180
  let c32_62 : Index := 32#32
  ![v181.toNat, 32]
def k1_off24 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_64 : BitVec 32 := 16#32
  let v191 : BitVec 32 := Scalar.muli arg18 c16_i32_64
  let c1_i32_65 : BitVec 32 := 1#32
  let v192 : BitVec 32 := Scalar.addi v191 c1_i32_65
  let v193 : Index := Scalar.indexCast v192
  let c48_66 : Index := 48#32
  ![v193.toNat, 48]
def k1_off25 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_68 : BitVec 32 := 16#32
  let v203 : BitVec 32 := Scalar.muli arg18 c16_i32_68
  let c1_i32_69 : BitVec 32 := 1#32
  let v204 : BitVec 32 := Scalar.addi v203 c1_i32_69
  let v205 : Index := Scalar.indexCast v204
  let c64_70 : Index := 64#32
  ![v205.toNat, 64]
def k1_off26 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_72 : BitVec 32 := 16#32
  let v215 : BitVec 32 := Scalar.muli arg18 c16_i32_72
  let c1_i32_73 : BitVec 32 := 1#32
  let v216 : BitVec 32 := Scalar.addi v215 c1_i32_73
  let v217 : Index := Scalar.indexCast v216
  let c80_74 : Index := 80#32
  ![v217.toNat, 80]
def k1_off27 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_76 : BitVec 32 := 16#32
  let v227 : BitVec 32 := Scalar.muli arg18 c16_i32_76
  let c1_i32_77 : BitVec 32 := 1#32
  let v228 : BitVec 32 := Scalar.addi v227 c1_i32_77
  let v229 : Index := Scalar.indexCast v228
  let c96_78 : Index := 96#32
  ![v229.toNat, 96]
def k1_off28 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_80 : BitVec 32 := 16#32
  let v239 : BitVec 32 := Scalar.muli arg18 c16_i32_80
  let c1_i32_81 : BitVec 32 := 1#32
  let v240 : BitVec 32 := Scalar.addi v239 c1_i32_81
  let v241 : Index := Scalar.indexCast v240
  let c112_82 : Index := 112#32
  ![v241.toNat, 112]
def k1_off29 (v251 : BitVec 32) (c0_i32_84 : BitVec 32) : Fin 1 → Nat :=
  let c128_i32_83 : BitVec 32 := 128#32
  let v252 : BitVec 32 := Scalar.muli v251 c128_i32_83
  let v253 : BitVec 32 := Scalar.addi v252 c0_i32_84
  let v254 : Index := Scalar.indexCast v253
  ![v254.toNat]

def k1_chk21 (v251 : BitVec 32) : Prop :=
  (∀ (r : Fin 8), ∀ a, (k1_off29 v251 (BitVec.ofNat 32 (16 * r.val))) a + S16.size a ≤ S2048.size a)
theorem k1_off29_inb : ∀ (v251 : BitVec 32) (k1_hw21 : k1_chk21 v251), ∀ (r : Fin 8), ∀ a, (k1_off29 v251 (BitVec.ofNat 32 (16 * r.val))) a + S16.size a ≤ S2048.size a := fun v251 k1_hw21 r => k1_hw21 r

def k1_off30 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_85 : BitVec 32 := 16#32
  let v256 : BitVec 32 := Scalar.muli arg18 c16_i32_85
  let c2_i32_86 : BitVec 32 := 2#32
  let v257 : BitVec 32 := Scalar.addi v256 c2_i32_86
  let v258 : Index := Scalar.indexCast v257
  let c0_87 : Index := 0#32
  ![v258.toNat, 0]
def k1_off31 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_89 : BitVec 32 := 16#32
  let v268 : BitVec 32 := Scalar.muli arg18 c16_i32_89
  let c2_i32_90 : BitVec 32 := 2#32
  let v269 : BitVec 32 := Scalar.addi v268 c2_i32_90
  let v270 : Index := Scalar.indexCast v269
  let c16_91 : Index := 16#32
  ![v270.toNat, 16]
def k1_off32 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_93 : BitVec 32 := 16#32
  let v280 : BitVec 32 := Scalar.muli arg18 c16_i32_93
  let c2_i32_94 : BitVec 32 := 2#32
  let v281 : BitVec 32 := Scalar.addi v280 c2_i32_94
  let v282 : Index := Scalar.indexCast v281
  let c32_95 : Index := 32#32
  ![v282.toNat, 32]
def k1_off33 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_97 : BitVec 32 := 16#32
  let v292 : BitVec 32 := Scalar.muli arg18 c16_i32_97
  let c2_i32_98 : BitVec 32 := 2#32
  let v293 : BitVec 32 := Scalar.addi v292 c2_i32_98
  let v294 : Index := Scalar.indexCast v293
  let c48_99 : Index := 48#32
  ![v294.toNat, 48]
def k1_off34 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_101 : BitVec 32 := 16#32
  let v304 : BitVec 32 := Scalar.muli arg18 c16_i32_101
  let c2_i32_102 : BitVec 32 := 2#32
  let v305 : BitVec 32 := Scalar.addi v304 c2_i32_102
  let v306 : Index := Scalar.indexCast v305
  let c64_103 : Index := 64#32
  ![v306.toNat, 64]
def k1_off35 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_105 : BitVec 32 := 16#32
  let v316 : BitVec 32 := Scalar.muli arg18 c16_i32_105
  let c2_i32_106 : BitVec 32 := 2#32
  let v317 : BitVec 32 := Scalar.addi v316 c2_i32_106
  let v318 : Index := Scalar.indexCast v317
  let c80_107 : Index := 80#32
  ![v318.toNat, 80]
def k1_off36 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_109 : BitVec 32 := 16#32
  let v328 : BitVec 32 := Scalar.muli arg18 c16_i32_109
  let c2_i32_110 : BitVec 32 := 2#32
  let v329 : BitVec 32 := Scalar.addi v328 c2_i32_110
  let v330 : Index := Scalar.indexCast v329
  let c96_111 : Index := 96#32
  ![v330.toNat, 96]
def k1_off37 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_113 : BitVec 32 := 16#32
  let v340 : BitVec 32 := Scalar.muli arg18 c16_i32_113
  let c2_i32_114 : BitVec 32 := 2#32
  let v341 : BitVec 32 := Scalar.addi v340 c2_i32_114
  let v342 : Index := Scalar.indexCast v341
  let c112_115 : Index := 112#32
  ![v342.toNat, 112]
def k1_off38 (v352 : BitVec 32) (c0_i32_117 : BitVec 32) : Fin 1 → Nat :=
  let c128_i32_116 : BitVec 32 := 128#32
  let v353 : BitVec 32 := Scalar.muli v352 c128_i32_116
  let v354 : BitVec 32 := Scalar.addi v353 c0_i32_117
  let v355 : Index := Scalar.indexCast v354
  ![v355.toNat]

def k1_chk22 (v352 : BitVec 32) : Prop :=
  (∀ (r : Fin 8), ∀ a, (k1_off38 v352 (BitVec.ofNat 32 (16 * r.val))) a + S16.size a ≤ S2048.size a)
theorem k1_off38_inb : ∀ (v352 : BitVec 32) (k1_hw22 : k1_chk22 v352), ∀ (r : Fin 8), ∀ a, (k1_off38 v352 (BitVec.ofNat 32 (16 * r.val))) a + S16.size a ≤ S2048.size a := fun v352 k1_hw22 r => k1_hw22 r

def k1_off39 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_118 : BitVec 32 := 16#32
  let v357 : BitVec 32 := Scalar.muli arg18 c16_i32_118
  let c3_i32 : BitVec 32 := 3#32
  let v358 : BitVec 32 := Scalar.addi v357 c3_i32
  let v359 : Index := Scalar.indexCast v358
  let c0_119 : Index := 0#32
  ![v359.toNat, 0]
def k1_off40 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_121 : BitVec 32 := 16#32
  let v369 : BitVec 32 := Scalar.muli arg18 c16_i32_121
  let c3_i32_122 : BitVec 32 := 3#32
  let v370 : BitVec 32 := Scalar.addi v369 c3_i32_122
  let v371 : Index := Scalar.indexCast v370
  let c16_123 : Index := 16#32
  ![v371.toNat, 16]
def k1_off41 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_125 : BitVec 32 := 16#32
  let v381 : BitVec 32 := Scalar.muli arg18 c16_i32_125
  let c3_i32_126 : BitVec 32 := 3#32
  let v382 : BitVec 32 := Scalar.addi v381 c3_i32_126
  let v383 : Index := Scalar.indexCast v382
  let c32_127 : Index := 32#32
  ![v383.toNat, 32]
def k1_off42 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_129 : BitVec 32 := 16#32
  let v393 : BitVec 32 := Scalar.muli arg18 c16_i32_129
  let c3_i32_130 : BitVec 32 := 3#32
  let v394 : BitVec 32 := Scalar.addi v393 c3_i32_130
  let v395 : Index := Scalar.indexCast v394
  let c48_131 : Index := 48#32
  ![v395.toNat, 48]
def k1_off43 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_133 : BitVec 32 := 16#32
  let v405 : BitVec 32 := Scalar.muli arg18 c16_i32_133
  let c3_i32_134 : BitVec 32 := 3#32
  let v406 : BitVec 32 := Scalar.addi v405 c3_i32_134
  let v407 : Index := Scalar.indexCast v406
  let c64_135 : Index := 64#32
  ![v407.toNat, 64]
def k1_off44 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_137 : BitVec 32 := 16#32
  let v417 : BitVec 32 := Scalar.muli arg18 c16_i32_137
  let c3_i32_138 : BitVec 32 := 3#32
  let v418 : BitVec 32 := Scalar.addi v417 c3_i32_138
  let v419 : Index := Scalar.indexCast v418
  let c80_139 : Index := 80#32
  ![v419.toNat, 80]
def k1_off45 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_141 : BitVec 32 := 16#32
  let v429 : BitVec 32 := Scalar.muli arg18 c16_i32_141
  let c3_i32_142 : BitVec 32 := 3#32
  let v430 : BitVec 32 := Scalar.addi v429 c3_i32_142
  let v431 : Index := Scalar.indexCast v430
  let c96_143 : Index := 96#32
  ![v431.toNat, 96]
def k1_off46 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_145 : BitVec 32 := 16#32
  let v441 : BitVec 32 := Scalar.muli arg18 c16_i32_145
  let c3_i32_146 : BitVec 32 := 3#32
  let v442 : BitVec 32 := Scalar.addi v441 c3_i32_146
  let v443 : Index := Scalar.indexCast v442
  let c112_147 : Index := 112#32
  ![v443.toNat, 112]
def k1_off47 (v453 : BitVec 32) (c0_i32_149 : BitVec 32) : Fin 1 → Nat :=
  let c128_i32_148 : BitVec 32 := 128#32
  let v454 : BitVec 32 := Scalar.muli v453 c128_i32_148
  let v455 : BitVec 32 := Scalar.addi v454 c0_i32_149
  let v456 : Index := Scalar.indexCast v455
  ![v456.toNat]

def k1_chk23 (v453 : BitVec 32) : Prop :=
  (∀ (r : Fin 8), ∀ a, (k1_off47 v453 (BitVec.ofNat 32 (16 * r.val))) a + S16.size a ≤ S2048.size a)
theorem k1_off47_inb : ∀ (v453 : BitVec 32) (k1_hw23 : k1_chk23 v453), ∀ (r : Fin 8), ∀ a, (k1_off47 v453 (BitVec.ofNat 32 (16 * r.val))) a + S16.size a ≤ S2048.size a := fun v453 k1_hw23 r => k1_hw23 r

def k1_off48 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_150 : BitVec 32 := 16#32
  let v458 : BitVec 32 := Scalar.muli arg18 c16_i32_150
  let c4_i32_151 : BitVec 32 := 4#32
  let v459 : BitVec 32 := Scalar.addi v458 c4_i32_151
  let v460 : Index := Scalar.indexCast v459
  let c0_152 : Index := 0#32
  ![v460.toNat, 0]
def k1_off49 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_154 : BitVec 32 := 16#32
  let v470 : BitVec 32 := Scalar.muli arg18 c16_i32_154
  let c4_i32_155 : BitVec 32 := 4#32
  let v471 : BitVec 32 := Scalar.addi v470 c4_i32_155
  let v472 : Index := Scalar.indexCast v471
  let c16_156 : Index := 16#32
  ![v472.toNat, 16]
def k1_off50 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_158 : BitVec 32 := 16#32
  let v482 : BitVec 32 := Scalar.muli arg18 c16_i32_158
  let c4_i32_159 : BitVec 32 := 4#32
  let v483 : BitVec 32 := Scalar.addi v482 c4_i32_159
  let v484 : Index := Scalar.indexCast v483
  let c32_160 : Index := 32#32
  ![v484.toNat, 32]
def k1_off51 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_162 : BitVec 32 := 16#32
  let v494 : BitVec 32 := Scalar.muli arg18 c16_i32_162
  let c4_i32_163 : BitVec 32 := 4#32
  let v495 : BitVec 32 := Scalar.addi v494 c4_i32_163
  let v496 : Index := Scalar.indexCast v495
  let c48_164 : Index := 48#32
  ![v496.toNat, 48]
def k1_off52 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_166 : BitVec 32 := 16#32
  let v506 : BitVec 32 := Scalar.muli arg18 c16_i32_166
  let c4_i32_167 : BitVec 32 := 4#32
  let v507 : BitVec 32 := Scalar.addi v506 c4_i32_167
  let v508 : Index := Scalar.indexCast v507
  let c64_168 : Index := 64#32
  ![v508.toNat, 64]
def k1_off53 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_170 : BitVec 32 := 16#32
  let v518 : BitVec 32 := Scalar.muli arg18 c16_i32_170
  let c4_i32_171 : BitVec 32 := 4#32
  let v519 : BitVec 32 := Scalar.addi v518 c4_i32_171
  let v520 : Index := Scalar.indexCast v519
  let c80_172 : Index := 80#32
  ![v520.toNat, 80]
def k1_off54 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_174 : BitVec 32 := 16#32
  let v530 : BitVec 32 := Scalar.muli arg18 c16_i32_174
  let c4_i32_175 : BitVec 32 := 4#32
  let v531 : BitVec 32 := Scalar.addi v530 c4_i32_175
  let v532 : Index := Scalar.indexCast v531
  let c96_176 : Index := 96#32
  ![v532.toNat, 96]
def k1_off55 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_178 : BitVec 32 := 16#32
  let v542 : BitVec 32 := Scalar.muli arg18 c16_i32_178
  let c4_i32_179 : BitVec 32 := 4#32
  let v543 : BitVec 32 := Scalar.addi v542 c4_i32_179
  let v544 : Index := Scalar.indexCast v543
  let c112_180 : Index := 112#32
  ![v544.toNat, 112]
def k1_off56 (v554 : BitVec 32) (c0_i32_182 : BitVec 32) : Fin 1 → Nat :=
  let c128_i32_181 : BitVec 32 := 128#32
  let v555 : BitVec 32 := Scalar.muli v554 c128_i32_181
  let v556 : BitVec 32 := Scalar.addi v555 c0_i32_182
  let v557 : Index := Scalar.indexCast v556
  ![v557.toNat]

def k1_chk24 (v554 : BitVec 32) : Prop :=
  (∀ (r : Fin 8), ∀ a, (k1_off56 v554 (BitVec.ofNat 32 (16 * r.val))) a + S16.size a ≤ S2048.size a)
theorem k1_off56_inb : ∀ (v554 : BitVec 32) (k1_hw24 : k1_chk24 v554), ∀ (r : Fin 8), ∀ a, (k1_off56 v554 (BitVec.ofNat 32 (16 * r.val))) a + S16.size a ≤ S2048.size a := fun v554 k1_hw24 r => k1_hw24 r

def k1_off57 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_183 : BitVec 32 := 16#32
  let v559 : BitVec 32 := Scalar.muli arg18 c16_i32_183
  let c5_i32 : BitVec 32 := 5#32
  let v560 : BitVec 32 := Scalar.addi v559 c5_i32
  let v561 : Index := Scalar.indexCast v560
  let c0_184 : Index := 0#32
  ![v561.toNat, 0]
def k1_off58 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_186 : BitVec 32 := 16#32
  let v571 : BitVec 32 := Scalar.muli arg18 c16_i32_186
  let c5_i32_187 : BitVec 32 := 5#32
  let v572 : BitVec 32 := Scalar.addi v571 c5_i32_187
  let v573 : Index := Scalar.indexCast v572
  let c16_188 : Index := 16#32
  ![v573.toNat, 16]
def k1_off59 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_190 : BitVec 32 := 16#32
  let v583 : BitVec 32 := Scalar.muli arg18 c16_i32_190
  let c5_i32_191 : BitVec 32 := 5#32
  let v584 : BitVec 32 := Scalar.addi v583 c5_i32_191
  let v585 : Index := Scalar.indexCast v584
  let c32_192 : Index := 32#32
  ![v585.toNat, 32]
def k1_off60 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_194 : BitVec 32 := 16#32
  let v595 : BitVec 32 := Scalar.muli arg18 c16_i32_194
  let c5_i32_195 : BitVec 32 := 5#32
  let v596 : BitVec 32 := Scalar.addi v595 c5_i32_195
  let v597 : Index := Scalar.indexCast v596
  let c48_196 : Index := 48#32
  ![v597.toNat, 48]
def k1_off61 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_198 : BitVec 32 := 16#32
  let v607 : BitVec 32 := Scalar.muli arg18 c16_i32_198
  let c5_i32_199 : BitVec 32 := 5#32
  let v608 : BitVec 32 := Scalar.addi v607 c5_i32_199
  let v609 : Index := Scalar.indexCast v608
  let c64_200 : Index := 64#32
  ![v609.toNat, 64]
def k1_off62 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_202 : BitVec 32 := 16#32
  let v619 : BitVec 32 := Scalar.muli arg18 c16_i32_202
  let c5_i32_203 : BitVec 32 := 5#32
  let v620 : BitVec 32 := Scalar.addi v619 c5_i32_203
  let v621 : Index := Scalar.indexCast v620
  let c80_204 : Index := 80#32
  ![v621.toNat, 80]
def k1_off63 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_206 : BitVec 32 := 16#32
  let v631 : BitVec 32 := Scalar.muli arg18 c16_i32_206
  let c5_i32_207 : BitVec 32 := 5#32
  let v632 : BitVec 32 := Scalar.addi v631 c5_i32_207
  let v633 : Index := Scalar.indexCast v632
  let c96_208 : Index := 96#32
  ![v633.toNat, 96]
def k1_off64 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_210 : BitVec 32 := 16#32
  let v643 : BitVec 32 := Scalar.muli arg18 c16_i32_210
  let c5_i32_211 : BitVec 32 := 5#32
  let v644 : BitVec 32 := Scalar.addi v643 c5_i32_211
  let v645 : Index := Scalar.indexCast v644
  let c112_212 : Index := 112#32
  ![v645.toNat, 112]
def k1_off65 (v655 : BitVec 32) (c0_i32_214 : BitVec 32) : Fin 1 → Nat :=
  let c128_i32_213 : BitVec 32 := 128#32
  let v656 : BitVec 32 := Scalar.muli v655 c128_i32_213
  let v657 : BitVec 32 := Scalar.addi v656 c0_i32_214
  let v658 : Index := Scalar.indexCast v657
  ![v658.toNat]

def k1_chk25 (v655 : BitVec 32) : Prop :=
  (∀ (r : Fin 8), ∀ a, (k1_off65 v655 (BitVec.ofNat 32 (16 * r.val))) a + S16.size a ≤ S2048.size a)
theorem k1_off65_inb : ∀ (v655 : BitVec 32) (k1_hw25 : k1_chk25 v655), ∀ (r : Fin 8), ∀ a, (k1_off65 v655 (BitVec.ofNat 32 (16 * r.val))) a + S16.size a ≤ S2048.size a := fun v655 k1_hw25 r => k1_hw25 r

def k1_off66 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_215 : BitVec 32 := 16#32
  let v660 : BitVec 32 := Scalar.muli arg18 c16_i32_215
  let c6_i32 : BitVec 32 := 6#32
  let v661 : BitVec 32 := Scalar.addi v660 c6_i32
  let v662 : Index := Scalar.indexCast v661
  let c0_216 : Index := 0#32
  ![v662.toNat, 0]
def k1_off67 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_218 : BitVec 32 := 16#32
  let v672 : BitVec 32 := Scalar.muli arg18 c16_i32_218
  let c6_i32_219 : BitVec 32 := 6#32
  let v673 : BitVec 32 := Scalar.addi v672 c6_i32_219
  let v674 : Index := Scalar.indexCast v673
  let c16_220 : Index := 16#32
  ![v674.toNat, 16]
def k1_off68 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_222 : BitVec 32 := 16#32
  let v684 : BitVec 32 := Scalar.muli arg18 c16_i32_222
  let c6_i32_223 : BitVec 32 := 6#32
  let v685 : BitVec 32 := Scalar.addi v684 c6_i32_223
  let v686 : Index := Scalar.indexCast v685
  let c32_224 : Index := 32#32
  ![v686.toNat, 32]
def k1_off69 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_226 : BitVec 32 := 16#32
  let v696 : BitVec 32 := Scalar.muli arg18 c16_i32_226
  let c6_i32_227 : BitVec 32 := 6#32
  let v697 : BitVec 32 := Scalar.addi v696 c6_i32_227
  let v698 : Index := Scalar.indexCast v697
  let c48_228 : Index := 48#32
  ![v698.toNat, 48]
def k1_off70 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_230 : BitVec 32 := 16#32
  let v708 : BitVec 32 := Scalar.muli arg18 c16_i32_230
  let c6_i32_231 : BitVec 32 := 6#32
  let v709 : BitVec 32 := Scalar.addi v708 c6_i32_231
  let v710 : Index := Scalar.indexCast v709
  let c64_232 : Index := 64#32
  ![v710.toNat, 64]
def k1_off71 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_234 : BitVec 32 := 16#32
  let v720 : BitVec 32 := Scalar.muli arg18 c16_i32_234
  let c6_i32_235 : BitVec 32 := 6#32
  let v721 : BitVec 32 := Scalar.addi v720 c6_i32_235
  let v722 : Index := Scalar.indexCast v721
  let c80_236 : Index := 80#32
  ![v722.toNat, 80]
def k1_off72 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_238 : BitVec 32 := 16#32
  let v732 : BitVec 32 := Scalar.muli arg18 c16_i32_238
  let c6_i32_239 : BitVec 32 := 6#32
  let v733 : BitVec 32 := Scalar.addi v732 c6_i32_239
  let v734 : Index := Scalar.indexCast v733
  let c96_240 : Index := 96#32
  ![v734.toNat, 96]
def k1_off73 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_242 : BitVec 32 := 16#32
  let v744 : BitVec 32 := Scalar.muli arg18 c16_i32_242
  let c6_i32_243 : BitVec 32 := 6#32
  let v745 : BitVec 32 := Scalar.addi v744 c6_i32_243
  let v746 : Index := Scalar.indexCast v745
  let c112_244 : Index := 112#32
  ![v746.toNat, 112]
def k1_off74 (v756 : BitVec 32) (c0_i32_246 : BitVec 32) : Fin 1 → Nat :=
  let c128_i32_245 : BitVec 32 := 128#32
  let v757 : BitVec 32 := Scalar.muli v756 c128_i32_245
  let v758 : BitVec 32 := Scalar.addi v757 c0_i32_246
  let v759 : Index := Scalar.indexCast v758
  ![v759.toNat]

def k1_chk26 (v756 : BitVec 32) : Prop :=
  (∀ (r : Fin 8), ∀ a, (k1_off74 v756 (BitVec.ofNat 32 (16 * r.val))) a + S16.size a ≤ S2048.size a)
theorem k1_off74_inb : ∀ (v756 : BitVec 32) (k1_hw26 : k1_chk26 v756), ∀ (r : Fin 8), ∀ a, (k1_off74 v756 (BitVec.ofNat 32 (16 * r.val))) a + S16.size a ≤ S2048.size a := fun v756 k1_hw26 r => k1_hw26 r

def k1_off75 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_247 : BitVec 32 := 16#32
  let v761 : BitVec 32 := Scalar.muli arg18 c16_i32_247
  let c7_i32 : BitVec 32 := 7#32
  let v762 : BitVec 32 := Scalar.addi v761 c7_i32
  let v763 : Index := Scalar.indexCast v762
  let c0_248 : Index := 0#32
  ![v763.toNat, 0]
def k1_off76 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_250 : BitVec 32 := 16#32
  let v773 : BitVec 32 := Scalar.muli arg18 c16_i32_250
  let c7_i32_251 : BitVec 32 := 7#32
  let v774 : BitVec 32 := Scalar.addi v773 c7_i32_251
  let v775 : Index := Scalar.indexCast v774
  let c16_252 : Index := 16#32
  ![v775.toNat, 16]
def k1_off77 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_254 : BitVec 32 := 16#32
  let v785 : BitVec 32 := Scalar.muli arg18 c16_i32_254
  let c7_i32_255 : BitVec 32 := 7#32
  let v786 : BitVec 32 := Scalar.addi v785 c7_i32_255
  let v787 : Index := Scalar.indexCast v786
  let c32_256 : Index := 32#32
  ![v787.toNat, 32]
def k1_off78 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_258 : BitVec 32 := 16#32
  let v797 : BitVec 32 := Scalar.muli arg18 c16_i32_258
  let c7_i32_259 : BitVec 32 := 7#32
  let v798 : BitVec 32 := Scalar.addi v797 c7_i32_259
  let v799 : Index := Scalar.indexCast v798
  let c48_260 : Index := 48#32
  ![v799.toNat, 48]
def k1_off79 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_262 : BitVec 32 := 16#32
  let v809 : BitVec 32 := Scalar.muli arg18 c16_i32_262
  let c7_i32_263 : BitVec 32 := 7#32
  let v810 : BitVec 32 := Scalar.addi v809 c7_i32_263
  let v811 : Index := Scalar.indexCast v810
  let c64_264 : Index := 64#32
  ![v811.toNat, 64]
def k1_off80 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_266 : BitVec 32 := 16#32
  let v821 : BitVec 32 := Scalar.muli arg18 c16_i32_266
  let c7_i32_267 : BitVec 32 := 7#32
  let v822 : BitVec 32 := Scalar.addi v821 c7_i32_267
  let v823 : Index := Scalar.indexCast v822
  let c80_268 : Index := 80#32
  ![v823.toNat, 80]
def k1_off81 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_270 : BitVec 32 := 16#32
  let v833 : BitVec 32 := Scalar.muli arg18 c16_i32_270
  let c7_i32_271 : BitVec 32 := 7#32
  let v834 : BitVec 32 := Scalar.addi v833 c7_i32_271
  let v835 : Index := Scalar.indexCast v834
  let c96_272 : Index := 96#32
  ![v835.toNat, 96]
def k1_off82 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_274 : BitVec 32 := 16#32
  let v845 : BitVec 32 := Scalar.muli arg18 c16_i32_274
  let c7_i32_275 : BitVec 32 := 7#32
  let v846 : BitVec 32 := Scalar.addi v845 c7_i32_275
  let v847 : Index := Scalar.indexCast v846
  let c112_276 : Index := 112#32
  ![v847.toNat, 112]
def k1_off83 (v857 : BitVec 32) (c0_i32_278 : BitVec 32) : Fin 1 → Nat :=
  let c128_i32_277 : BitVec 32 := 128#32
  let v858 : BitVec 32 := Scalar.muli v857 c128_i32_277
  let v859 : BitVec 32 := Scalar.addi v858 c0_i32_278
  let v860 : Index := Scalar.indexCast v859
  ![v860.toNat]

def k1_chk27 (v857 : BitVec 32) : Prop :=
  (∀ (r : Fin 8), ∀ a, (k1_off83 v857 (BitVec.ofNat 32 (16 * r.val))) a + S16.size a ≤ S2048.size a)
theorem k1_off83_inb : ∀ (v857 : BitVec 32) (k1_hw27 : k1_chk27 v857), ∀ (r : Fin 8), ∀ a, (k1_off83 v857 (BitVec.ofNat 32 (16 * r.val))) a + S16.size a ≤ S2048.size a := fun v857 k1_hw27 r => k1_hw27 r

def k1_off84 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_279 : BitVec 32 := 16#32
  let v862 : BitVec 32 := Scalar.muli arg18 c16_i32_279
  let c8_i32 : BitVec 32 := 8#32
  let v863 : BitVec 32 := Scalar.addi v862 c8_i32
  let v864 : Index := Scalar.indexCast v863
  let c0_280 : Index := 0#32
  ![v864.toNat, 0]
def k1_off85 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_282 : BitVec 32 := 16#32
  let v874 : BitVec 32 := Scalar.muli arg18 c16_i32_282
  let c8_i32_283 : BitVec 32 := 8#32
  let v875 : BitVec 32 := Scalar.addi v874 c8_i32_283
  let v876 : Index := Scalar.indexCast v875
  let c16_284 : Index := 16#32
  ![v876.toNat, 16]
def k1_off86 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_286 : BitVec 32 := 16#32
  let v886 : BitVec 32 := Scalar.muli arg18 c16_i32_286
  let c8_i32_287 : BitVec 32 := 8#32
  let v887 : BitVec 32 := Scalar.addi v886 c8_i32_287
  let v888 : Index := Scalar.indexCast v887
  let c32_288 : Index := 32#32
  ![v888.toNat, 32]
def k1_off87 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_290 : BitVec 32 := 16#32
  let v898 : BitVec 32 := Scalar.muli arg18 c16_i32_290
  let c8_i32_291 : BitVec 32 := 8#32
  let v899 : BitVec 32 := Scalar.addi v898 c8_i32_291
  let v900 : Index := Scalar.indexCast v899
  let c48_292 : Index := 48#32
  ![v900.toNat, 48]
def k1_off88 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_294 : BitVec 32 := 16#32
  let v910 : BitVec 32 := Scalar.muli arg18 c16_i32_294
  let c8_i32_295 : BitVec 32 := 8#32
  let v911 : BitVec 32 := Scalar.addi v910 c8_i32_295
  let v912 : Index := Scalar.indexCast v911
  let c64_296 : Index := 64#32
  ![v912.toNat, 64]
def k1_off89 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_298 : BitVec 32 := 16#32
  let v922 : BitVec 32 := Scalar.muli arg18 c16_i32_298
  let c8_i32_299 : BitVec 32 := 8#32
  let v923 : BitVec 32 := Scalar.addi v922 c8_i32_299
  let v924 : Index := Scalar.indexCast v923
  let c80_300 : Index := 80#32
  ![v924.toNat, 80]
def k1_off90 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_302 : BitVec 32 := 16#32
  let v934 : BitVec 32 := Scalar.muli arg18 c16_i32_302
  let c8_i32_303 : BitVec 32 := 8#32
  let v935 : BitVec 32 := Scalar.addi v934 c8_i32_303
  let v936 : Index := Scalar.indexCast v935
  let c96_304 : Index := 96#32
  ![v936.toNat, 96]
def k1_off91 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_306 : BitVec 32 := 16#32
  let v946 : BitVec 32 := Scalar.muli arg18 c16_i32_306
  let c8_i32_307 : BitVec 32 := 8#32
  let v947 : BitVec 32 := Scalar.addi v946 c8_i32_307
  let v948 : Index := Scalar.indexCast v947
  let c112_308 : Index := 112#32
  ![v948.toNat, 112]
def k1_off92 (v958 : BitVec 32) (c0_i32_310 : BitVec 32) : Fin 1 → Nat :=
  let c128_i32_309 : BitVec 32 := 128#32
  let v959 : BitVec 32 := Scalar.muli v958 c128_i32_309
  let v960 : BitVec 32 := Scalar.addi v959 c0_i32_310
  let v961 : Index := Scalar.indexCast v960
  ![v961.toNat]

def k1_chk28 (v958 : BitVec 32) : Prop :=
  (∀ (r : Fin 8), ∀ a, (k1_off92 v958 (BitVec.ofNat 32 (16 * r.val))) a + S16.size a ≤ S2048.size a)
theorem k1_off92_inb : ∀ (v958 : BitVec 32) (k1_hw28 : k1_chk28 v958), ∀ (r : Fin 8), ∀ a, (k1_off92 v958 (BitVec.ofNat 32 (16 * r.val))) a + S16.size a ≤ S2048.size a := fun v958 k1_hw28 r => k1_hw28 r

def k1_off93 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_311 : BitVec 32 := 16#32
  let v963 : BitVec 32 := Scalar.muli arg18 c16_i32_311
  let c9_i32 : BitVec 32 := 9#32
  let v964 : BitVec 32 := Scalar.addi v963 c9_i32
  let v965 : Index := Scalar.indexCast v964
  let c0_312 : Index := 0#32
  ![v965.toNat, 0]
def k1_off94 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_314 : BitVec 32 := 16#32
  let v975 : BitVec 32 := Scalar.muli arg18 c16_i32_314
  let c9_i32_315 : BitVec 32 := 9#32
  let v976 : BitVec 32 := Scalar.addi v975 c9_i32_315
  let v977 : Index := Scalar.indexCast v976
  let c16_316 : Index := 16#32
  ![v977.toNat, 16]
def k1_off95 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_318 : BitVec 32 := 16#32
  let v987 : BitVec 32 := Scalar.muli arg18 c16_i32_318
  let c9_i32_319 : BitVec 32 := 9#32
  let v988 : BitVec 32 := Scalar.addi v987 c9_i32_319
  let v989 : Index := Scalar.indexCast v988
  let c32_320 : Index := 32#32
  ![v989.toNat, 32]
def k1_off96 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_322 : BitVec 32 := 16#32
  let v999 : BitVec 32 := Scalar.muli arg18 c16_i32_322
  let c9_i32_323 : BitVec 32 := 9#32
  let v1000 : BitVec 32 := Scalar.addi v999 c9_i32_323
  let v1001 : Index := Scalar.indexCast v1000
  let c48_324 : Index := 48#32
  ![v1001.toNat, 48]
def k1_off97 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_326 : BitVec 32 := 16#32
  let v1011 : BitVec 32 := Scalar.muli arg18 c16_i32_326
  let c9_i32_327 : BitVec 32 := 9#32
  let v1012 : BitVec 32 := Scalar.addi v1011 c9_i32_327
  let v1013 : Index := Scalar.indexCast v1012
  let c64_328 : Index := 64#32
  ![v1013.toNat, 64]
def k1_off98 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_330 : BitVec 32 := 16#32
  let v1023 : BitVec 32 := Scalar.muli arg18 c16_i32_330
  let c9_i32_331 : BitVec 32 := 9#32
  let v1024 : BitVec 32 := Scalar.addi v1023 c9_i32_331
  let v1025 : Index := Scalar.indexCast v1024
  let c80_332 : Index := 80#32
  ![v1025.toNat, 80]
def k1_off99 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_334 : BitVec 32 := 16#32
  let v1035 : BitVec 32 := Scalar.muli arg18 c16_i32_334
  let c9_i32_335 : BitVec 32 := 9#32
  let v1036 : BitVec 32 := Scalar.addi v1035 c9_i32_335
  let v1037 : Index := Scalar.indexCast v1036
  let c96_336 : Index := 96#32
  ![v1037.toNat, 96]
def k1_off100 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_338 : BitVec 32 := 16#32
  let v1047 : BitVec 32 := Scalar.muli arg18 c16_i32_338
  let c9_i32_339 : BitVec 32 := 9#32
  let v1048 : BitVec 32 := Scalar.addi v1047 c9_i32_339
  let v1049 : Index := Scalar.indexCast v1048
  let c112_340 : Index := 112#32
  ![v1049.toNat, 112]
def k1_off101 (v1059 : BitVec 32) (c0_i32_342 : BitVec 32) : Fin 1 → Nat :=
  let c128_i32_341 : BitVec 32 := 128#32
  let v1060 : BitVec 32 := Scalar.muli v1059 c128_i32_341
  let v1061 : BitVec 32 := Scalar.addi v1060 c0_i32_342
  let v1062 : Index := Scalar.indexCast v1061
  ![v1062.toNat]

def k1_chk29 (v1059 : BitVec 32) : Prop :=
  (∀ (r : Fin 8), ∀ a, (k1_off101 v1059 (BitVec.ofNat 32 (16 * r.val))) a + S16.size a ≤ S2048.size a)
theorem k1_off101_inb : ∀ (v1059 : BitVec 32) (k1_hw29 : k1_chk29 v1059), ∀ (r : Fin 8), ∀ a, (k1_off101 v1059 (BitVec.ofNat 32 (16 * r.val))) a + S16.size a ≤ S2048.size a := fun v1059 k1_hw29 r => k1_hw29 r

def k1_off102 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_343 : BitVec 32 := 16#32
  let v1064 : BitVec 32 := Scalar.muli arg18 c16_i32_343
  let c10_i32 : BitVec 32 := 10#32
  let v1065 : BitVec 32 := Scalar.addi v1064 c10_i32
  let v1066 : Index := Scalar.indexCast v1065
  let c0_344 : Index := 0#32
  ![v1066.toNat, 0]
def k1_off103 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_346 : BitVec 32 := 16#32
  let v1076 : BitVec 32 := Scalar.muli arg18 c16_i32_346
  let c10_i32_347 : BitVec 32 := 10#32
  let v1077 : BitVec 32 := Scalar.addi v1076 c10_i32_347
  let v1078 : Index := Scalar.indexCast v1077
  let c16_348 : Index := 16#32
  ![v1078.toNat, 16]
def k1_off104 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_350 : BitVec 32 := 16#32
  let v1088 : BitVec 32 := Scalar.muli arg18 c16_i32_350
  let c10_i32_351 : BitVec 32 := 10#32
  let v1089 : BitVec 32 := Scalar.addi v1088 c10_i32_351
  let v1090 : Index := Scalar.indexCast v1089
  let c32_352 : Index := 32#32
  ![v1090.toNat, 32]
def k1_off105 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_354 : BitVec 32 := 16#32
  let v1100 : BitVec 32 := Scalar.muli arg18 c16_i32_354
  let c10_i32_355 : BitVec 32 := 10#32
  let v1101 : BitVec 32 := Scalar.addi v1100 c10_i32_355
  let v1102 : Index := Scalar.indexCast v1101
  let c48_356 : Index := 48#32
  ![v1102.toNat, 48]
def k1_off106 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_358 : BitVec 32 := 16#32
  let v1112 : BitVec 32 := Scalar.muli arg18 c16_i32_358
  let c10_i32_359 : BitVec 32 := 10#32
  let v1113 : BitVec 32 := Scalar.addi v1112 c10_i32_359
  let v1114 : Index := Scalar.indexCast v1113
  let c64_360 : Index := 64#32
  ![v1114.toNat, 64]
def k1_off107 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_362 : BitVec 32 := 16#32
  let v1124 : BitVec 32 := Scalar.muli arg18 c16_i32_362
  let c10_i32_363 : BitVec 32 := 10#32
  let v1125 : BitVec 32 := Scalar.addi v1124 c10_i32_363
  let v1126 : Index := Scalar.indexCast v1125
  let c80_364 : Index := 80#32
  ![v1126.toNat, 80]
def k1_off108 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_366 : BitVec 32 := 16#32
  let v1136 : BitVec 32 := Scalar.muli arg18 c16_i32_366
  let c10_i32_367 : BitVec 32 := 10#32
  let v1137 : BitVec 32 := Scalar.addi v1136 c10_i32_367
  let v1138 : Index := Scalar.indexCast v1137
  let c96_368 : Index := 96#32
  ![v1138.toNat, 96]
def k1_off109 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_370 : BitVec 32 := 16#32
  let v1148 : BitVec 32 := Scalar.muli arg18 c16_i32_370
  let c10_i32_371 : BitVec 32 := 10#32
  let v1149 : BitVec 32 := Scalar.addi v1148 c10_i32_371
  let v1150 : Index := Scalar.indexCast v1149
  let c112_372 : Index := 112#32
  ![v1150.toNat, 112]
def k1_off110 (v1160 : BitVec 32) (c0_i32_374 : BitVec 32) : Fin 1 → Nat :=
  let c128_i32_373 : BitVec 32 := 128#32
  let v1161 : BitVec 32 := Scalar.muli v1160 c128_i32_373
  let v1162 : BitVec 32 := Scalar.addi v1161 c0_i32_374
  let v1163 : Index := Scalar.indexCast v1162
  ![v1163.toNat]

def k1_chk30 (v1160 : BitVec 32) : Prop :=
  (∀ (r : Fin 8), ∀ a, (k1_off110 v1160 (BitVec.ofNat 32 (16 * r.val))) a + S16.size a ≤ S2048.size a)
theorem k1_off110_inb : ∀ (v1160 : BitVec 32) (k1_hw30 : k1_chk30 v1160), ∀ (r : Fin 8), ∀ a, (k1_off110 v1160 (BitVec.ofNat 32 (16 * r.val))) a + S16.size a ≤ S2048.size a := fun v1160 k1_hw30 r => k1_hw30 r

def k1_off111 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_375 : BitVec 32 := 16#32
  let v1165 : BitVec 32 := Scalar.muli arg18 c16_i32_375
  let c11_i32 : BitVec 32 := 11#32
  let v1166 : BitVec 32 := Scalar.addi v1165 c11_i32
  let v1167 : Index := Scalar.indexCast v1166
  let c0_376 : Index := 0#32
  ![v1167.toNat, 0]
def k1_off112 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_378 : BitVec 32 := 16#32
  let v1177 : BitVec 32 := Scalar.muli arg18 c16_i32_378
  let c11_i32_379 : BitVec 32 := 11#32
  let v1178 : BitVec 32 := Scalar.addi v1177 c11_i32_379
  let v1179 : Index := Scalar.indexCast v1178
  let c16_380 : Index := 16#32
  ![v1179.toNat, 16]
def k1_off113 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_382 : BitVec 32 := 16#32
  let v1189 : BitVec 32 := Scalar.muli arg18 c16_i32_382
  let c11_i32_383 : BitVec 32 := 11#32
  let v1190 : BitVec 32 := Scalar.addi v1189 c11_i32_383
  let v1191 : Index := Scalar.indexCast v1190
  let c32_384 : Index := 32#32
  ![v1191.toNat, 32]
def k1_off114 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_386 : BitVec 32 := 16#32
  let v1201 : BitVec 32 := Scalar.muli arg18 c16_i32_386
  let c11_i32_387 : BitVec 32 := 11#32
  let v1202 : BitVec 32 := Scalar.addi v1201 c11_i32_387
  let v1203 : Index := Scalar.indexCast v1202
  let c48_388 : Index := 48#32
  ![v1203.toNat, 48]
def k1_off115 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_390 : BitVec 32 := 16#32
  let v1213 : BitVec 32 := Scalar.muli arg18 c16_i32_390
  let c11_i32_391 : BitVec 32 := 11#32
  let v1214 : BitVec 32 := Scalar.addi v1213 c11_i32_391
  let v1215 : Index := Scalar.indexCast v1214
  let c64_392 : Index := 64#32
  ![v1215.toNat, 64]
def k1_off116 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_394 : BitVec 32 := 16#32
  let v1225 : BitVec 32 := Scalar.muli arg18 c16_i32_394
  let c11_i32_395 : BitVec 32 := 11#32
  let v1226 : BitVec 32 := Scalar.addi v1225 c11_i32_395
  let v1227 : Index := Scalar.indexCast v1226
  let c80_396 : Index := 80#32
  ![v1227.toNat, 80]
def k1_off117 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_398 : BitVec 32 := 16#32
  let v1237 : BitVec 32 := Scalar.muli arg18 c16_i32_398
  let c11_i32_399 : BitVec 32 := 11#32
  let v1238 : BitVec 32 := Scalar.addi v1237 c11_i32_399
  let v1239 : Index := Scalar.indexCast v1238
  let c96_400 : Index := 96#32
  ![v1239.toNat, 96]
def k1_off118 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_402 : BitVec 32 := 16#32
  let v1249 : BitVec 32 := Scalar.muli arg18 c16_i32_402
  let c11_i32_403 : BitVec 32 := 11#32
  let v1250 : BitVec 32 := Scalar.addi v1249 c11_i32_403
  let v1251 : Index := Scalar.indexCast v1250
  let c112_404 : Index := 112#32
  ![v1251.toNat, 112]
def k1_off119 (v1261 : BitVec 32) (c0_i32_406 : BitVec 32) : Fin 1 → Nat :=
  let c128_i32_405 : BitVec 32 := 128#32
  let v1262 : BitVec 32 := Scalar.muli v1261 c128_i32_405
  let v1263 : BitVec 32 := Scalar.addi v1262 c0_i32_406
  let v1264 : Index := Scalar.indexCast v1263
  ![v1264.toNat]

def k1_chk31 (v1261 : BitVec 32) : Prop :=
  (∀ (r : Fin 8), ∀ a, (k1_off119 v1261 (BitVec.ofNat 32 (16 * r.val))) a + S16.size a ≤ S2048.size a)
theorem k1_off119_inb : ∀ (v1261 : BitVec 32) (k1_hw31 : k1_chk31 v1261), ∀ (r : Fin 8), ∀ a, (k1_off119 v1261 (BitVec.ofNat 32 (16 * r.val))) a + S16.size a ≤ S2048.size a := fun v1261 k1_hw31 r => k1_hw31 r

def k1_off120 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_407 : BitVec 32 := 16#32
  let v1266 : BitVec 32 := Scalar.muli arg18 c16_i32_407
  let c12_i32 : BitVec 32 := 12#32
  let v1267 : BitVec 32 := Scalar.addi v1266 c12_i32
  let v1268 : Index := Scalar.indexCast v1267
  let c0_408 : Index := 0#32
  ![v1268.toNat, 0]
def k1_off121 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_410 : BitVec 32 := 16#32
  let v1278 : BitVec 32 := Scalar.muli arg18 c16_i32_410
  let c12_i32_411 : BitVec 32 := 12#32
  let v1279 : BitVec 32 := Scalar.addi v1278 c12_i32_411
  let v1280 : Index := Scalar.indexCast v1279
  let c16_412 : Index := 16#32
  ![v1280.toNat, 16]
def k1_off122 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_414 : BitVec 32 := 16#32
  let v1290 : BitVec 32 := Scalar.muli arg18 c16_i32_414
  let c12_i32_415 : BitVec 32 := 12#32
  let v1291 : BitVec 32 := Scalar.addi v1290 c12_i32_415
  let v1292 : Index := Scalar.indexCast v1291
  let c32_416 : Index := 32#32
  ![v1292.toNat, 32]
def k1_off123 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_418 : BitVec 32 := 16#32
  let v1302 : BitVec 32 := Scalar.muli arg18 c16_i32_418
  let c12_i32_419 : BitVec 32 := 12#32
  let v1303 : BitVec 32 := Scalar.addi v1302 c12_i32_419
  let v1304 : Index := Scalar.indexCast v1303
  let c48_420 : Index := 48#32
  ![v1304.toNat, 48]
def k1_off124 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_422 : BitVec 32 := 16#32
  let v1314 : BitVec 32 := Scalar.muli arg18 c16_i32_422
  let c12_i32_423 : BitVec 32 := 12#32
  let v1315 : BitVec 32 := Scalar.addi v1314 c12_i32_423
  let v1316 : Index := Scalar.indexCast v1315
  let c64_424 : Index := 64#32
  ![v1316.toNat, 64]
def k1_off125 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_426 : BitVec 32 := 16#32
  let v1326 : BitVec 32 := Scalar.muli arg18 c16_i32_426
  let c12_i32_427 : BitVec 32 := 12#32
  let v1327 : BitVec 32 := Scalar.addi v1326 c12_i32_427
  let v1328 : Index := Scalar.indexCast v1327
  let c80_428 : Index := 80#32
  ![v1328.toNat, 80]
def k1_off126 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_430 : BitVec 32 := 16#32
  let v1338 : BitVec 32 := Scalar.muli arg18 c16_i32_430
  let c12_i32_431 : BitVec 32 := 12#32
  let v1339 : BitVec 32 := Scalar.addi v1338 c12_i32_431
  let v1340 : Index := Scalar.indexCast v1339
  let c96_432 : Index := 96#32
  ![v1340.toNat, 96]
def k1_off127 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_434 : BitVec 32 := 16#32
  let v1350 : BitVec 32 := Scalar.muli arg18 c16_i32_434
  let c12_i32_435 : BitVec 32 := 12#32
  let v1351 : BitVec 32 := Scalar.addi v1350 c12_i32_435
  let v1352 : Index := Scalar.indexCast v1351
  let c112_436 : Index := 112#32
  ![v1352.toNat, 112]
def k1_off128 (v1362 : BitVec 32) (c0_i32_438 : BitVec 32) : Fin 1 → Nat :=
  let c128_i32_437 : BitVec 32 := 128#32
  let v1363 : BitVec 32 := Scalar.muli v1362 c128_i32_437
  let v1364 : BitVec 32 := Scalar.addi v1363 c0_i32_438
  let v1365 : Index := Scalar.indexCast v1364
  ![v1365.toNat]

def k1_chk32 (v1362 : BitVec 32) : Prop :=
  (∀ (r : Fin 8), ∀ a, (k1_off128 v1362 (BitVec.ofNat 32 (16 * r.val))) a + S16.size a ≤ S2048.size a)
theorem k1_off128_inb : ∀ (v1362 : BitVec 32) (k1_hw32 : k1_chk32 v1362), ∀ (r : Fin 8), ∀ a, (k1_off128 v1362 (BitVec.ofNat 32 (16 * r.val))) a + S16.size a ≤ S2048.size a := fun v1362 k1_hw32 r => k1_hw32 r

def k1_off129 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_439 : BitVec 32 := 16#32
  let v1367 : BitVec 32 := Scalar.muli arg18 c16_i32_439
  let c13_i32 : BitVec 32 := 13#32
  let v1368 : BitVec 32 := Scalar.addi v1367 c13_i32
  let v1369 : Index := Scalar.indexCast v1368
  let c0_440 : Index := 0#32
  ![v1369.toNat, 0]
def k1_off130 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_442 : BitVec 32 := 16#32
  let v1379 : BitVec 32 := Scalar.muli arg18 c16_i32_442
  let c13_i32_443 : BitVec 32 := 13#32
  let v1380 : BitVec 32 := Scalar.addi v1379 c13_i32_443
  let v1381 : Index := Scalar.indexCast v1380
  let c16_444 : Index := 16#32
  ![v1381.toNat, 16]
def k1_off131 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_446 : BitVec 32 := 16#32
  let v1391 : BitVec 32 := Scalar.muli arg18 c16_i32_446
  let c13_i32_447 : BitVec 32 := 13#32
  let v1392 : BitVec 32 := Scalar.addi v1391 c13_i32_447
  let v1393 : Index := Scalar.indexCast v1392
  let c32_448 : Index := 32#32
  ![v1393.toNat, 32]
def k1_off132 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_450 : BitVec 32 := 16#32
  let v1403 : BitVec 32 := Scalar.muli arg18 c16_i32_450
  let c13_i32_451 : BitVec 32 := 13#32
  let v1404 : BitVec 32 := Scalar.addi v1403 c13_i32_451
  let v1405 : Index := Scalar.indexCast v1404
  let c48_452 : Index := 48#32
  ![v1405.toNat, 48]
def k1_off133 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_454 : BitVec 32 := 16#32
  let v1415 : BitVec 32 := Scalar.muli arg18 c16_i32_454
  let c13_i32_455 : BitVec 32 := 13#32
  let v1416 : BitVec 32 := Scalar.addi v1415 c13_i32_455
  let v1417 : Index := Scalar.indexCast v1416
  let c64_456 : Index := 64#32
  ![v1417.toNat, 64]
def k1_off134 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_458 : BitVec 32 := 16#32
  let v1427 : BitVec 32 := Scalar.muli arg18 c16_i32_458
  let c13_i32_459 : BitVec 32 := 13#32
  let v1428 : BitVec 32 := Scalar.addi v1427 c13_i32_459
  let v1429 : Index := Scalar.indexCast v1428
  let c80_460 : Index := 80#32
  ![v1429.toNat, 80]
def k1_off135 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_462 : BitVec 32 := 16#32
  let v1439 : BitVec 32 := Scalar.muli arg18 c16_i32_462
  let c13_i32_463 : BitVec 32 := 13#32
  let v1440 : BitVec 32 := Scalar.addi v1439 c13_i32_463
  let v1441 : Index := Scalar.indexCast v1440
  let c96_464 : Index := 96#32
  ![v1441.toNat, 96]
def k1_off136 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_466 : BitVec 32 := 16#32
  let v1451 : BitVec 32 := Scalar.muli arg18 c16_i32_466
  let c13_i32_467 : BitVec 32 := 13#32
  let v1452 : BitVec 32 := Scalar.addi v1451 c13_i32_467
  let v1453 : Index := Scalar.indexCast v1452
  let c112_468 : Index := 112#32
  ![v1453.toNat, 112]
def k1_off137 (v1463 : BitVec 32) (c0_i32_470 : BitVec 32) : Fin 1 → Nat :=
  let c128_i32_469 : BitVec 32 := 128#32
  let v1464 : BitVec 32 := Scalar.muli v1463 c128_i32_469
  let v1465 : BitVec 32 := Scalar.addi v1464 c0_i32_470
  let v1466 : Index := Scalar.indexCast v1465
  ![v1466.toNat]

def k1_chk33 (v1463 : BitVec 32) : Prop :=
  (∀ (r : Fin 8), ∀ a, (k1_off137 v1463 (BitVec.ofNat 32 (16 * r.val))) a + S16.size a ≤ S2048.size a)
theorem k1_off137_inb : ∀ (v1463 : BitVec 32) (k1_hw33 : k1_chk33 v1463), ∀ (r : Fin 8), ∀ a, (k1_off137 v1463 (BitVec.ofNat 32 (16 * r.val))) a + S16.size a ≤ S2048.size a := fun v1463 k1_hw33 r => k1_hw33 r

def k1_off138 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_471 : BitVec 32 := 16#32
  let v1468 : BitVec 32 := Scalar.muli arg18 c16_i32_471
  let c14_i32 : BitVec 32 := 14#32
  let v1469 : BitVec 32 := Scalar.addi v1468 c14_i32
  let v1470 : Index := Scalar.indexCast v1469
  let c0_472 : Index := 0#32
  ![v1470.toNat, 0]
def k1_off139 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_474 : BitVec 32 := 16#32
  let v1480 : BitVec 32 := Scalar.muli arg18 c16_i32_474
  let c14_i32_475 : BitVec 32 := 14#32
  let v1481 : BitVec 32 := Scalar.addi v1480 c14_i32_475
  let v1482 : Index := Scalar.indexCast v1481
  let c16_476 : Index := 16#32
  ![v1482.toNat, 16]
def k1_off140 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_478 : BitVec 32 := 16#32
  let v1492 : BitVec 32 := Scalar.muli arg18 c16_i32_478
  let c14_i32_479 : BitVec 32 := 14#32
  let v1493 : BitVec 32 := Scalar.addi v1492 c14_i32_479
  let v1494 : Index := Scalar.indexCast v1493
  let c32_480 : Index := 32#32
  ![v1494.toNat, 32]
def k1_off141 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_482 : BitVec 32 := 16#32
  let v1504 : BitVec 32 := Scalar.muli arg18 c16_i32_482
  let c14_i32_483 : BitVec 32 := 14#32
  let v1505 : BitVec 32 := Scalar.addi v1504 c14_i32_483
  let v1506 : Index := Scalar.indexCast v1505
  let c48_484 : Index := 48#32
  ![v1506.toNat, 48]
def k1_off142 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_486 : BitVec 32 := 16#32
  let v1516 : BitVec 32 := Scalar.muli arg18 c16_i32_486
  let c14_i32_487 : BitVec 32 := 14#32
  let v1517 : BitVec 32 := Scalar.addi v1516 c14_i32_487
  let v1518 : Index := Scalar.indexCast v1517
  let c64_488 : Index := 64#32
  ![v1518.toNat, 64]
def k1_off143 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_490 : BitVec 32 := 16#32
  let v1528 : BitVec 32 := Scalar.muli arg18 c16_i32_490
  let c14_i32_491 : BitVec 32 := 14#32
  let v1529 : BitVec 32 := Scalar.addi v1528 c14_i32_491
  let v1530 : Index := Scalar.indexCast v1529
  let c80_492 : Index := 80#32
  ![v1530.toNat, 80]
def k1_off144 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_494 : BitVec 32 := 16#32
  let v1540 : BitVec 32 := Scalar.muli arg18 c16_i32_494
  let c14_i32_495 : BitVec 32 := 14#32
  let v1541 : BitVec 32 := Scalar.addi v1540 c14_i32_495
  let v1542 : Index := Scalar.indexCast v1541
  let c96_496 : Index := 96#32
  ![v1542.toNat, 96]
def k1_off145 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_498 : BitVec 32 := 16#32
  let v1552 : BitVec 32 := Scalar.muli arg18 c16_i32_498
  let c14_i32_499 : BitVec 32 := 14#32
  let v1553 : BitVec 32 := Scalar.addi v1552 c14_i32_499
  let v1554 : Index := Scalar.indexCast v1553
  let c112_500 : Index := 112#32
  ![v1554.toNat, 112]
def k1_off146 (v1564 : BitVec 32) (c0_i32_502 : BitVec 32) : Fin 1 → Nat :=
  let c128_i32_501 : BitVec 32 := 128#32
  let v1565 : BitVec 32 := Scalar.muli v1564 c128_i32_501
  let v1566 : BitVec 32 := Scalar.addi v1565 c0_i32_502
  let v1567 : Index := Scalar.indexCast v1566
  ![v1567.toNat]

def k1_chk34 (v1564 : BitVec 32) : Prop :=
  (∀ (r : Fin 8), ∀ a, (k1_off146 v1564 (BitVec.ofNat 32 (16 * r.val))) a + S16.size a ≤ S2048.size a)
theorem k1_off146_inb : ∀ (v1564 : BitVec 32) (k1_hw34 : k1_chk34 v1564), ∀ (r : Fin 8), ∀ a, (k1_off146 v1564 (BitVec.ofNat 32 (16 * r.val))) a + S16.size a ≤ S2048.size a := fun v1564 k1_hw34 r => k1_hw34 r

def k1_off147 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_503 : BitVec 32 := 16#32
  let v1569 : BitVec 32 := Scalar.muli arg18 c16_i32_503
  let c15_i32 : BitVec 32 := 15#32
  let v1570 : BitVec 32 := Scalar.addi v1569 c15_i32
  let v1571 : Index := Scalar.indexCast v1570
  let c0_504 : Index := 0#32
  ![v1571.toNat, 0]
def k1_off148 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_506 : BitVec 32 := 16#32
  let v1581 : BitVec 32 := Scalar.muli arg18 c16_i32_506
  let c15_i32_507 : BitVec 32 := 15#32
  let v1582 : BitVec 32 := Scalar.addi v1581 c15_i32_507
  let v1583 : Index := Scalar.indexCast v1582
  let c16_508 : Index := 16#32
  ![v1583.toNat, 16]
def k1_off149 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_510 : BitVec 32 := 16#32
  let v1593 : BitVec 32 := Scalar.muli arg18 c16_i32_510
  let c15_i32_511 : BitVec 32 := 15#32
  let v1594 : BitVec 32 := Scalar.addi v1593 c15_i32_511
  let v1595 : Index := Scalar.indexCast v1594
  let c32_512 : Index := 32#32
  ![v1595.toNat, 32]
def k1_off150 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_514 : BitVec 32 := 16#32
  let v1605 : BitVec 32 := Scalar.muli arg18 c16_i32_514
  let c15_i32_515 : BitVec 32 := 15#32
  let v1606 : BitVec 32 := Scalar.addi v1605 c15_i32_515
  let v1607 : Index := Scalar.indexCast v1606
  let c48_516 : Index := 48#32
  ![v1607.toNat, 48]
def k1_off151 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_518 : BitVec 32 := 16#32
  let v1617 : BitVec 32 := Scalar.muli arg18 c16_i32_518
  let c15_i32_519 : BitVec 32 := 15#32
  let v1618 : BitVec 32 := Scalar.addi v1617 c15_i32_519
  let v1619 : Index := Scalar.indexCast v1618
  let c64_520 : Index := 64#32
  ![v1619.toNat, 64]
def k1_off152 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_522 : BitVec 32 := 16#32
  let v1629 : BitVec 32 := Scalar.muli arg18 c16_i32_522
  let c15_i32_523 : BitVec 32 := 15#32
  let v1630 : BitVec 32 := Scalar.addi v1629 c15_i32_523
  let v1631 : Index := Scalar.indexCast v1630
  let c80_524 : Index := 80#32
  ![v1631.toNat, 80]
def k1_off153 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_526 : BitVec 32 := 16#32
  let v1641 : BitVec 32 := Scalar.muli arg18 c16_i32_526
  let c15_i32_527 : BitVec 32 := 15#32
  let v1642 : BitVec 32 := Scalar.addi v1641 c15_i32_527
  let v1643 : Index := Scalar.indexCast v1642
  let c96_528 : Index := 96#32
  ![v1643.toNat, 96]
def k1_off154 (k1_t12 : Fin k1_t12_loop.trips) : Fin 2 → Nat :=
  let c0_i32_23 : BitVec 32 := 0#32
  let c1_i32_25 : BitVec 32 := 1#32
  let arg18 : BitVec 32 := Scf.iv c0_i32_23 c1_i32_25 k1_t12
  let c16_i32_530 : BitVec 32 := 16#32
  let v1653 : BitVec 32 := Scalar.muli arg18 c16_i32_530
  let c15_i32_531 : BitVec 32 := 15#32
  let v1654 : BitVec 32 := Scalar.addi v1653 c15_i32_531
  let v1655 : Index := Scalar.indexCast v1654
  let c112_532 : Index := 112#32
  ![v1655.toNat, 112]
def k1_off155 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg16 : BitVec 32 := Scf.iv c0_i32_0 c1_i32 k1_t1
  let v6 : BitVec 32 := Scalar.addi v5 arg16
  let c0_i32_28_r3 : BitVec 32 := 0#32
  ![v6.toNat, 0]
def k1_off156 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_2 : BitVec 32 := 4#32
  let v5 : BitVec 32 := Scalar.muli v1 c4_i32_2
  let c0_i32_0 : BitVec 32 := 0#32
  let c1_i32 : BitVec 32 := 1#32
  let arg16 : BitVec 32 := Scf.iv c0_i32_0 c1_i32 k1_t1
  let v6 : BitVec 32 := Scalar.addi v5 arg16
  let c0_i32_28_r5 : BitVec 32 := 0#32
  ![v6.toNat, 0]
abbrev grid2 : Pipeline.Grid := .none

abbrev stage2_0 : Fin 1 → Memref sig .tc .vmem S128x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128 : Shape := ⟨2, ![16, 128]⟩
abbrev S32768x128 : Shape := ⟨2, ![32768, 128]⟩
abbrev S32768 : Shape := ⟨1, ![32768]⟩
abbrev S128x128 : Shape := ⟨2, ![128, 128]⟩
abbrev S32768x1 : Shape := ⟨2, ![32768, 1]⟩
abbrev S16 : Shape := ⟨1, ![16]⟩
abbrev S1x16 : Shape := ⟨2, ![1, 16]⟩
abbrev S32768x16 : Shape := ⟨2, ![32768, 16]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S32768x128, .f32⟩
  | .hbm, ⟨2, _⟩ => ⟨S32768, .i32⟩
  | .hbm, ⟨3, _⟩ => ⟨S128x128, .f32⟩
  | .hbm, ⟨4, _⟩ => ⟨S16x128, .f32⟩
  | .hbm, ⟨5, _⟩ => ⟨S32768x1, .i32⟩
  | .hbm, ⟨6, _⟩ => ⟨S16, .i32⟩
  | .hbm, ⟨7, _⟩ => ⟨S1x16, .i32⟩
  | .hbm, ⟨8, _⟩ => ⟨S32768x16, .i32⟩
  | .hbm, ⟨9, _⟩ => ⟨S32768x16, .i32⟩
  | .hbm, ⟨10, _⟩ => ⟨S32768x16, .i1⟩
  | .hbm, ⟨11, _⟩ => ⟨S_, .i32⟩
  | .hbm, ⟨12, _⟩ => ⟨S32768, .i32⟩
  | .hbm, ⟨13, _⟩ => ⟨S32768, .i1⟩
  | .hbm, ⟨14, _⟩ => ⟨S_, .i32⟩
  | .hbm, ⟨15, _⟩ => ⟨S32768, .i32⟩
  | .hbm, ⟨16, _⟩ => ⟨S32768, .i32⟩
  | .hbm, ⟨17, _⟩ => ⟨S32768, .i32⟩
  | .hbm, ⟨18, _⟩ => ⟨S32768x1, .i32⟩
  | .hbm, ⟨19, _⟩ => ⟨S32768x128, .f32⟩
  | .hbm, ⟨20, _⟩ => ⟨S32768x128, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S_, .f32⟩
  | .hbm, ⟨26, _⟩ => ⟨S32768x16, .f32⟩
  | .hbm, ⟨27, _⟩ => ⟨S32768x16, .f32⟩
  | .hbm, ⟨28, _⟩ => ⟨S32768x16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .i1⟩
  | .hbm, ⟨35, _⟩ => ⟨S_, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S32768x1, .i32⟩
  | .hbm, ⟨47, _⟩ => ⟨S32768, .f32⟩
  | .hbm, ⟨48, _⟩ => ⟨S32768, .f32⟩
  | .hbm, ⟨49, _⟩ => ⟨S32768, .f32⟩
  | .hbm, ⟨50, _⟩ => ⟨S_, .f32⟩
  | .hbm, ⟨51, _⟩ => ⟨S16, .f32⟩
  | .hbm, ⟨52, _⟩ => ⟨S32768x1, .i32⟩
  | .hbm, ⟨53, _⟩ => ⟨S16, .f32⟩
  | .hbm, ⟨54, _⟩ => ⟨S_, .i32⟩
  | .hbm, ⟨55, _⟩ => ⟨S32768, .i32⟩
  | .hbm, ⟨56, _⟩ => ⟨S32768, .i1⟩
  | .hbm, ⟨57, _⟩ => ⟨S_, .i32⟩
  | .hbm, ⟨58, _⟩ => ⟨S32768, .i32⟩
  | .hbm, ⟨59, _⟩ => ⟨S32768, .i32⟩
  | .hbm, ⟨60, _⟩ => ⟨S32768, .i32⟩
  | .hbm, ⟨61, _⟩ => ⟨S32768x1, .i32⟩
  | .hbm, ⟨62, _⟩ => ⟨S32768, .f32⟩
  | .hbm, ⟨63, _⟩ => ⟨S32768, .f32⟩
  | .hbm, ⟨64, _⟩ => ⟨S32768x1, .f32⟩
  | .hbm, ⟨65, _⟩ => ⟨S32768x128, .f32⟩
  | .hbm, ⟨66, _⟩ => ⟨S32768x128, .f32⟩
  | .hbm, ⟨67, _⟩ => ⟨S_, .f32⟩
  | .hbm, ⟨68, _⟩ => ⟨S16x128, .f32⟩
  | .hbm, ⟨69, _⟩ => ⟨S32768x1, .i32⟩
  | .hbm, ⟨70, _⟩ => ⟨S16x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Proof.Node.lean ====
module

public import proofs.«01_k».proof.Proof.Gen.KernelIdeal.Skeleton

@[expose] public section

noncomputable section

namespace Cert.Proof.Node

open Cert.KernelIdeal Cert.KernelIdeal.Gen
open Idealize.ShloMosaic Idealize.SL.Sem

variable {F : FTy → Type} [FloatOps F]

/-- A vector subcore's operations. -/
abbrev TEff (F : FTy → Type) (i : grid1.Coords) :=
  TpuEff nD τ sig (Elt F) Λ₀ (.scVector ((i 0).castLE hcore1) ((i 1).castLE hsub1))

/-- The offsets of sixteen columns, from column `c`, of row `16 t + l` of the fetched rows. -/
def xOff (t : Fin k1_t12_loop.trips) (l c : Nat) : Fin 2 → Nat :=
  ![(Scalar.indexCast (Scalar.addi (Scalar.muli (Scf.iv 0#32 1#32 t) 16#32) (BitVec.ofNat 32 l))).toNat, c]

theorem xOff_eq (t : Fin k1_t12_loop.trips) (l c : Nat) (hl : l < 16) : xOff t l c = ![16 * t.val + l, c] := by
  have ht : t.val < 16 := t.isLt
  unfold xOff
  congr 1
  simp only [Scalar.indexCast, Scalar.addi, Scalar.muli, Scf.iv, IntOp.addi, IntOp.muli, BitVec.toNat_add, BitVec.toNat_mul, BitVec.toNat_ofNat]
  omega

theorem xOff_inb (t : Fin k1_t12_loop.trips) (l : Fin 16) (k : Fin 8) : ∀ a, xOff t l.val (16 * k.val) a + S1x16.size a ≤ S256x128.size a := by
  have ht : t.val < 16 := t.isLt
  intro a
  rw [xOff_eq t l.val _ l.isLt]
  match a with
  | 0 => show 16 * t.val + l.val + 1 ≤ 256; omega
  | 1 => show 16 * k.val + 16 ≤ 128; omega

section
variable (i : grid1.Coords) (arg8 : Memref sig .scVector .vmem S256x128 .f32) (arg14 : Memref sig .scVector .vmem S2048 .f32)

/-- Sixteen columns of one node's row added, times its weight, to its segment's accumulator. -/
def colProg (t : Fin k1_t12_loop.trips) (ej : F .f32) (g : BitVec 32) (hw : k1_chk19 g) (l : Fin 16) (k : Fin 8) : Prog (TEff F i) PUnit := do
  let a : Vec F S16 .f32 ← Prog.lift (.load arg14 (Rect.unit (s := S2048) (k1_off11 g (BitVec.ofNat 32 (16 * k.val))) S16.size (k1_off11_inb g hw k)).toLoadRect (View.loadsAt_vmem h_S16))
  let x : Vec F S1x16 .f32 ← Prog.lift (.load arg8 (Rect.unit (s := S256x128) (xOff t l.val (16 * k.val)) S1x16.size (xOff_inb t l k)).toLoadRect (View.loadsAt_vmem h_S1x16))
  let _b : Vec F S16 .f32 ← Prog.lift (.load arg14 (Rect.unit (s := S2048) (k1_off11 g (BitVec.ofNat 32 (16 * k.val))) S16.size (k1_off11_inb g hw k)).toLoadRect (View.loadsAt_vmem h_S16))
  Prog.lift (.store arg14 (Rect.unit (s := S2048) (k1_off11 g (BitVec.ofNat 32 (16 * k.val))) S16.size (k1_off11_inb g hw k))
    (addf a (mulf (broadcast S16 ej) (shapeCast S16 x shapeCasts_S1x16_S16))) Finset.univ (View.stores_vmem_bits_univ h_S16 rfl) (.inl rfl))

/-- A program per element of a list, one after another. -/
def seqList {α : Type} (f : α → Prog (TEff F i) PUnit) : List α → Prog (TEff F i) PUnit
  | [] => pure ⟨⟩
  | a :: l => do f a; seqList f l

theorem slices_lane : ∀ l : Fin 16, S16.Slices ![l.val] S1 := by decide

/-- One node: its segment checked, then its eight groups of columns. -/
def laneProg (t : Fin k1_t12_loop.trips) (ev : Vec F S16 .f32) (gv : Vec F S16 .i32) (l : Fin 16) : Prog (TEff F i) PUnit := do
  let g : BitVec 32 := extractAt ![0] (extractStridedSlice S1 ![l.val] gv (slices_lane l)) inpos_S1_p0
  have hw : k1_chk19 g := (← Prog.lift (TpuEff.assume (k1_chk19 g) (k1_chk19.dec g))).down
  seqList i (colProg i arg8 arg14 t (extractAt ![0] (extractStridedSlice S1 ![l.val] ev (slices_lane l)) inpos_S1_p0) g hw l) [0, 1, 2, 3, 4, 5, 6, 7]

/-- Sixteen nodes. -/
def nodeProg (arg10 : Memref sig .scVector .vmem S256 .i32) (arg11 : Memref sig .scVector .vmem S256 .f32) (t : Fin k1_t12_loop.trips) : Prog (TEff F i) (BitVec 32) := do
  let ev : Vec F S16 .f32 ← Prog.lift (.load arg11 (Rect.unit (s := S256) (k1_off10 t) S16.size (k1_off10_inb t)).toLoadRect (View.loadsAt_vmem h_S16))
  let gv : Vec F S16 .i32 ← Prog.lift (.load arg10 (Rect.unit (s := S256) (k1_off10 t) S16.size (k1_off10_inb t)).toLoadRect (View.loadsAt_vmem h_S16))
  seqList i (laneProg i arg8 arg14 t ev gv) [0, 1, 2, 3, 4, 5, 6, 7, 8, 9, 10, 11, 12, 13, 14, 15]
  pure 0#32
end

set_option maxRecDepth 65536 in
set_option maxHeartbeats 40000000 in
/-- The printed loop's region is that program. -/
theorem t12_body_eq (i : grid1.Coords) (arg2 : Memref sig .scVector .hbm S32768x128 .f32) (harg2 : arg2.IsWhole) (arg3 : Memref sig .scVector .hbm S32768 .f32) (harg3 : arg3.IsWhole) (arg4 : Memref sig .scVector .hbm S32768 .i32) (harg4 : arg4.IsWhole) (arg5 : Memref sig .scVector .hbm S128x16 .f32) (harg5 : arg5.IsWhole) (arg6 : Memref sig .scVector .hbm S128x16 .f32) (harg6 : arg6.IsWhole) (arg7 : Memref sig .scVector .hbm S128x2048 .f32) (harg7 : arg7.IsWhole) (arg8 : Memref sig .scVector .vmem S256x128 .f32) (harg8 : arg8.IsWhole) (arg9 : Memref sig .scVector .vmem S256 .f32) (harg9 : arg9.IsWhole) (arg10 : Memref sig .scVector .vmem S256 .i32) (harg10 : arg10.IsWhole) (arg11 : Memref sig .scVector .vmem S256 .f32) (harg11 : arg11.IsWhole) (arg12 : Memref sig .scVector .vmem S16 .f32) (harg12 : arg12.IsWhole) (arg13 : Memref sig .scVector .vmem S16 .f32) (harg13 : arg13.IsWhole) (arg14 : Memref sig .scVector .vmem S2048 .f32) (harg14 : arg14.IsWhole) (arg15 : Memref sig .scVector .vmem S16 .f32) (harg15 : arg15.IsWhole) (v40_r0 : DmaSems sig S_) (v40_r1 : DmaSems sig S_) (v40_r2 : DmaSems sig S_) (v40_r3 : DmaSems sig S_) (v40_r4 : DmaSems sig S_) (v40_r5 : DmaSems sig S_) (v2 : IVec S16 32) (k1_t1 : Fin k1_t1_loop.trips) (v10 : BitVec 32) (v13 : BitVec 32) (k1_hw1 : k1_chk1 v10 v13) (t : Fin k1_t12_loop.trips) (z : BitVec 32) :
    k1_t12_body (F := F) i arg2 harg2 arg3 harg3 arg4 harg4 arg5 harg5 arg6 harg6 arg7 harg7 arg8 harg8 arg9 harg9 arg10 harg10 arg11 harg11 arg12 harg12 arg13 harg13 arg14 harg14 arg15 harg15 v40_r0 v40_r1 v40_r2 v40_r3 v40_r4 v40_r5 v2 k1_t1 v10 v13 k1_hw1 t z = nodeProg i arg8 arg14 arg10 arg11 t := rfl

end Cert.Proof.Node
-- ==== Proof.Common.lean ====
/-
  The program as the launch theorem sees it, the resource algebra, the buffers' names, and the loop rules the
  tile's proof uses.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch
public import proofs.«01_k».proof.Proof.Gen.KernelIdeal.Points
public import proofs.«01_k».proof.Proof.Node

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## A pure value carried through a counted loop -/

/-- `k` steps of a counted loop over a carried value. -/
def iterTo {α : Type} {n : Nat} (step : Fin n → α → α) (init : α) : Nat → α
  | 0 => init
  | k + 1 => if h : k < n then step ⟨k, h⟩ (iterTo step init k) else iterTo step init k

theorem iterTo_succ {α : Type} {n : Nat} (step : Fin n → α → α) (init : α) (k : Fin n) :
    iterTo step init (k.val + 1) = step k (iterTo step init k.val) := by
  rw [iterTo, dif_pos k.isLt]

/-- A counted loop whose carried value is the iteration of a pure step, over resources its region gives back. -/
theorem wp_for_iter.{u, v} {M : Type u} [RA.URA M] {Mask : Sort*} (Fr : Mask → sProp M) {E : Type → Type v}
    (wpE : Mask → ∀ ⦃β : Type⦄, E β → sWPT M β) (Es : Mask) [∀ ⦃β : Type⦄ (e : E β), sWPT.Frameable (wpE Es e)]
    {σ : Type} {w : Nat} (lb ub st : BitVec w) (hok : Scf.OK lb ub st) (init : σ) (body : Fin (Scf.trips lb ub st) → σ → Prog E σ)
    (step : Fin (Scf.trips lb ub st) → σ → σ) (R : sProp M) (Q : σ → sProp M)
    (h : ∀ k acc, R ⊢ wp Fr wpE Es (body k acc) (fun r => iprop(⌜r = step k acc⌝ ∗ R))) :
    iprop(R ∗ (R -∗ Q (iterTo step init (Scf.trips lb ub st)))) ⊢ wp Fr wpE Es (Scf.for lb ub st hok init body) Q := by
  have hI : ∀ (k : Fin (Scf.trips lb ub st)) (acc : σ), iprop(⌜acc = iterTo step init k.val⌝ ∗ R)
      ⊢ wp Fr wpE Es (body k acc) (fun r => iprop(⌜r = iterTo step init (k.val + 1)⌝ ∗ R)) := by
    intro k acc
    iintro ⟨%hacc, HR⟩
    iapply (wp_wand_r Fr wpE Es)
    isplitl [HR]
    · iapply (h k acc); iexact HR
    iintro %r ⟨%hr, HR⟩
    isplitr
    · ipureintro; rw [hr, hacc, iterTo_succ]
    · iexact HR
  iintro ⟨HR, HQ⟩
  iapply (Scf.wp_for Fr wpE Es lb ub st hok init body (fun k acc => iprop(⌜acc = iterTo step init k⌝ ∗ R)) hI)
  isplitl [HR]
  · isplitr
    · ipureintro; rfl
    · iexact HR
  iintro %acc ⟨%hacc, HR⟩
  subst hacc
  iapply HQ; iexact HR

end Cert.Proof
-- ==== Proof.Fold.lean ====
/-
  The loops of one chunk that fold over its nodes: per segment the maximum (or the sum) over the nodes of the
  segment, left in the segment's lane.
-/
module

public import proofs.«01_k».proof.Proof.Common

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The buffers of a tile -/

abbrev xHb : Memref sig .scVector .hbm S32768x128 .f32 := Memref.whole main_arg1_scv
abbrev sHb : Memref sig .scVector .hbm S32768 .f32 := Memref.whole main_v2_scv
abbrev gHb : Memref sig .scVector .hbm S32768 .i32 := Memref.whole main_arg2_scv
abbrev mHb : Memref sig .scVector .hbm S128x16 .f32 := Memref.whole main_v3_0_scv
abbrev zHb : Memref sig .scVector .hbm S128x16 .f32 := Memref.whole main_v3_1_scv
abbrev nHb : Memref sig .scVector .hbm S128x2048 .f32 := Memref.whole main_v3_2_scv
abbrev xV : Memref sig .scVector .vmem S256x128 .f32 := Memref.whole cc1_scratch0
abbrev sV : Memref sig .scVector .vmem S256 .f32 := Memref.whole cc1_scratch1
abbrev gV : Memref sig .scVector .vmem S256 .i32 := Memref.whole cc1_scratch2
abbrev eV : Memref sig .scVector .vmem S256 .f32 := Memref.whole cc1_scratch3
abbrev cV : Memref sig .scVector .vmem S16 .f32 := Memref.whole cc1_scratch4
abbrev zV : Memref sig .scVector .vmem S16 .f32 := Memref.whole cc1_scratch5
abbrev aV : Memref sig .scVector .vmem S2048 .f32 := Memref.whole cc1_scratch6
abbrev pV : Memref sig .scVector .vmem S16 .f32 := Memref.whole cc1_scratch7

variable (d : Dev nD) (L : grid1.Coords)

/-- The vector subcore at coordinates `L` of device `d`. -/
abbrev vt : Thread nD τ := V d ((L 0).castLE hcore1) ((L 1).castLE hsub1)

abbrev sPts (f : S256.Idx → F .f32) : sProp 𝕄 := (sV).view.loc (vt d L) ↦{fullShare} f
abbrev gPts (f : S256.Idx → BitVec 32) : sProp 𝕄 := (gV).view.loc (vt d L) ↦{fullShare} f
abbrev ePts (f : S256.Idx → F .f32) : sProp 𝕄 := (eV).view.loc (vt d L) ↦{fullShare} f
abbrev cPts (f : S16.Idx → F .f32) : sProp 𝕄 := (cV).view.loc (vt d L) ↦{fullShare} f
abbrev zPts (f : S16.Idx → F .f32) : sProp 𝕄 := (zV).view.loc (vt d L) ↦{fullShare} f
abbrev aPts (f : S2048.Idx → F .f32) : sProp 𝕄 := (aV).view.loc (vt d L) ↦{fullShare} f
abbrev pPts (f : S16.Idx → F .f32) : sProp 𝕄 := (pV).view.loc (vt d L) ↦{fullShare} f
abbrev xPts (f : S256x128.Idx → F .f32) : sProp 𝕄 := (xV).view.loc (vt d L) ↦{fullShare} f

/-- A lane's index. -/
abbrev ix1 {n : Nat} (k : Fin n) : (⟨1, ![n]⟩ : Shape).Idx := fun a => Fin.cast (by match a with | 0 => rfl) k

/-- Sixteen words from an offset. -/
abbrev rd16 {n : Nat} {α : Type} (f : (⟨1, ![n]⟩ : Shape).Idx → α) (off : Fin 1 → Nat)
    (h : ∀ a, off a + S16.size a ≤ (⟨1, ![n]⟩ : Shape).size a) : S16.Idx → α :=
  fun x => f ((Rect.unit (s := ⟨1, ![n]⟩) off S16.size h).emb x)

/-- Sixteen words replaced from an offset. -/
def upd16 {n : Nat} {α : Type} (f : (⟨1, ![n]⟩ : Shape).Idx → α) (off : Nat) (w : S16.Idx → α) : (⟨1, ![n]⟩ : Shape).Idx → α :=
  fun j => if h : off ≤ (j 0).val ∧ (j 0).val < off + 16 then w (ix1 ⟨(j 0).val - off, by omega⟩) else f j

theorem read_write16 {κ : Kind} {sp : Space} {e : EltTy} {n : Nat} (v : View sig κ sp (⟨1, ![n]⟩ : Shape) e) (f : v.ty.Contents (Elt F)) (off : Fin 1 → Nat)
    (h : ∀ a, off a + S16.size a ≤ (⟨1, ![n]⟩ : Shape).size a) (w : S16.Idx → Elt F e) :
    v.read (Elt F) ((v.slice (Rect.unit (s := ⟨1, ![n]⟩) off S16.size h)).write (Elt F) f w Finset.univ) = upd16 (v.read (Elt F) f) (off 0) w := by
  funext j
  unfold upd16
  split
  · rename_i hj
    exact View.read_writes_cons_hit_of_coords v f (Rect.unit (s := ⟨1, ![n]⟩) off S16.size h) w [] (ix1 ⟨(j 0).val - off 0, by omega⟩) j
      (fun a => by match a with | 0 => show (j 0).val = off 0 + 1 * ((j 0).val - off 0); omega)
  · rename_i hj
    refine View.read_writes_cons_miss_of_axis v f ⟨Rect.unit (s := ⟨1, ![n]⟩) off S16.size h, w⟩ [] j 0 (off 0) 16 rfl rfl rfl ?_
    omega

/-- All sixteen words replaced. -/
theorem upd16_all {α : Type} (f : S16.Idx → α) (w : S16.Idx → α) : upd16 (n := 16) f 0 w = w := by
  funext j
  have hj : (j 0).val < 16 := (j 0).isLt
  unfold upd16
  rw [dif_pos ⟨Nat.zero_le _, by omega⟩]
  congr 1
  funext a; match a with | 0 => rfl

section Rules
variable {α : Type} {n : Nat} {e : EltTy}

/-- A load of sixteen words. -/
theorem wp_ld16 {Q : α → sProp 𝕄} (c : Thread nD τ) {m : Memref sig c.2.kind .vmem (⟨1, ![n]⟩ : Shape) e} {off : Fin 1 → Nat} {h : ∀ a, off a + S16.size a ≤ (⟨1, ![n]⟩ : Shape).size a}
    {hl : m.view.LoadsAt (Rect.unit (s := ⟨1, ![n]⟩) off S16.size h).toLoadRect} {k : (S16.Idx → Elt F e) → Prog (TpuEff nD τ sig (Elt F) Λ₀ c.2) α}
    (f : Buf (Elt F) (m.view.loc c)) (g : (⟨1, ![n]⟩ : Shape).Idx → Elt F e) (hg : m.view.read (Elt F) f = g) :
    (m.view.loc c ↦{fullShare} f)
      ⊢ iprop(((m.view.loc c ↦{fullShare} f) -∗ wp frame (wpE (defs₀ (F := F)) 𝒱₀ c none) Set.univ (k (rd16 g off h)) Q)
        -∗ wp frame (wpE (defs₀ (F := F)) 𝒱₀ c none) Set.univ (.op (.load m (Rect.unit (s := ⟨1, ![n]⟩) off S16.size h).toLoadRect hl) k) Q) := by
  subst hg
  exact wp_load_rect 𝒱₀ c none Set.univ (m := m) (r := Rect.unit (s := ⟨1, ![n]⟩) off S16.size h) (S := Finset.univ) (f := f) (k := k) (Finset.subset_univ _)

/-- A store of sixteen words. -/
theorem wp_st16 {Q : α → sProp 𝕄} (c : Thread nD τ) {m : Memref sig c.2.kind .vmem (⟨1, ![n]⟩ : Shape) e} {off : Fin 1 → Nat} {h : ∀ a, off a + S16.size a ≤ (⟨1, ![n]⟩ : Shape).size a}
    {w : S16.Idx → Elt F e} {hx : (m.access (Rect.unit (s := ⟨1, ![n]⟩) off S16.size h)).Stores Finset.univ} {hm : Finset.univ = Finset.univ ∨ ∀ a, (Rect.unit (s := ⟨1, ![n]⟩) off S16.size h).stride a = 1}
    {k : PUnit → Prog (TpuEff nD τ sig (Elt F) Λ₀ c.2) α}
    (f f' : Buf (Elt F) (m.view.loc c)) (hf : (m.access (Rect.unit (s := ⟨1, ![n]⟩) off S16.size h)).write (Elt F) f w Finset.univ = f') :
    (m.view.loc c ↦{fullShare} f)
      ⊢ iprop(((m.view.loc c ↦{fullShare} f') -∗ wp frame (wpE (defs₀ (F := F)) 𝒱₀ c none) Set.univ (k ⟨⟩) Q)
        -∗ wp frame (wpE (defs₀ (F := F)) 𝒱₀ c none) Set.univ (.op (.store m (Rect.unit (s := ⟨1, ![n]⟩) off S16.size h) w Finset.univ hx hm) k) Q) := by
  subst hf
  exact wp_store 𝒱₀ c none Set.univ (m := m) (r := Rect.unit (s := ⟨1, ![n]⟩) off S16.size h) (S := Finset.univ) (f := f) (w := w) (hx := hx) (hm := hm) (k := k) (Finset.subset_univ _)
end Rules

/-- The lane numbers. -/
abbrev lanes : IVec S16 32 := iota .scVector S16 32 [0] iota_S16_d0_w32_scVector

theorem chk_lanes : k1_chk2 (k1_pay177 lanes) ∧ k1_chk3 (k1_pay179 lanes) ∧ k1_chk4 (k1_pay181 lanes) ∧ k1_chk5 (k1_pay183 lanes) := by
  decide

/-- The exchanges of a butterfly: lane `x` reads the lane `idx x`. -/
def perm (v : FVec F S16 .f32) (idx : IVec S16 32) (h : k1_chk2 idx) : Vec F S16 .f32 := loadIdx (s := S16) (e := .f32) v ![idx] (k1_idx1_inb idx h)

theorem write_p (p v : S16.Idx → F .f32) :
    ((pV).access (Rect.unit (s := S16) ![0] S16.size inb_S16_S16_0)).write (Elt F) p v Finset.univ = v :=
  (read_write16 (F := F) (pV).view p ![0] inb_S16_S16_0 v).trans (upd16_all _ _)

theorem read_p (v : S16.Idx → F .f32) : View.read (Elt F) ((pV).access (Rect.whole S16)) v = v := by
  funext j
  show v ((LoadRect.whole S16).idx j) = v j
  rw [LoadRect.idx_whole]

/-- One exchange through the sixteen-word scratch, at the head of a program. -/
theorem wp_perm {P : Prop} (hP : Decidable P) (hp : P) (v : FVec F S16 .f32) (idx : IVec S16 32) (h : k1_chk2 idx)
    (hidx : P → ∀ a x, ((![idx] : Fin 1 → IVec S16 32) a x).toNat < S16.size a)
    {α : Type} {kk : Vec F S16 .f32 → Prog (Node.TEff F L) α} {Q : α → sProp 𝕄} :
    iprop((∃ p, pPts d L p))
      ⊢ iprop(((∃ p, pPts d L p) -∗ wp frame (wpE (defs₀ (F := F)) 𝒱₀ (vt d L) none) Set.univ (kk (perm v idx h)) Q)
        -∗ wp frame (wpE (defs₀ (F := F)) 𝒱₀ (vt d L) none) Set.univ
          (Prog.lift (TpuEff.assume P hP) >>= fun hw =>
            Prog.lift (.load pV (Rect.unit (s := S16) ![0] S16.size inb_S16_S16_0).toLoadRect (View.loadsAt_vmem h_S16)) >>= fun _ =>
            Prog.lift (.store pV (Rect.unit (s := S16) ![0] S16.size inb_S16_S16_0) v Finset.univ (View.stores_vmem_bits_univ h_S16 rfl) (.inl rfl)) >>= fun _ =>
            SparseCore.vectorLoadIdx pV ![idx] (hidx hw.down) (View.loads_vmem h_S16) >>= kk) Q) := by
  iintro ⟨%p, Hp⟩ HQ
  iapply (wp_assume 𝒱₀ (vt d L) none Set.univ hp)
  iapply (wp_ld16 (vt d L) (m := pV) p p rfl) $$ Hp
  iintro Hp
  iapply (wp_st16 (vt d L) (m := pV) p v (write_p p v)) $$ Hp
  iintro Hp
  iapply (SparseCore.wp_vectorLoadIdx 𝒱₀ (vt d L) none Set.univ (base := pV) (idxs := ![idx]) (h := hidx hp) (hl := View.loads_vmem h_S16) (k := kk) (S := Finset.univ) (f := v) (Finset.subset_univ _)) $$ Hp
  iintro Hp
  rw [show loadIdx (s := S16) (e := .f32) (View.read (Elt F) ((pV).access (Rect.whole S16)) v) ![idx] (hidx hp) = perm v idx h from
    congrArg (fun u => loadIdx (s := S16) (e := .f32) u ![idx] (k1_idx1_inb idx h)) (read_p v)]
  iapply HQ
  iexists _; iexact Hp

end Cert.Proof
-- ==== Proof.Seg.lean ====
/-
  The loops of one chunk that fold over its nodes: per segment the maximum (or the sum) over the nodes of the
  segment, left in the segment's lane.
-/
module

public import proofs.«01_k».proof.Proof.Fold

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values -/

/-- One step of the fold over a chunk: the lanes whose node lies in segment `seg` take part, the others bring `nt`. -/
def segStep (op : FVec F S16 .f32 → FVec F S16 .f32 → FVec F S16 .f32) (nt : F .f32) (seg : BitVec 32)
    (acc sv : FVec F S16 .f32) (gv : IVec S16 32) : FVec F S16 .f32 :=
  op acc (select (cmpi .eq gv (broadcast S16 seg)) sv (broadcast S16 nt))

/-- The fold over the sixteen vectors of a chunk, lane by lane. -/
def foldSeg (op : FVec F S16 .f32 → FVec F S16 .f32 → FVec F S16 .f32) (nt : F .f32) (s : S256.Idx → F .f32)
    (g : S256.Idx → BitVec 32) (seg : BitVec 32) : FVec F S16 .f32 :=
  iterTo (n := k1_t3_loop.trips) (fun t acc => segStep op nt seg acc (rd16 s (k1_off3 t) (k1_off3_inb t)) (rd16 g (k1_off3 t) (k1_off3_inb t)))
    (broadcast S16 nt) k1_t3_loop.trips

/-- The butterfly over the lanes. -/
def bfly (op : FVec F S16 .f32 → FVec F S16 .f32 → FVec F S16 .f32) (v : FVec F S16 .f32) : FVec F S16 .f32 :=
  let a := op v (perm v (k1_pay177 lanes) chk_lanes.1)
  let b := op a (perm a (k1_pay179 lanes) chk_lanes.2.1)
  let c := op b (perm b (k1_pay181 lanes) chk_lanes.2.2.1)
  op c (perm c (k1_pay183 lanes) chk_lanes.2.2.2)

/-- One segment's result placed in its lane. -/
def laneStep (op : FVec F S16 .f32 → FVec F S16 .f32 → FVec F S16 .f32) (nt : F .f32) (s : S256.Idx → F .f32)
    (g : S256.Idx → BitVec 32) (seg : BitVec 32) (acc : FVec F S16 .f32) : FVec F S16 .f32 :=
  select (cmpi .eq lanes (broadcast S16 seg)) (bfly op (foldSeg op nt s g seg)) acc

/-- The results of the `n` segments from `lo` on. -/
def segAll (op : FVec F S16 .f32 → FVec F S16 .f32 → FVec F S16 .f32) (nt : F .f32) (s : S256.Idx → F .f32)
    (g : S256.Idx → BitVec 32) (lo : BitVec 32) (n : Nat) : FVec F S16 .f32 :=
  iterTo (n := n) (fun k acc => laneStep op nt s g (Scf.iv lo 1#32 k) acc) (broadcast S16 nt) n

/-! ## The program of one segment -/

/-- `wp_for_iter` with a program after the loop. -/
theorem wp_for_iter_bind.{u, v} {M : Type u} [RA.URA M] {Mask : Sort*} (Fr : Mask → sProp M) {E : Type → Type v}
    (wpE : Mask → ∀ ⦃β : Type⦄, E β → sWPT M β) (Es : Mask) [∀ ⦃β : Type⦄ (e : E β), sWPT.Frameable (wpE Es e)]
    {σ : Type} {w : Nat} {lb ub st : BitVec w} {hok : Scf.OK lb ub st} {init : σ} {body : Fin (Scf.trips lb ub st) → σ → Prog E σ}
    (step : Fin (Scf.trips lb ub st) → σ → σ) (R : sProp M) {β : Type} {kk : σ → Prog E β} {Q : β → sProp M}
    (h : ∀ k acc, R ⊢ wp Fr wpE Es (body k acc) (fun r => iprop(⌜r = step k acc⌝ ∗ R))) :
    R ⊢ iprop((R -∗ wp Fr wpE Es (kk (iterTo step init (Scf.trips lb ub st))) Q) -∗ wp Fr wpE Es (Scf.for lb ub st hok init body >>= kk) Q) := by
  rw [wp_bind]
  iintro HR HQ
  iapply (wp_for_iter Fr wpE Es lb ub st hok init body step R (fun a => wp Fr wpE Es (kk a) Q) h)
  isplitl [HR] <;> iassumption

variable (d : Dev nD) (L : grid1.Coords)

/-- A program that only returns. -/
theorem wp_retv (c : Thread nD τ) {α : Type} {a : α} {Q : α → sProp 𝕄} :
    Q a ⊢ wp frame (wpE (defs₀ (F := F)) 𝒱₀ c none) Set.univ (Prog.ret a : Prog (TpuEff nD τ sig (Elt F) Λ₀ c.2) α) Q := by
  iintro H; sl_step; iexact H

/-- The first of sixteen words, as the program takes it out. -/
def firstWord (v8 : Vec F S16 .i32) : BitVec 32 := extractAt ![0] (k1_pay172 (F := F) v8) inpos_S1_p0

theorem wp_t3 (v1 : BitVec 32) (t1 : Fin k1_t1_loop.trips) (v8 : Vec F S16 .i32) (v10 v13 : BitVec 32) (hv : v10 = firstWord (F := F) v8)
    (k : Fin (k1_t2_loop v10 v13).trips) (s : S256.Idx → F .f32) (g : S256.Idx → BitVec 32)
    (t : Fin k1_t3_loop.trips) (acc : FVec F S16 .f32) :
    iprop(sPts d L s ∗ gPts (F := F) d L g)
      ⊢ wp frame (wpE (defs₀ (F := F)) 𝒱₀ (vt d L) none) Set.univ
        (k1_t3_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1 v8 v10 v13 k t acc)
        (fun r => iprop(⌜r = segStep maximumf (Scalar.ofBits .f32 0xF149F2CA#32) (Scf.iv v10 1#32 k) acc
          (rd16 s (k1_off3 t) (k1_off3_inb t)) (rd16 g (k1_off3 t) (k1_off3_inb t))⌝ ∗ sPts d L s ∗ gPts (F := F) d L g)) := by
  unfold k1_t3_body
  iintro ⟨Hs, Hg⟩
  iapply (wp_ld16 (vt d L) (m := sV) s s rfl) $$ Hs
  iintro Hs
  iapply (wp_ld16 (vt d L) (m := gV) g g rfl) $$ Hg
  iintro Hg
  iapply (wp_retv (vt d L))
  isplitr
  · ipureintro; subst hv; rfl
  isplitl [Hs] <;> iassumption

/-- The maxima's loop: one segment. -/
theorem wp_t2 (v1 : BitVec 32) (t1 : Fin k1_t1_loop.trips) (v8 : Vec F S16 .i32) (v10 v13 : BitVec 32) (hv : v10 = firstWord (F := F) v8)
    (hw : k1_chk1 v10 v13) (k : Fin (k1_t2_loop v10 v13).trips)
    (acc : FVec F S16 .f32) (s : S256.Idx → F .f32) (g : S256.Idx → BitVec 32) :
    iprop((sPts d L s ∗ gPts (F := F) d L g) ∗ (∃ p, pPts d L p))
      ⊢ wp frame (wpE (defs₀ (F := F)) 𝒱₀ (vt d L) none) Set.univ
        (k1_t2_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1 v8 v10 v13 hw k acc)
        (fun r => iprop(⌜r = laneStep maximumf (Scalar.ofBits .f32 0xF149F2CA#32) s g (Scf.iv v10 1#32 k) acc⌝
          ∗ (sPts d L s ∗ gPts (F := F) d L g) ∗ (∃ p, pPts d L p))) := by
  unfold k1_t2_body
  iintro ⟨Hsg, Hp⟩
  iapply (wp_for_iter_bind frame (wpE (defs₀ (F := F)) 𝒱₀ (vt d L) none) Set.univ _ _ (wp_t3 d L v1 t1 v8 v10 v13 hv k s g)) $$ Hsg
  iintro Hsg
  iapply (wp_perm d L _ chk_lanes.1 _ _ chk_lanes.1 _) $$ Hp
  iintro Hp
  iapply (wp_perm d L _ chk_lanes.2.1 _ _ chk_lanes.2.1 _) $$ Hp
  iintro Hp
  iapply (wp_perm d L _ chk_lanes.2.2.1 _ _ chk_lanes.2.2.1 _) $$ Hp
  iintro Hp
  iapply (wp_perm d L _ chk_lanes.2.2.2 _ _ chk_lanes.2.2.2 _) $$ Hp
  iintro Hp
  sl_step
  isplitr
  · ipureintro; subst hv; rfl
  isplitl [Hsg] <;> iassumption

theorem wp_t8 (t1 : Fin k1_t1_loop.trips) (v10 v13 : BitVec 32) (hw : k1_chk1 v10 v13) (k : Fin (k1_t7_loop v10 v13).trips)
    (s : S256.Idx → F .f32) (g : S256.Idx → BitVec 32) (t : Fin k1_t8_loop.trips) (acc : FVec F S16 .f32) :
    iprop(ePts d L s ∗ gPts (F := F) d L g)
      ⊢ wp frame (wpE (defs₀ (F := F)) 𝒱₀ (vt d L) none) Set.univ
        (k1_t8_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 lanes t1 v10 v13 hw k t acc)
        (fun r => iprop(⌜r = segStep addf (Scalar.ofBits .f32 0x00000000#32) (Scf.iv v10 1#32 k) acc
          (rd16 s (k1_off3 t) (k1_off3_inb t)) (rd16 g (k1_off3 t) (k1_off3_inb t))⌝ ∗ ePts d L s ∗ gPts (F := F) d L g)) := by
  unfold k1_t8_body
  iintro ⟨Hs, Hg⟩
  iapply (wp_ld16 (vt d L) (m := eV) s s rfl) $$ Hs
  iintro Hs
  iapply (wp_ld16 (vt d L) (m := gV) g g rfl) $$ Hg
  iintro Hg
  iapply (wp_retv (vt d L))
  isplitr
  · ipureintro; rfl
  isplitl [Hs] <;> iassumption

theorem chk_lanes' : k1_chk11 (k1_pay199 lanes) ∧ k1_chk12 (k1_pay201 lanes) ∧ k1_chk13 (k1_pay203 lanes) ∧ k1_chk14 (k1_pay205 lanes) := chk_lanes

/-- The sums' loop: one segment. -/
theorem wp_t7 (t1 : Fin k1_t1_loop.trips) (v10 v13 : BitVec 32) (hw : k1_chk1 v10 v13) (k : Fin (k1_t7_loop v10 v13).trips)
    (acc : FVec F S16 .f32) (s : S256.Idx → F .f32) (g : S256.Idx → BitVec 32) :
    iprop((ePts d L s ∗ gPts (F := F) d L g) ∗ (∃ p, pPts d L p))
      ⊢ wp frame (wpE (defs₀ (F := F)) 𝒱₀ (vt d L) none) Set.univ
        (k1_t7_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 lanes t1 v10 v13 hw k acc)
        (fun r => iprop(⌜r = laneStep addf (Scalar.ofBits .f32 0x00000000#32) s g (Scf.iv v10 1#32 k) acc⌝
          ∗ (ePts d L s ∗ gPts (F := F) d L g) ∗ (∃ p, pPts d L p))) := by
  unfold k1_t7_body
  iintro ⟨Hsg, Hp⟩
  iapply (wp_for_iter_bind frame (wpE (defs₀ (F := F)) 𝒱₀ (vt d L) none) Set.univ _ _ (wp_t8 d L t1 v10 v13 hw k s g)) $$ Hsg
  iintro Hsg
  iapply (wp_perm d L _ chk_lanes'.1 _ _ chk_lanes.1 _) $$ Hp
  iintro Hp
  iapply (wp_perm d L _ chk_lanes'.2.1 _ _ chk_lanes.2.1 _) $$ Hp
  iintro Hp
  iapply (wp_perm d L _ chk_lanes'.2.2.1 _ _ chk_lanes.2.2.1 _) $$ Hp
  iintro Hp
  iapply (wp_perm d L _ chk_lanes'.2.2.2 _ _ chk_lanes.2.2.2 _) $$ Hp
  iintro Hp
  sl_step
  isplitr
  · ipureintro; rfl
  isplitl [Hsg] <;> iassumption

/-! ## The loops' trips -/

theorem loops_fin : ∀ i j : Fin 16, k1_chk1 (BitVec.ofNat 32 i) (BitVec.ofNat 32 j)
    ∧ (k1_t2_loop (BitVec.ofNat 32 i) (BitVec.ofNat 32 j)).trips = j.val + 1 - i.val
    ∧ (k1_t4_loop (BitVec.ofNat 32 i) (BitVec.ofNat 32 j)).trips = 0
    ∧ (k1_t7_loop (BitVec.ofNat 32 i) (BitVec.ofNat 32 j)).trips = j.val + 1 - i.val
    ∧ (k1_t9_loop (BitVec.ofNat 32 i) (BitVec.ofNat 32 j)).trips = 0 := by decide +kernel

/-- The loops over the segments from `a` to `b`: they mean something, have that many trips, and the remainders' loops none. -/
theorem loops_of {a b : BitVec 32} (ha : a.toNat < 16) (hb : b.toNat < 16) : k1_chk1 a b
    ∧ (k1_t2_loop a b).trips = b.toNat + 1 - a.toNat ∧ (k1_t4_loop a b).trips = 0
    ∧ (k1_t7_loop a b).trips = b.toNat + 1 - a.toNat ∧ (k1_t9_loop a b).trips = 0 := by
  have h := loops_fin ⟨a.toNat, ha⟩ ⟨b.toNat, hb⟩
  simpa only [BitVec.ofNat_toNat, BitVec.setWidth_eq] using h

theorem iterTo_id {α : Type} {n : Nat} (init : α) (k : Nat) : iterTo (n := n) (fun _ a => a) init k = init := by
  induction k with
  | zero => rfl
  | succ k ih => unfold iterTo; split <;> exact ih

end Cert.Proof
-- ==== Proof.Vecs.lean ====
/-
  The loops of one chunk that write a buffer sixteen words at a time: the exponentials, the clearing of the
  accumulator, and the weighted rows added into it.
-/
module

public import proofs.«01_k».proof.Proof.Seg

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values -/

theorem ix1_eta {n : Nat} (j : (⟨1, ![n]⟩ : Shape).Idx) : ix1 (n := n) ⟨(j 0).val, (j 0).isLt⟩ = j := by
  funext a; match a with | 0 => rfl

/-- The exponentials of a chunk's scores from their segments' maxima. -/
def expAll (s : S256.Idx → F .f32) (g : S256.Idx → BitVec 32) (cm : S16.Idx → F .f32) : S256.Idx → F .f32 :=
  fun j => FloatOps.exp (FloatOps.subf (s j) (cm (ix1 ⟨(g j).toNat % 16, Nat.mod_lt _ (by decide)⟩)))

/-- One node's row added, times its weight, to its segment's accumulator, in the first `c` columns. -/
def nodeCols (X : S256x128.Idx → F .f32) (E : S256.Idx → F .f32) (g : S256.Idx → BitVec 32) (n : Fin 256) (c : Nat)
    (acc : S2048.Idx → F .f32) : S2048.Idx → F .f32 :=
  fun j => if (j 0).val / 128 = (g (ix1 n)).toNat ∧ (j 0).val % 128 < c then
    FloatOps.addf (acc j) (FloatOps.mulf (E (ix1 n)) (X (fun a => match a with | 0 => n | 1 => ⟨(j 0).val % 128, Nat.mod_lt _ (by decide)⟩))) else acc j

/-- The accumulator once a chunk's nodes are added. -/
def accAll (X : S256x128.Idx → F .f32) (E : S256.Idx → F .f32) (g : S256.Idx → BitVec 32) (k : Nat) : S2048.Idx → F .f32 :=
  iterTo (n := 256) (fun n acc => nodeCols X E g n 128 acc) (fun _ => Scalar.ofBits .f32 0x00000000#32) k

variable (d : Dev nD) (L : grid1.Coords)

/-! ## Stores into the buffers -/

theorem write_e (off : Fin 1 → Nat) (h : ∀ a, off a + S16.size a ≤ S256.size a) (f : S256.Idx → F .f32) (w : S16.Idx → F .f32) :
    ((eV).access (Rect.unit (s := S256) off S16.size h)).write (Elt F) f w Finset.univ = upd16 f (off 0) w := read_write16 (F := F) (eV).view f off h w
theorem read_c (v : S16.Idx → F .f32) : View.read (Elt F) ((cV).access (Rect.whole S16)) v = v := by
  funext j
  show v ((LoadRect.whole S16).idx j) = v j
  rw [LoadRect.idx_whole]
theorem write_a (off : Fin 1 → Nat) (h : ∀ a, off a + S16.size a ≤ S2048.size a) (f : S2048.Idx → F .f32) (w : S16.Idx → F .f32) :
    ((aV).access (Rect.unit (s := S2048) off S16.size h)).write (Elt F) f w Finset.univ = upd16 f (off 0) w := read_write16 (F := F) (aV).view f off h w

/-- A buffer filled from the front, sixteen words further. -/
theorem upd16_part {n : Nat} {α : Type} (v f : (⟨1, ![n]⟩ : Shape).Idx → α) (k : Nat) (w : S16.Idx → α)
    (hw : ∀ (l : Fin 16) (h : 16 * k + l.val < n), w (ix1 l) = v (ix1 ⟨16 * k + l.val, h⟩)) :
    upd16 (fun j => if (j 0).val < 16 * k then v j else f j) (16 * k) w = fun j => if (j 0).val < 16 * (k + 1) then v j else f j := by
  funext j
  have hj : (j 0).val < n := (j 0).isLt
  unfold upd16
  by_cases h1 : (j 0).val < 16 * k
  · rw [dif_neg (by omega)]; exact (if_pos h1).trans (if_pos (by omega)).symm
  · by_cases h2 : (j 0).val < 16 * (k + 1)
    · rw [dif_pos ⟨by omega, by omega⟩, if_pos h2, hw ⟨(j 0).val - 16 * k, by omega⟩ (by show 16 * k + ((j 0).val - 16 * k) < n; omega)]
      congr 1
      funext a
      match a with
      | 0 => exact Fin.ext (by show 16 * k + ((j 0).val - 16 * k) = (j 0).val; omega)
    · rw [dif_neg (by omega)]; exact (if_neg h1).trans (if_neg h2).symm

/-! ## The exponentials -/

/-- The exponentials' buffer after `k` vectors. -/
def expPart (s : S256.Idx → F .f32) (g : S256.Idx → BitVec 32) (cm : S16.Idx → F .f32) (e₀ : S256.Idx → F .f32)
    (k : Nat) : S256.Idx → F .f32 := fun j => if (j 0).val < 16 * k then expAll s g cm j else e₀ j

theorem wp_t6 (v1 : BitVec 32) (t1 : Fin k1_t1_loop.trips) (s : S256.Idx → F .f32) (g : S256.Idx → BitVec 32) (hg : ∀ j, (g j).toNat < 16)
    (cm : S16.Idx → F .f32) (e₀ : S256.Idx → F .f32) (k : Fin k1_t6_loop.trips) (acc : BitVec 32) :
    iprop(sPts d L s ∗ gPts (F := F) d L g ∗ cPts d L cm ∗ ePts d L (expPart s g cm e₀ k.val))
      ⊢ wp frame (wpE (defs₀ (F := F)) 𝒱₀ (vt d L) none) Set.univ (k1_t6_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1 k acc)
        (fun _ => iprop(sPts d L s ∗ gPts (F := F) d L g ∗ cPts d L cm ∗ ePts d L (expPart s g cm e₀ (k.val + 1)))) := by
  unfold k1_t6_body
  iintro ⟨Hs, Hg, Hc, He⟩
  have hk : k1_chk10 (rd16 g (k1_off5 k) (k1_off5_inb k)) := fun a x => by
    match a with | 0 => exact hg _
  iapply (wp_ld16 (vt d L) (m := sV) s s rfl) $$ Hs
  iintro Hs
  iapply (wp_ld16 (vt d L) (m := gV) g g rfl) $$ Hg
  iintro Hg
  iapply (wp_assume 𝒱₀ (vt d L) none Set.univ hk)
  iapply (SparseCore.wp_vectorLoadIdx 𝒱₀ (vt d L) none Set.univ (base := cV) (idxs := ![rd16 g (k1_off5 k) (k1_off5_inb k)]) (h := k1_idx9_inb _ hk) (hl := View.loads_vmem h_S16) (S := Finset.univ) (f := cm) (Finset.subset_univ _)) $$ Hc
  iintro Hc
  iapply (wp_ld16 (vt d L) (m := eV) _ _ rfl) $$ He
  iintro He
  iapply (wp_st16 (vt d L) (m := eV) _ (expPart s g cm e₀ (k.val + 1)) ?_) $$ He
  · rw [write_e, show k1_off6 k 0 = 16 * k.val from congrFun (k1_off6_eq k) 0]
    refine upd16_part (expAll s g cm) e₀ k.val _ (fun l hl => ?_)
    have hi : (Rect.unit (s := S256) (k1_off5 k) S16.size (k1_off5_inb k)).emb (ix1 l) = ix1 ⟨16 * k.val + l.val, hl⟩ := by
      funext a
      match a with
      | 0 => exact Fin.ext (by show k1_off5 k 0 + 1 * l.val = 16 * k.val + l.val; rw [congrFun (k1_off5_eq k) 0]; show 16 * k.val + 1 * l.val = _; omega)
    show FloatOps.exp (FloatOps.subf (s ((Rect.unit (s := S256) (k1_off5 k) S16.size (k1_off5_inb k)).emb (ix1 l))) (View.read (Elt F) ((cV).access (Rect.whole S16)) cm
      (idxAt (s := S16) ![rd16 g (k1_off5 k) (k1_off5_inb k)] (k1_idx9_inb _ hk) (ix1 l)))) = expAll s g cm (ix1 ⟨16 * k.val + l.val, hl⟩)
    rw [read_c, hi]
    unfold expAll
    congr 2
    refine congrArg cm ?_
    funext a
    match a with
    | 0 => exact Fin.ext ((congrArg (fun i => (g i).toNat) hi).trans (Nat.mod_eq_of_lt (hg _)).symm)
  iintro He
  iapply (wp_retv (vt d L))
  isplitl [Hs]; · iassumption
  isplitl [Hg]; · iassumption
  isplitl [Hc] <;> iassumption

/-! ## The clearing -/

theorem wp_t11 (t1 : Fin k1_t1_loop.trips) (v10 v13 : BitVec 32) (hw : k1_chk1 v10 v13) (a₀ : S2048.Idx → F .f32) (k : Fin k1_t11_loop.trips) (acc : BitVec 32) :
    aPts d L (fun j => if (j 0).val < 16 * k.val then Scalar.ofBits .f32 0x00000000#32 else a₀ j)
      ⊢ wp frame (wpE (defs₀ (F := F)) 𝒱₀ (vt d L) none) Set.univ (k1_t11_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 lanes t1 v10 v13 hw k acc)
        (fun _ => aPts d L (fun j => if (j 0).val < 16 * (k.val + 1) then Scalar.ofBits .f32 0x00000000#32 else a₀ j)) := by
  unfold k1_t11_body
  iintro Ha
  iapply (wp_ld16 (vt d L) (m := aV) _ _ rfl) $$ Ha
  iintro Ha
  iapply (wp_st16 (vt d L) (m := aV) _ (fun j => if (j 0).val < 16 * (k.val + 1) then Scalar.ofBits .f32 0x00000000#32 else a₀ j) ?_) $$ Ha
  · rw [write_a, show k1_off9 k 0 = 16 * k.val from congrFun (k1_off9_eq k) 0]
    exact upd16_part _ _ k.val _ (fun _ _ => rfl)
  iintro Ha
  iapply (wp_retv (vt d L))
  iassumption

end Cert.Proof
-- ==== Proof.Nodes.lean ====
/-
  The loop that adds a chunk's rows, each times its weight, into its segment's accumulator.
-/
module

public import proofs.«01_k».proof.Proof.Vecs
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid1.Coords)

theorem off11_eq {g : BitVec 32} (hg : g.toNat < 16) (k : Fin 8) : k1_off11 g (BitVec.ofNat 32 (16 * k.val)) 0 = 128 * g.toNat + 16 * k.val := by
  have hk := k.isLt
  show (Scalar.indexCast (Scalar.addi (Scalar.muli g 128#32) (BitVec.ofNat 32 (16 * k.val)))).toNat = _
  simp only [Scalar.indexCast, Scalar.addi, Scalar.muli, IntOp.addi, IntOp.muli, BitVec.toNat_add, BitVec.toNat_mul, BitVec.toNat_ofNat]
  omega

theorem chk19_of {g : BitVec 32} (hg : g.toNat < 16) : k1_chk19 g := by
  intro k a
  have hk := k.isLt
  match a with
  | 0 => rw [off11_eq hg]; show 128 * g.toNat + 16 * k.val + 16 ≤ 2048; omega

/-- Sixteen columns further. -/
theorem nodeCols_succ (X : S256x128.Idx → F .f32) (E : S256.Idx → F .f32) (g : S256.Idx → BitVec 32) (n : Fin 256) (k : Fin 8)
    (acc : S2048.Idx → F .f32) (hg : (g (ix1 n)).toNat < 16) (w : S16.Idx → F .f32)
    (hw : ∀ l : Fin 16, w (ix1 l) = FloatOps.addf (nodeCols X E g n (16 * k.val) acc (ix1 ⟨128 * (g (ix1 n)).toNat + 16 * k.val + l.val, by have := k.isLt; omega⟩))
      (FloatOps.mulf (E (ix1 n)) (X (fun a => match a with | 0 => n | 1 => ⟨16 * k.val + l.val, by have := k.isLt; show _ < 128; omega⟩)))) :
    upd16 (nodeCols X E g n (16 * k.val) acc) (128 * (g (ix1 n)).toNat + 16 * k.val) w = nodeCols X E g n (16 * (k.val + 1)) acc := by
  have hk := k.isLt
  funext j
  have hj : (j 0).val < 2048 := (j 0).isLt
  unfold upd16
  by_cases h : 128 * (g (ix1 n)).toNat + 16 * k.val ≤ (j 0).val ∧ (j 0).val < 128 * (g (ix1 n)).toNat + 16 * k.val + 16
  · rw [dif_pos h, hw]
    have e : (ix1 ⟨128 * (g (ix1 n)).toNat + 16 * k.val + ((j 0).val - (128 * (g (ix1 n)).toNat + 16 * k.val)), by omega⟩ : S2048.Idx) = j := by
      funext a; match a with | 0 => exact Fin.ext (by show 128 * (g (ix1 n)).toNat + 16 * k.val + ((j 0).val - (128 * (g (ix1 n)).toNat + 16 * k.val)) = (j 0).val; omega)
    rw [e]
    unfold nodeCols
    rw [if_neg (by omega), if_pos (by omega)]
    congr 3
    funext a
    match a with
    | 0 => rfl
    | 1 => exact Fin.ext (by show 16 * k.val + ((j 0).val - (128 * (g (ix1 n)).toNat + 16 * k.val)) = (j 0).val % 128; omega)
  · rw [dif_neg h]
    unfold nodeCols
    by_cases h2 : (j 0).val / 128 = (g (ix1 n)).toNat ∧ (j 0).val % 128 < 16 * k.val
    · rw [if_pos h2, if_pos (by omega)]
    · rw [if_neg h2, if_neg (by omega)]

theorem wp_col (X : S256x128.Idx → F .f32) (E : S256.Idx → F .f32) (g : S256.Idx → BitVec 32) (acc : S2048.Idx → F .f32)
    (t : Fin k1_t12_loop.trips) (l : Fin 16) (k : Fin 8) (n : Fin 256) (hn : n.val = 16 * t.val + l.val) (hg : (g (ix1 n)).toNat < 16)
    (hw : k1_chk19 (g (ix1 n))) :
    iprop(xPts d L X ∗ aPts d L (nodeCols X E g n (16 * k.val) acc))
      ⊢ wp frame (wpE (defs₀ (F := F)) 𝒱₀ (vt d L) none) Set.univ (Node.colProg L xV aV t (E (ix1 n)) (g (ix1 n)) hw l k)
        (fun _ => iprop(xPts d L X ∗ aPts d L (nodeCols X E g n (16 * (k.val + 1)) acc))) := by
  unfold Node.colProg
  iintro ⟨Hx, Ha⟩
  iapply (wp_ld16 (vt d L) (m := aV) _ _ rfl) $$ Ha
  iintro Ha
  iapply (wp_load_rect 𝒱₀ (vt d L) none Set.univ (m := xV) (r := Rect.unit (s := S256x128) (Node.xOff t l.val (16 * k.val)) S1x16.size (Node.xOff_inb t l k)) (S := Finset.univ) (f := X) (Finset.subset_univ _)) $$ Hx
  iintro Hx
  iapply (wp_ld16 (vt d L) (m := aV) _ _ rfl) $$ Ha
  iintro Ha
  iapply (wp_st16 (vt d L) (m := aV) _ (nodeCols X E g n (16 * (k.val + 1)) acc) ?_) $$ Ha
  · rw [write_a, off11_eq hg]
    refine nodeCols_succ X E g n k acc hg _ (fun x => ?_)
    have ho : (Rect.unit (s := S2048) (k1_off11 (g (ix1 n)) (BitVec.ofNat 32 (16 * k.val))) S16.size (k1_off11_inb _ hw k)).emb (ix1 x)
        = ix1 ⟨128 * (g (ix1 n)).toNat + 16 * k.val + x.val, by have := k.isLt; omega⟩ := by
      funext a
      match a with
      | 0 => exact Fin.ext (by show k1_off11 (g (ix1 n)) (BitVec.ofNat 32 (16 * k.val)) 0 + 1 * x.val = _; rw [off11_eq hg]; show _ = 128 * (g (ix1 n)).toNat + 16 * k.val + x.val; omega)
    refine congr (congrArg FloatOps.addf (congrArg (nodeCols X E g n (16 * k.val) acc) ho)) (congrArg (FloatOps.mulf (E (ix1 n))) ?_)
    refine (shapeCast_apply (s := S1x16) (t := S16) _ _ (ix1 x) (fun a => match a with | 0 => (0 : Fin 1) | 1 => (x : Fin 16)) ?_).trans (congrArg X ?_)
    · rw [Shape.rowMajor_val_one, Shape.rowMajor_val_two]
      show 0 * 16 + x.val = x.val
      omega
    · funext a
      match a with
      | 0 => exact Fin.ext (by show Node.xOff t l.val (16 * k.val) 0 + 1 * 0 = n.val; rw [Node.xOff_eq t _ _ l.isLt, hn]; rfl)
      | 1 => exact Fin.ext (by show Node.xOff t l.val (16 * k.val) 1 + 1 * x.val = 16 * k.val + x.val; rw [Node.xOff_eq t _ _ l.isLt]; show 16 * k.val + 1 * x.val = _; omega)
  iintro Ha
  iapply (wp_retv (vt d L))
  isplitl [Hx] <;> iassumption

/-- Programs one after another, each taking one state to the next. -/
theorem wp_seqList {m : Nat} (f : Fin m → Prog (Node.TEff F L) PUnit) (I : Nat → sProp 𝕄)
    (h : ∀ k : Fin m, I k.val ⊢ wp frame (wpE (defs₀ (F := F)) 𝒱₀ (vt d L) none) Set.univ (f k) (fun _ => I (k.val + 1)))
    (l : List (Fin m)) (o : Nat) (hl : ∀ (i : Nat) (hi : i < l.length), (l[i]).val = o + i) :
    I o ⊢ wp frame (wpE (defs₀ (F := F)) 𝒱₀ (vt d L) none) Set.univ (Node.seqList L f l) (fun _ => I (o + l.length)) := by
  induction l generalizing o with
  | nil =>
    unfold Node.seqList
    iintro H
    iapply (wp_retv (vt d L))
    iexact H
  | cons a l ih =>
    have ha : a.val = o := hl 0 (by simp)
    have ih' := ih (o + 1) (fun i hi => by have := hl (i + 1) (by simpa using hi); simpa [Nat.add_assoc, Nat.add_comm 1] using this)
    have hs : o + (a :: l).length = o + 1 + l.length := by simp only [List.length_cons]; omega
    unfold Node.seqList
    rw [hs, wp_bind]
    iintro H
    iapply (wp_wand_r frame (wpE (defs₀ (F := F)) 𝒱₀ (vt d L) none) Set.univ)
    have h' := h a
    rw [ha] at h'
    isplitl [H]
    · iapply h'
      iexact H
    iintro %r H
    iapply ih'
    iexact H

/-- One node, from its weight and its segment. -/
def laneBody (t : Fin k1_t12_loop.trips) (ej : F .f32) (g : BitVec 32) (l : Fin 16) : Prog (Node.TEff F L) PUnit := do
  have hw : k1_chk19 g := (← Prog.lift (TpuEff.assume (k1_chk19 g) (k1_chk19.dec g))).down
  Node.seqList L (Node.colProg L xV aV t ej g hw l) [0, 1, 2, 3, 4, 5, 6, 7]

theorem laneProg_eq (t : Fin k1_t12_loop.trips) (ev : Vec F S16 .f32) (gv : Vec F S16 .i32) (l : Fin 16) :
    Node.laneProg L xV aV t ev gv l = laneBody L t (extractAt ![0] (extractStridedSlice S1 ![l.val] ev (Node.slices_lane l)) inpos_S1_p0)
      (extractAt ![0] (extractStridedSlice S1 ![l.val] gv (Node.slices_lane l)) inpos_S1_p0) l := rfl

/-- One node. -/
theorem wp_lane (X : S256x128.Idx → F .f32) (E : S256.Idx → F .f32) (g : S256.Idx → BitVec 32) (acc : S2048.Idx → F .f32)
    (t : Fin k1_t12_loop.trips) (l : Fin 16) (n : Fin 256) (hn : n.val = 16 * t.val + l.val) (hg : (g (ix1 n)).toNat < 16)
    (ev : Vec F S16 .f32) (gv : Vec F S16 .i32) (hev : ev (ix1 l) = E (ix1 n)) (hgv : gv (ix1 l) = g (ix1 n)) :
    iprop(xPts d L X ∗ aPts d L acc)
      ⊢ wp frame (wpE (defs₀ (F := F)) 𝒱₀ (vt d L) none) Set.univ (Node.laneProg L xV aV t ev gv l)
        (fun _ => iprop(xPts d L X ∗ aPts d L (nodeCols X E g n 128 acc))) := by
  have eg : (extractAt ![0] (extractStridedSlice S1 ![l.val] gv (Node.slices_lane l)) inpos_S1_p0 : BitVec 32) = g (ix1 n) := by
    rw [← hgv]
    refine congrArg gv (funext fun a => ?_)
    match a with | 0 => rfl
  have ee : (extractAt ![0] (extractStridedSlice S1 ![l.val] ev (Node.slices_lane l)) inpos_S1_p0 : F .f32) = E (ix1 n) := by
    rw [← hev]
    refine congrArg ev (funext fun a => ?_)
    match a with | 0 => rfl
  have h0 : nodeCols X E g n (16 * 0) acc = acc := by funext j; exact if_neg (by omega)
  have hrun := wp_seqList d L (Node.colProg L xV aV t (E (ix1 n)) (g (ix1 n)) (chk19_of hg) l) (fun c => iprop(xPts d L X ∗ aPts d L (nodeCols X E g n (16 * c) acc)))
    (fun k => wp_col d L X E g acc t l k n hn hg (chk19_of hg)) [0, 1, 2, 3, 4, 5, 6, 7] 0 (by decide)
  beta_reduce at hrun
  rw [h0] at hrun
  rw [laneProg_eq, eg, ee]
  unfold laneBody
  iintro H
  iapply (wp_assume 𝒱₀ (vt d L) none Set.univ (chk19_of hg))
  iapply hrun
  iexact H

/-- Sixteen nodes. -/
theorem wp_t12 (X : S256x128.Idx → F .f32) (E : S256.Idx → F .f32) (g : S256.Idx → BitVec 32) (hg : ∀ j, (g j).toNat < 16)
    (t1 : Fin k1_t1_loop.trips) (v10 v13 : BitVec 32) (hw : k1_chk1 v10 v13) (t : Fin k1_t12_loop.trips) (z : BitVec 32) :
    iprop(gPts (F := F) d L g ∗ ePts d L E ∗ xPts d L X ∗ aPts d L (accAll X E g (16 * t.val)))
      ⊢ wp frame (wpE (defs₀ (F := F)) 𝒱₀ (vt d L) none) Set.univ (k1_t12_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 lanes t1 v10 v13 hw t z)
        (fun _ => iprop(gPts (F := F) d L g ∗ ePts d L E ∗ xPts d L X ∗ aPts d L (accAll X E g (16 * (t.val + 1))))) := by
  have ht : t.val < 16 := t.isLt
  rw [Node.t12_body_eq]
  unfold Node.nodeProg
  iintro ⟨Hg, He, Hx, Ha⟩
  iapply (wp_ld16 (vt d L) (m := eV) _ _ rfl) $$ He
  iintro He
  iapply (wp_ld16 (vt d L) (m := gV) _ _ rfl) $$ Hg
  iintro Hg
  have hi : ∀ l : Fin 16, (Rect.unit (s := S256) (k1_off10 t) S16.size (k1_off10_inb t)).emb (ix1 l) = ix1 ⟨16 * t.val + l.val, by omega⟩ := by
    intro l
    funext a
    match a with
    | 0 => exact Fin.ext (by show k1_off10 t 0 + 1 * l.val = 16 * t.val + l.val; rw [congrFun (k1_off10_eq t) 0]; show 16 * t.val + 1 * l.val = _; omega)
  have hrun := wp_seqList d L (Node.laneProg L xV aV t (rd16 E (k1_off10 t) (k1_off10_inb t)) (rd16 g (k1_off10 t) (k1_off10_inb t)))
    (fun c => iprop(xPts d L X ∗ aPts d L (accAll X E g (16 * t.val + c))))
    (fun l => by
      have := wp_lane d L X E g (accAll X E g (16 * t.val + l.val)) t l ⟨16 * t.val + l.val, by omega⟩ rfl (hg _) (rd16 E (k1_off10 t) (k1_off10_inb t))
        (rd16 g (k1_off10 t) (k1_off10_inb t)) (congrArg E (hi l)) (congrArg g (hi l))
      have e : accAll X E g (16 * t.val + (l.val + 1)) = nodeCols X E g ⟨16 * t.val + l.val, by omega⟩ 128 (accAll X E g (16 * t.val + l.val)) :=
        iterTo_succ (n := 256) _ _ ⟨16 * t.val + l.val, by omega⟩
      beta_reduce
      rw [e]
      exact this)
    [0, 1, 2, 3, 4, 5, 6, 7, 8, 9, 10, 11, 12, 13, 14, 15] 0 (by decide)
  rw [Prog.bind, wp_bind]
  iapply (wp_wand_r frame (wpE (defs₀ (F := F)) 𝒱₀ (vt d L) none) Set.univ)
  isplitl [Hx Ha]
  · iapply hrun
    isplitl [Hx] <;> iassumption
  iintro %r ⟨Hx, Ha⟩
  iapply (wp_retv (vt d L))
  isplitl [Hg]; · iassumption
  isplitl [He]; · iassumption
  isplitl [Hx]; · iassumption
  iexact Ha

end Cert.Proof
-- ==== Proof.Chunk.lean ====
/-
  One chunk of 256 nodes on one tile: its rows, scores and segment numbers fetched, the segments' maxima, the
  exponentials, the segments' sums, the weighted rows added up, and the three results written out.
-/
module

public import proofs.«01_k».proof.Proof.Nodes

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The values of chunk `r` -/

/-- A chunk's scores, or its segment numbers. -/
def part1 {α : Type} (f : S32768.Idx → α) (r : Fin 128) : S256.Idx → α :=
  fun j => f (ix1 ⟨256 * r.val + (j 0).val, by have : (j 0).val < 256 := (j 0).isLt; omega⟩)

/-- A chunk's rows. -/
def part2 {α : Type} (f : S32768x128.Idx → α) (r : Fin 128) : S256x128.Idx → α :=
  fun j => f (fun a => match a with
    | 0 => (⟨256 * r.val + (j 0).val, by have : (j 0).val < 256 := (j 0).isLt; omega⟩ : Fin 32768)
    | 1 => (j 1 : Fin 128))

/-- The chunk's first and last segment. -/
def loSeg (G : S32768.Idx → BitVec 32) (r : Fin 128) : BitVec 32 := part1 G r (ix1 (0 : Fin 256))
def hiSeg (G : S32768.Idx → BitVec 32) (r : Fin 128) : BitVec 32 := part1 G r (ix1 (255 : Fin 256))

/-- The segments' maxima, the exponentials, the segments' sums, the weighted sums of the rows. -/
def cmOf (S : S32768.Idx → F .f32) (G : S32768.Idx → BitVec 32) (r : Fin 128) : S16.Idx → F .f32 :=
  segAll maximumf (Scalar.ofBits .f32 0xF149F2CA#32) (part1 S r) (part1 G r) (loSeg G r) ((hiSeg G r).toNat + 1 - (loSeg G r).toNat)
def exOf (S : S32768.Idx → F .f32) (G : S32768.Idx → BitVec 32) (r : Fin 128) : S256.Idx → F .f32 :=
  expAll (part1 S r) (part1 G r) (cmOf S G r)
def zsOf (S : S32768.Idx → F .f32) (G : S32768.Idx → BitVec 32) (r : Fin 128) : S16.Idx → F .f32 :=
  segAll addf (Scalar.ofBits .f32 0x00000000#32) (exOf S G r) (part1 G r) (loSeg G r) ((hiSeg G r).toNat + 1 - (loSeg G r).toNat)
def nmOf (X : S32768x128.Idx → F .f32) (S : S32768.Idx → F .f32) (G : S32768.Idx → BitVec 32) (r : Fin 128) : S2048.Idx → F .f32 :=
  accAll (part2 X r) (exOf S G r) (part1 G r) 256

variable (d : Dev nD) (L : grid1.Coords)

/-- The chunk the tile at `L` takes in its trip `t`. -/
def chunkOf (t : Fin k1_t1_loop.trips) : Fin 128 :=
  ⟨8 * (L 1).val + 4 * (L 0).val + t.val, by
    have h0 : (L 0).val < 2 := (L 0).isLt
    have h1 : (L 1).val < 16 := (L 1).isLt
    have h2 : t.val < 4 := t.isLt
    omega⟩

/-- What the waits add to the record. -/
abbrev owesFrom (O : CellTallies nD τ sig (HIx 1)) (W : Waits sig (HIx 1)) : sProp 𝕄 :=
  iprop(∃ W', ⌜∀ p ∈ W', p ∈ W ∨ p.2 = none⌝ ∗ owes (vt d L) O W')

abbrev xSh (q : PosShare TreeShare) (X : S32768x128.Idx → F .f32) : sProp 𝕄 := (xHb).view.loc (vt d L) ↦{q} X
abbrev sSh (q : PosShare TreeShare) (S : S32768.Idx → F .f32) : sProp 𝕄 := (sHb).view.loc (vt d L) ↦{q} S
abbrev gSh (q : PosShare TreeShare) (G : S32768.Idx → BitVec 32) : sProp 𝕄 := (gHb).view.loc (vt d L) ↦{q} G

/-- The write of the lanes over the whole of a sixteen-word buffer. -/
theorem write_c (p v : S16.Idx → F .f32) :
    ((cV).access (Rect.unit (s := S16) ![0] S16.size inb_S16_S16_0)).write (Elt F) p v Finset.univ = v :=
  (read_write16 (F := F) (cV).view p ![0] inb_S16_S16_0 v).trans (upd16_all _ _)
theorem write_z (p v : S16.Idx → F .f32) :
    ((zV).access (Rect.unit (s := S16) ![0] S16.size inb_S16_S16_0)).write (Elt F) p v Finset.univ = v :=
  (read_write16 (F := F) (zV).view p ![0] inb_S16_S16_0 v).trans (upd16_all _ _)

/-- The slices the tile fetches, read. -/
theorem read_x (t : Fin k1_t1_loop.trips) (X : S32768x128.Idx → F .f32) :
    View.read (Elt F) ((xHb).slice (Rect.unit (s := S32768x128) (k1_off1 L t) S256x128.size (k1_off1_inb L t)) (fun _ => rfl)).view X = part2 X (chunkOf L t) := by
  funext j
  refine congrArg X (funext fun a => ?_)
  match a with
  | 0 => exact Fin.ext (by
      show k1_off1 L t 0 + 1 * (j 0).val = 256 * (8 * (L 1).val + 4 * (L 0).val + t.val) + (j 0).val
      rw [congrFun (k1_off1_eq L t) 0]
      show 2048 * (L 1).val + 1024 * (L 0).val + 256 * t.val + 1 * (j 0).val = _
      omega)
  | 1 => exact Fin.ext (by
      show k1_off1 L t 1 + 1 * (j 1).val = (j 1).val
      rw [congrFun (k1_off1_eq L t) 1]
      show 0 + 1 * (j 1).val = _
      omega)

theorem ix_off2 (t : Fin k1_t1_loop.trips) (j : S256.Idx) :
    (Rect.unit (s := S32768) (k1_off2 L t) S256.size (k1_off2_inb L t)).emb j
      = ix1 ⟨256 * (chunkOf L t).val + (j 0).val, by have : (j 0).val < 256 := (j 0).isLt; have := (chunkOf L t).isLt; omega⟩ := by
  funext a
  match a with
  | 0 => exact Fin.ext (by
      show k1_off2 L t 0 + 1 * (j 0).val = 256 * (8 * (L 1).val + 4 * (L 0).val + t.val) + (j 0).val
      rw [congrFun (k1_off2_eq L t) 0]
      show 2048 * (L 1).val + 1024 * (L 0).val + 256 * t.val + 1 * (j 0).val = _
      omega)
theorem read_s (t : Fin k1_t1_loop.trips) (S : S32768.Idx → F .f32) :
    View.read (Elt F) ((sHb).slice (Rect.unit (s := S32768) (k1_off2 L t) S256.size (k1_off2_inb L t)) (fun _ => rfl)).view S = part1 S (chunkOf L t) :=
  funext fun j => congrArg S (ix_off2 L t j)
theorem read_g (t : Fin k1_t1_loop.trips) (G : S32768.Idx → BitVec 32) :
    View.read (Elt F) ((gHb).slice (Rect.unit (s := S32768) (k1_off2 L t) S256.size (k1_off2_inb L t)) (fun _ => rfl)).view G = part1 G (chunkOf L t) :=
  funext fun j => congrArg G (ix_off2 L t j)

/-- A copy on a semaphore at zero and the wait for it: the destination holds what the source reads. -/
theorem wp_copy {sp sp' : Space} {sh : Shape} {e : EltTy} {src : Memref sig .scVector sp sh e} {dst : Memref sig .scVector sp' sh e} {sem : DmaSem sig}
    {h1 : src.view.WordExact} {h2 : dst.view.WordExact} {h3 : DmaTarget.Typed (nD := nD) sp (.dma sem) (DmaTarget.here (p := (vt d L).2) dst)}
    {srcw : Memref sig .scVector sp sh e} {dstw : Memref sig .scVector sp' sh e} {h4 : srcw.view.WordExact} {h5 : dstw.view.WordExact}
    {α : Type} {k : PUnit → Prog (Node.TEff F L) α} {Q : α → sProp 𝕄}
    (O : CellTallies nD τ sig (HIx 1)) (W : Waits sig (HIx 1)) (hN : dstw.view.dmaCredit = dst.view.dmaCredit) (hN0 : 0 < dst.view.dmaCredit)
    (Sd : Finset (Idx (dst.view.loc (vt d L)))) (hSd : dst.view.set ⊆ Sd)
    (q : PosShare TreeShare) (fs : Buf (Elt F) (src.view.loc (vt d L))) (fd w : Buf (Elt F) (dst.view.loc (vt d L)))
    (hw : ∀ i ∈ Sd, dst.view.write (Elt F) fd (src.view.read (Elt F) fs) Finset.univ i = w i) :
    iprop(Transfers.MayWaits (vt d L) (none : HIx 1) O ∗ (src.view.loc (vt d L) ↦{q} fs) ∗ (dst.view.loc (vt d L) ↦[Sd]{fullShare} fd)
        ∗ semVal (vt d L, SemLoc.dma sem) 0 ∗ owesFrom (F := F) d L O W)
      ⊢ iprop((iprop((src.view.loc (vt d L) ↦{q} fs) ∗ (dst.view.loc (vt d L) ↦[Sd]{fullShare} w)
          ∗ semVal (vt d L, SemLoc.dma sem) 0 ∗ owesFrom (F := F) d L O W) -∗ wp frame (wpE (defs₀ (F := F)) 𝒱₀ (vt d L) none) Set.univ (k ⟨⟩) Q)
        -∗ wp frame (wpE (defs₀ (F := F)) 𝒱₀ (vt d L) none) Set.univ
          (Prog.lift (.enqueueDma src (DmaTarget.here (p := (vt d L).2) dst) (.dma sem) h1 h2 h3) >>= fun _ => Prog.lift (.waitDma2 sem srcw dstw h4 h5) >>= k) Q) := by
  iintro ⟨Hmw, Hs, Hd, Hv, %W', %hW', HO⟩ Hk
  ihave Hsp := (pointsTo_split_subset (q := q) (f := fs) (S := Finset.univ) (Finset.subset_univ src.view.set)).1 $$ Hs
  icases Hsp with ⟨Hs, Hsr⟩
  iapply (Transfers.wp_dmaLocal countersEmb 𝒱₀ (vt d L) none (src := src) (dst := dst) (none : HIx 1) dst.view.dmaCredit rfl hN0 hSd) $$ [Hs Hd Hv]
  · isplitl [Hs]; · iexact Hs
    isplitl [Hd]; · iexact Hd
    iexact Hv
  iintro Hfl
  iapply (Transfers.wp_waitLocalO countersEmb 𝒱₀ (vt d L) none (none : HIx 1) hN) $$ [Hfl HO Hmw]
  · isplitl [Hfl]; · iexact Hfl
    isplitl [HO]; · iexact HO
    iapply (Transfers.MayWaits.elim (SemLoc.dma sem)) $$ Hmw
  iintro ⟨⟨Hd, Hs⟩, Hv, HO⟩
  iapply Hk
  ihave Hs := (pointsTo_split_subset (q := q) (f := fs) (S := Finset.univ) (Finset.subset_univ src.view.set)).2 $$ [Hs Hsr]; · isplitl [Hs] <;> iassumption
  isplitl [Hs]; · iexact Hs
  isplitl [Hd]
  · iapply (Entails.of_eq (pointsTo_congr hw)); iexact Hd
  isplitl [Hv]; · iexact Hv
  iexists _
  isplitr
  swap; · iexact HO
  ipureintro
  intro p hp
  rcases Finset.mem_insert.mp hp with hp | hp
  · exact .inr (hp ▸ rfl)
  · exact hW' p hp

/-- The first segment number, as the program takes it out of the first sixteen. -/
theorem firstWord_rd (g : S256.Idx → BitVec 32) : firstWord (F := F) (rd16 g ![0] inb_S256_S16_0) = g (ix1 (0 : Fin 256)) := by
  refine congrArg g (funext fun a => ?_)
  match a with | 0 => rfl
/-- The last one, out of the last sixteen. -/
theorem lastWord_rd (g : S256.Idx → BitVec 32) :
    (extractAt ![0] (k1_pay173 (F := F) (rd16 g ![240] inb_S256_S16_240)) inpos_S1_p0 : BitVec 32) = g (ix1 (255 : Fin 256)) := by
  refine congrArg g (funext fun a => ?_)
  match a with | 0 => rfl

/-- The segments' loop run over all its trips gives the segments from the first to the last. -/
theorem segAll_of {op : FVec F S16 .f32 → FVec F S16 .f32 → FVec F S16 .f32} {nt : F .f32} {s : S256.Idx → F .f32}
    {g : S256.Idx → BitVec 32} {lo : BitVec 32} {m n : Nat} (h : m = n) :
    iterTo (n := m) (fun k acc => laneStep op nt s g (Scf.iv lo 1#32 k) acc) (broadcast S16 nt) m = segAll op nt s g lo n := by
  subst h; rfl

/-- The chunk's maxima and exponentials, once its nodes are fetched and its segments known. -/
theorem wp_firstTail (X : S32768x128.Idx → F .f32) (S : S32768.Idx → F .f32) (G : S32768.Idx → BitVec 32) (r : Fin 128)
    (hG : ∀ j, (G j).toNat < 16) (t1 : Fin k1_t1_loop.trips) (v1 : BitVec 32) (v8 v11 : Vec F S16 .i32) (v10 v13 : BitVec 32)
    (hv : v10 = firstWord (F := F) v8) (h10 : v10 = loSeg G r) (h13 : v13 = hiSeg G r) :
    iprop(sPts d L (part1 S r) ∗ gPts (F := F) d L (part1 G r) ∗ (∃ e, ePts d L e) ∗ (∃ c, cPts d L c) ∗ (∃ p, pPts d L p))
      ⊢ wp frame (wpE (defs₀ (F := F)) 𝒱₀ (vt d L) none) Set.univ
        (do
          have hw : k1_chk1 v10 v13 := (← Prog.lift (TpuEff.assume (k1_chk1 v10 v13) (k1_chk1.dec v10 v13))).down
          let v21 : FVec F S16 .f32 ← Scf.Loop.for (k1_t2_loop v10 v13) (k1_t2_ok v10 v13 hw) (k1_pay174 (F := F)) (k1_t2_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1 v8 v10 v13 hw)
          let v22 : FVec F S16 .f32 ← Scf.Loop.for (k1_t4_loop v10 v13) (k1_t4_ok v10 v13 hw) v21 (k1_t4_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1 v8 v10 v11 v13 hw)
          let _ ← Prog.lift (.load cV (Rect.unit (s := S16) ![0] S16.size inb_S16_S16_0).toLoadRect (View.loadsAt_vmem h_S16))
          Prog.lift (.store cV (Rect.unit (s := S16) ![0] S16.size inb_S16_S16_0) v22 Finset.univ (View.stores_vmem_bits_univ h_S16 rfl) (.inl rfl))
          let _ ← Scf.Loop.for k1_t6_loop k1_t6_ok 0#32 (k1_t6_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1)
          pure ⟨v10, v13, hw⟩ : Prog (Node.TEff F L) (Σ' (v10 : BitVec 32) (v13 : BitVec 32), k1_chk1 v10 v13))
        (fun r' => iprop(⌜r'.1 = loSeg G r ∧ r'.2.1 = hiSeg G r⌝
          ∗ (∃ s, sPts d L s) ∗ gPts (F := F) d L (part1 G r) ∗ ePts d L (exOf S G r) ∗ cPts d L (cmOf S G r) ∗ (∃ p, pPts d L p))) := by
  have hlo : v10.toNat < 16 := h10 ▸ hG _
  have hhi : v13.toNat < 16 := h13 ▸ hG _
  obtain ⟨hchk, htr, htr4, -, -⟩ := loops_of hlo hhi
  iintro ⟨Hs, Hg, ⟨%e₀, He⟩, ⟨%c₀, Hc⟩, Hp⟩
  iapply (wp_assume 𝒱₀ (vt d L) none Set.univ hchk)
  ihave Hall : iprop((sPts d L (part1 S r) ∗ gPts (F := F) d L (part1 G r)) ∗ (∃ p, pPts d L p)) $$ [Hs Hg Hp]
  · isplitr [Hp]
    · isplitl [Hs] <;> iassumption
    · iexact Hp
  iapply (wp_for_iter_bind frame (wpE (defs₀ (F := F)) 𝒱₀ (vt d L) none) Set.univ _ _
    (fun k acc => wp_t2 d L v1 t1 v8 v10 v13 hv hchk k acc (part1 S r) (part1 G r))) $$ Hall
  iintro Hall
  iapply (wp_for_iter_bind frame (wpE (defs₀ (F := F)) 𝒱₀ (vt d L) none) Set.univ (fun _ a => a) iprop(emp)
    (fun k _ => absurd k.isLt (by show ¬ k.val < (k1_t4_loop v10 v13).trips; omega))) $$ []
  · iempintro
  iintro -
  iapply (wp_ld16 (vt d L) (m := cV) c₀ c₀ rfl) $$ Hc
  iintro Hc
  iapply (wp_st16 (vt d L) (m := cV) c₀ (cmOf S G r) ?_) $$ Hc
  · rw [write_c, iterTo_id]
    subst h10; subst h13
    exact segAll_of htr
  iintro Hc
  icases Hall with ⟨⟨Hs, Hg⟩, Hp⟩
  iapply (Scf.wp_for_bind frame (wpE (defs₀ (F := F)) 𝒱₀ (vt d L) none) Set.univ _ _ _ _ _ _
    (fun k _ => iprop(sPts d L (part1 S r) ∗ gPts (F := F) d L (part1 G r) ∗ cPts d L (cmOf S G r) ∗ ePts d L (expPart (part1 S r) (part1 G r) (cmOf S G r) e₀ k)))
    (fun k acc => wp_t6 d L v1 t1 (part1 S r) (part1 G r) (fun j => hG _) (cmOf S G r) e₀ k acc)) $$ [Hs Hg Hc He]
  · isplitl [Hs]; · iexact Hs
    isplitl [Hg]; · iexact Hg
    isplitl [Hc]; · iexact Hc
    iapply (Entails.of_eq (congrArg (ePts d L) (show e₀ = expPart (part1 S r) (part1 G r) (cmOf S G r) e₀ 0 from
      funext fun j => (if_neg (by omega)).symm))); iexact He
  iintro %_ ⟨Hs, Hg, Hc, He⟩
  iapply (wp_retv (vt d L))
  isplitr
  · ipureintro; exact ⟨h10, h13⟩
  isplitl [Hs]; · iexists _; iexact Hs
  isplitl [Hg]; · iexact Hg
  isplitl [He]
  · iapply (Entails.of_eq (congrArg (ePts d L) (show expPart (part1 S r) (part1 G r) (cmOf S G r) e₀ 16 = exOf S G r from
      funext fun j => if_pos (by have : (j 0).val < 256 := (j 0).isLt; omega)))); iexact He
  isplitl [Hc]; · iexact Hc
  iexact Hp

set_option maxHeartbeats 1600000 in
/-- The chunk up to its exponentials. -/
theorem wp_first (O : CellTallies nD τ sig (HIx 1)) (W : Waits sig (HIx 1)) (q : PosShare TreeShare) (X : S32768x128.Idx → F .f32)
    (S : S32768.Idx → F .f32) (G : S32768.Idx → BitVec 32) (hG : ∀ j, (G j).toNat < 16) (t1 : Fin k1_t1_loop.trips) (v1 : BitVec 32) :
    iprop(Transfers.MayWaits (vt d L) (none : HIx 1) O ∗ xSh d L q X ∗ sSh d L q S ∗ gSh (F := F) d L q G
        ∗ (∃ x, xPts d L x) ∗ (∃ s, sPts d L s) ∗ (∃ g, gPts (F := F) d L g) ∗ (∃ e, ePts d L e) ∗ (∃ c, cPts d L c) ∗ (∃ p, pPts d L p)
        ∗ semVal (vt d L, SemLoc.dma cc1_scoped0.sem) 0 ∗ semVal (vt d L, SemLoc.dma cc1_scoped1.sem) 0 ∗ semVal (vt d L, SemLoc.dma cc1_scoped2.sem) 0
        ∗ owesFrom (F := F) d L O W)
      ⊢ wp frame (wpE (defs₀ (F := F)) 𝒱₀ (vt d L) none) Set.univ
        (k1_part42 (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes 0#32 1#32 t1)
        (fun r => iprop(⌜r.1 = loSeg G (chunkOf L t1) ∧ r.2.1 = hiSeg G (chunkOf L t1)⌝
          ∗ Transfers.MayWaits (vt d L) (none : HIx 1) O ∗ xSh d L q X ∗ sSh d L q S ∗ gSh (F := F) d L q G
          ∗ xPts d L (part2 X (chunkOf L t1)) ∗ (∃ s, sPts d L s) ∗ gPts (F := F) d L (part1 G (chunkOf L t1)) ∗ ePts d L (exOf S G (chunkOf L t1))
          ∗ cPts d L (cmOf S G (chunkOf L t1)) ∗ (∃ p, pPts d L p)
          ∗ semVal (vt d L, SemLoc.dma cc1_scoped0.sem) 0 ∗ semVal (vt d L, SemLoc.dma cc1_scoped1.sem) 0 ∗ semVal (vt d L, SemLoc.dma cc1_scoped2.sem) 0
          ∗ owesFrom (F := F) d L O W)) := by
  have hlo : (loSeg G (chunkOf L t1)).toNat < 16 := hG _
  have hhi : (hiSeg G (chunkOf L t1)).toNat < 16 := hG _
  obtain ⟨hchk, htr, htr4, -, -⟩ := loops_of hlo hhi
  rw [k1_part42_eq_skeleton]
  unfold k1_part42_skel
  iintro ⟨#Hmw, HX, HS, HG, ⟨%x₀, Hx⟩, ⟨%s₀, Hs⟩, ⟨%g₀, Hg⟩, ⟨%e₀, He⟩, ⟨%c₀, Hc⟩, Hp, Hm0, Hm1, Hm2, HO⟩
  iapply (wp_copy d L O W rfl (View.dmaCredit_pos _ (show 0 < S256x128.numel by decide)) Finset.univ (Finset.subset_univ _) q X x₀ (part2 X (chunkOf L t1))
    (fun i _ => by rw [read_x]; exact congrFun (View.write_whole_univ _ _ _) i)) $$ [Hmw HX Hx Hm0 HO]
  · isplitr; · iexact Hmw
    isplitl [HX]; · iexact HX
    isplitl [Hx]; · iexact Hx
    isplitl [Hm0] <;> iassumption
  iintro ⟨HX, Hx, Hm0, HO⟩
  iapply (wp_copy d L O W rfl (View.dmaCredit_pos _ (show 0 < S256.numel by decide)) Finset.univ (Finset.subset_univ _) q S s₀ (part1 S (chunkOf L t1))
    (fun i _ => by rw [read_s]; exact congrFun (View.write_whole_univ _ _ _) i)) $$ [Hmw HS Hs Hm1 HO]
  · isplitr; · iexact Hmw
    isplitl [HS]; · iexact HS
    isplitl [Hs]; · iexact Hs
    isplitl [Hm1] <;> iassumption
  iintro ⟨HS, Hs, Hm1, HO⟩
  iapply (wp_copy d L O W rfl (View.dmaCredit_pos _ (show 0 < S256.numel by decide)) Finset.univ (Finset.subset_univ _) q G g₀ (part1 G (chunkOf L t1))
    (fun i _ => by rw [read_g]; exact congrFun (View.write_whole_univ _ _ _) i)) $$ [Hmw HG Hg Hm2 HO]
  · isplitr; · iexact Hmw
    isplitl [HG]; · iexact HG
    isplitl [Hg]; · iexact Hg
    isplitl [Hm2] <;> iassumption
  iintro ⟨HG, Hg, Hm2, HO⟩
  iapply (wp_ld16 (vt d L) (m := gV) (part1 G (chunkOf L t1)) (part1 G (chunkOf L t1)) rfl) $$ Hg
  iintro Hg
  iapply (wp_ld16 (vt d L) (m := gV) (part1 G (chunkOf L t1)) (part1 G (chunkOf L t1)) rfl) $$ Hg
  iintro Hg
  have e10 : (extractAt ![0] (k1_pay172 (F := F) (rd16 (part1 G (chunkOf L t1)) ![0] inb_S256_S16_0)) inpos_S1_p0 : BitVec 32) = loSeg G (chunkOf L t1) := firstWord_rd _
  have e13 : (extractAt ![0] (k1_pay173 (F := F) (rd16 (part1 G (chunkOf L t1)) ![240] inb_S256_S16_240)) inpos_S1_p0 : BitVec 32) = hiSeg G (chunkOf L t1) := lastWord_rd _
  have hrun := wp_firstTail d L X S G (chunkOf L t1) hG t1 v1 (rd16 (part1 G (chunkOf L t1)) ![0] inb_S256_S16_0) (rd16 (part1 G (chunkOf L t1)) ![240] inb_S256_S16_240)
    _ _ rfl e10 e13
  iapply (wp_wand_r frame (wpE (defs₀ (F := F)) 𝒱₀ (vt d L) none) Set.univ)
  isplitl [Hs Hg He Hc Hp]
  · iapply hrun
    isplitl [Hs]; · iexact Hs
    isplitl [Hg]; · iexact Hg
    isplitl [He]; · iexists _; iexact He
    isplitl [Hc]; · iexists _; iexact Hc
    iexact Hp
  iintro %r' ⟨%hr, Hs, Hg, He, Hc, Hp⟩
  isplitr; · ipureintro; exact hr
  isplitr; · iexact Hmw
  isplitl [HX]; · iexact HX
  isplitl [HS]; · iexact HS
  isplitl [HG]; · iexact HG
  isplitl [Hx]; · iexact Hx
  isplitl [Hs]; · iexact Hs
  isplitl [Hg]; · iexact Hg
  isplitl [He]; · iexact He
  isplitl [Hc]; · iexact Hc
  isplitl [Hp]; · iexact Hp
  isplitl [Hm0]; · iexact Hm0
  isplitl [Hm1]; · iexact Hm1
  isplitl [Hm2]; · iexact Hm2
  iexact HO

end Cert.Proof
-- ==== Proof.Rows.lean ====
/-
  The second half of a chunk — sums, weighted rows, the results written out to the chunk's rows — and the loop over
  a tile's chunks.
-/
module

public import proofs.«01_k».proof.Proof.Chunk

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The rows of the three results -/

theorem div16 : 128 ∣ S128x16.size 0 := ⟨1, rfl⟩
theorem div2048 : 128 ∣ S128x2048.size 0 := ⟨1, rfl⟩
abbrev row16 (r : Fin 128) : Rect S128x16 := Rect.part (s := S128x16) (a₀ := 0) div16 r
abbrev row2048 (r : Fin 128) : Rect S128x2048 := Rect.part (s := S128x2048) (a₀ := 0) div2048 r
abbrev mSet (r : Fin 128) : Finset S128x16.Idx := ((mHb).view.slice (row16 r)).set
abbrev zSet (r : Fin 128) : Finset S128x16.Idx := ((zHb).view.slice (row16 r)).set
abbrev nSet (r : Fin 128) : Finset S128x2048.Idx := ((nHb).view.slice (row2048 r)).set

abbrev mLoc (d : Dev nD) : Loc nD τ sig := (SparseCore.T d).loc main_v3_0
abbrev zLoc (d : Dev nD) : Loc nD τ sig := (SparseCore.T d).loc main_v3_1
abbrev nLoc (d : Dev nD) : Loc nD τ sig := (SparseCore.T d).loc main_v3_2

/-- Row `r` of the three results. -/
abbrev mRow (d : Dev nD) (r : Fin 128) (f : S128x16.Idx → F .f32) : sProp 𝕄 := mLoc d ↦[mSet r]{fullShare} f
abbrev zRow (d : Dev nD) (r : Fin 128) (f : S128x16.Idx → F .f32) : sProp 𝕄 := zLoc d ↦[zSet r]{fullShare} f
abbrev nRow (d : Dev nD) (r : Fin 128) (f : S128x2048.Idx → F .f32) : sProp 𝕄 := nLoc d ↦[nSet r]{fullShare} f

/-- The three results, every chunk's row. -/
def msAll (S : S32768.Idx → F .f32) (G : S32768.Idx → BitVec 32) : S128x16.Idx → F .f32 := fun j => cmOf S G (j 0) (ix1 (n := 16) (j 1))
def zsAll (S : S32768.Idx → F .f32) (G : S32768.Idx → BitVec 32) : S128x16.Idx → F .f32 := fun j => zsOf S G (j 0) (ix1 (n := 16) (j 1))
def nsAll (X : S32768x128.Idx → F .f32) (S : S32768.Idx → F .f32) (G : S32768.Idx → BitVec 32) : S128x2048.Idx → F .f32 :=
  fun j => nmOf X S G (j 0) (ix1 (n := 2048) (j 1))

variable (d : Dev nD) (L : grid1.Coords)

abbrev rk16 (t : Fin k1_t1_loop.trips) : Rect S128x16 := Rect.unit (s := S128x16) (k1_off155 L t) S1x16.size (k1_off155_inb L t)
abbrev rk2048 (t : Fin k1_t1_loop.trips) : Rect S128x2048 := Rect.unit (s := S128x2048) (k1_off156 L t) S1x2048.size (k1_off156_inb L t)

theorem rk16_eq (t : Fin k1_t1_loop.trips) : rk16 L t = row16 (chunkOf L t) := by
  unfold rk16 row16 Rect.part Rect.block
  congr 1 <;> funext a
  · rw [k1_off155_eq]
    match a with
    | 0 => simp [Shape.partIx, Shape.partSize, chunkOf]
    | 1 => simp [Shape.partIx, Shape.partSize]
  · match a with
    | 0 => simp [Shape.partSize]
    | 1 => simp [Shape.partSize]
theorem rk2048_eq (t : Fin k1_t1_loop.trips) : rk2048 L t = row2048 (chunkOf L t) := by
  unfold rk2048 row2048 Rect.part Rect.block
  congr 1 <;> funext a
  · rw [k1_off156_eq]
    match a with
    | 0 => simp [Shape.partIx, Shape.partSize, chunkOf]
    | 1 => simp [Shape.partIx, Shape.partSize]
  · match a with
    | 0 => simp [Shape.partSize]
    | 1 => simp [Shape.partSize]

/-- The rows as the tile addresses them. -/
abbrev mDst (t : Fin k1_t1_loop.trips) : Memref sig .scVector .hbm S16 .f32 := ((mHb).slice (rk16 L t) (fun _ => rfl)).squeeze S16 squeezes_S1x16_S16
abbrev zDst (t : Fin k1_t1_loop.trips) : Memref sig .scVector .hbm S16 .f32 := ((zHb).slice (rk16 L t) (fun _ => rfl)).squeeze S16 squeezes_S1x16_S16
abbrev nDst (t : Fin k1_t1_loop.trips) : Memref sig .scVector .hbm S2048 .f32 := ((nHb).slice (rk2048 L t) (fun _ => rfl)).squeeze S2048 squeezes_S1x2048_S2048

theorem set_mDst (t : Fin k1_t1_loop.trips) : (mDst L t).view.set = mSet (chunkOf L t) := by
  show (((mHb).view.slice (rk16 L t)).reshape S16 squeezes_S1x16_S16.numel_eq).set = _
  rw [View.set_reshape]
  refine (View.set_slice _ _).trans (Eq.trans ?_ (View.set_slice _ _).symm)
  exact congrArg (Finset.map _) (congrArg (fun R => R.set) (rk16_eq L t))
theorem set_zDst (t : Fin k1_t1_loop.trips) : (zDst L t).view.set = zSet (chunkOf L t) := by
  show (((zHb).view.slice (rk16 L t)).reshape S16 squeezes_S1x16_S16.numel_eq).set = _
  rw [View.set_reshape]
  refine (View.set_slice _ _).trans (Eq.trans ?_ (View.set_slice _ _).symm)
  exact congrArg (Finset.map _) (congrArg (fun R => R.set) (rk16_eq L t))
theorem set_nDst (t : Fin k1_t1_loop.trips) : (nDst L t).view.set = nSet (chunkOf L t) := by
  show (((nHb).view.slice (rk2048 L t)).reshape S2048 squeezes_S1x2048_S2048.numel_eq).set = _
  rw [View.set_reshape]
  refine (View.set_slice _ _).trans (Eq.trans ?_ (View.set_slice _ _).symm)
  exact congrArg (Finset.map _) (congrArg (fun R => R.set) (rk2048_eq L t))

/-- The element of a row a squeezed index names. -/
theorem emb16 (t : Fin k1_t1_loop.trips) (j : S16.Idx) :
    (rk16 L t).emb (Shape.reshapeEquiv squeezes_S1x16_S16.numel_eq j) = fun a => match a with | 0 => chunkOf L t | 1 => (j 0 : Fin 16) := by
  have hk : (S1x16.rowMajor (fun a => match a with | 0 => (0 : Fin 1) | 1 => (j 0 : Fin 16))).val = (S16.rowMajor j).val := by
    rw [Shape.rowMajor_val_one, Shape.rowMajor_val_two]
    show 0 * 16 + (j 0).val = (j 0).val
    omega
  rw [Shape.reshapeEquiv_eq_of_rowMajor squeezes_S1x16_S16.numel_eq hk]
  funext a
  match a with
  | 0 => exact Fin.ext (by show k1_off155 L t 0 + 1 * 0 = _; rw [congrFun (k1_off155_eq L t) 0]; rfl)
  | 1 => exact Fin.ext (by show k1_off155 L t 1 + 1 * (j 0).val = (j 0).val; rw [congrFun (k1_off155_eq L t) 1]; show 0 + 1 * (j 0).val = _; omega)
theorem emb2048 (t : Fin k1_t1_loop.trips) (j : S2048.Idx) :
    (rk2048 L t).emb (Shape.reshapeEquiv squeezes_S1x2048_S2048.numel_eq j) = fun a => match a with | 0 => chunkOf L t | 1 => (j 0 : Fin 2048) := by
  have hk : (S1x2048.rowMajor (fun a => match a with | 0 => (0 : Fin 1) | 1 => (j 0 : Fin 2048))).val = (S2048.rowMajor j).val := by
    rw [Shape.rowMajor_val_one, Shape.rowMajor_val_two]
    show 0 * 2048 + (j 0).val = (j 0).val
    omega
  rw [Shape.reshapeEquiv_eq_of_rowMajor squeezes_S1x2048_S2048.numel_eq hk]
  funext a
  match a with
  | 0 => exact Fin.ext (by show k1_off156 L t 0 + 1 * 0 = _; rw [congrFun (k1_off156_eq L t) 0]; rfl)
  | 1 => exact Fin.ext (by show k1_off156 L t 1 + 1 * (j 0).val = (j 0).val; rw [congrFun (k1_off156_eq L t) 1]; show 0 + 1 * (j 0).val = _; omega)

/-- What a row holds once written. -/
theorem write_m (t : Fin k1_t1_loop.trips) (fd : S128x16.Idx → F .f32) (v : S16.Idx → F .f32) (w : S128x16.Idx → F .f32)
    (h : ∀ j : S16.Idx, v j = w (fun a => match a with | 0 => chunkOf L t | 1 => (j 0 : Fin 16))) :
    ∀ i ∈ mSet (chunkOf L t), (mDst L t).view.write (Elt F) fd v Finset.univ i = w i := by
  intro i hi
  rw [← set_mDst] at hi
  obtain ⟨j, -, rfl⟩ := Finset.mem_map.mp hi
  rw [View.write_emb_of_mem _ _ (Finset.mem_univ j)]
  exact (h j).trans (congrArg w (emb16 L t j).symm)
theorem write_zr (t : Fin k1_t1_loop.trips) (fd : S128x16.Idx → F .f32) (v : S16.Idx → F .f32) (w : S128x16.Idx → F .f32)
    (h : ∀ j : S16.Idx, v j = w (fun a => match a with | 0 => chunkOf L t | 1 => (j 0 : Fin 16))) :
    ∀ i ∈ zSet (chunkOf L t), (zDst L t).view.write (Elt F) fd v Finset.univ i = w i := by
  intro i hi
  rw [← set_zDst] at hi
  obtain ⟨j, -, rfl⟩ := Finset.mem_map.mp hi
  rw [View.write_emb_of_mem _ _ (Finset.mem_univ j)]
  exact (h j).trans (congrArg w (emb16 L t j).symm)
theorem write_n (t : Fin k1_t1_loop.trips) (fd : S128x2048.Idx → F .f32) (v : S2048.Idx → F .f32) (w : S128x2048.Idx → F .f32)
    (h : ∀ j : S2048.Idx, v j = w (fun a => match a with | 0 => chunkOf L t | 1 => (j 0 : Fin 2048))) :
    ∀ i ∈ nSet (chunkOf L t), (nDst L t).view.write (Elt F) fd v Finset.univ i = w i := by
  intro i hi
  rw [← set_nDst] at hi
  obtain ⟨j, -, rfl⟩ := Finset.mem_map.mp hi
  rw [View.write_emb_of_mem _ _ (Finset.mem_univ j)]
  exact (h j).trans (congrArg w (emb2048 L t j).symm)

/-! ## The second half -/

set_option maxRecDepth 16384 in
set_option maxHeartbeats 1600000 in
theorem wp_second (O : CellTallies nD τ sig (HIx 1)) (W : Waits sig (HIx 1)) (X : S32768x128.Idx → F .f32)
    (S : S32768.Idx → F .f32) (G : S32768.Idx → BitVec 32) (hG : ∀ j, (G j).toNat < 16) (t1 : Fin k1_t1_loop.trips)
    (v10 v13 : BitVec 32) (hw : k1_chk1 v10 v13) (h10 : v10 = loSeg G (chunkOf L t1)) (h13 : v13 = hiSeg G (chunkOf L t1))
    (m₀ z₀ : S128x16.Idx → F .f32) :
    iprop(Transfers.MayWaits (vt d L) (none : HIx 1) O
        ∗ xPts d L (part2 X (chunkOf L t1)) ∗ gPts (F := F) d L (part1 G (chunkOf L t1)) ∗ ePts d L (exOf S G (chunkOf L t1)) ∗ cPts d L (cmOf S G (chunkOf L t1))
        ∗ (∃ z, zPts d L z) ∗ (∃ a, aPts d L a) ∗ (∃ p, pPts d L p) ∗ mRow d (chunkOf L t1) m₀ ∗ zRow d (chunkOf L t1) z₀
        ∗ semVal (vt d L, SemLoc.dma cc1_scoped3.sem) 0 ∗ semVal (vt d L, SemLoc.dma cc1_scoped4.sem) 0
        ∗ owesFrom (F := F) d L O W)
      ⊢ wp frame (wpE (defs₀ (F := F)) 𝒱₀ (vt d L) none) Set.univ
        (k1_part43 (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 lanes t1 v10 v13 hw)
        (fun _ => iprop(xPts d L (part2 X (chunkOf L t1)) ∗ gPts (F := F) d L (part1 G (chunkOf L t1)) ∗ ePts d L (exOf S G (chunkOf L t1)) ∗ (∃ c, cPts d L c)
          ∗ (∃ z, zPts d L z) ∗ aPts d L (nmOf X S G (chunkOf L t1)) ∗ (∃ p, pPts d L p) ∗ mRow d (chunkOf L t1) (msAll S G) ∗ zRow d (chunkOf L t1) (zsAll S G)
          ∗ semVal (vt d L, SemLoc.dma cc1_scoped3.sem) 0 ∗ semVal (vt d L, SemLoc.dma cc1_scoped4.sem) 0
          ∗ owesFrom (F := F) d L O W)) := by
  have hlo : v10.toNat < 16 := h10 ▸ hG _
  have hhi : v13.toNat < 16 := h13 ▸ hG _
  obtain ⟨-, -, -, htr, htr9⟩ := loops_of hlo hhi
  rw [k1_part43_eq_skeleton]
  unfold k1_part43_skel
  iintro ⟨#Hmw, Hx, Hg, He, Hc, ⟨%y₀, Hz⟩, ⟨%a₀, Ha⟩, Hp, Hmr, Hzr, Hm3, Hm4, HO⟩
  ihave Hall : iprop((ePts d L (exOf S G (chunkOf L t1)) ∗ gPts (F := F) d L (part1 G (chunkOf L t1))) ∗ (∃ p, pPts d L p)) $$ [He Hg Hp]
  · isplitr [Hp]
    · isplitl [He] <;> iassumption
    · iexact Hp
  iapply (wp_for_iter_bind frame (wpE (defs₀ (F := F)) 𝒱₀ (vt d L) none) Set.univ _ _
    (fun k acc => wp_t7 d L t1 v10 v13 hw k acc (exOf S G (chunkOf L t1)) (part1 G (chunkOf L t1)))) $$ Hall
  iintro Hall
  iapply (wp_for_iter_bind frame (wpE (defs₀ (F := F)) 𝒱₀ (vt d L) none) Set.univ (fun _ a => a) iprop(emp)
    (fun k _ => absurd k.isLt (by show ¬ k.val < (k1_t9_loop v10 v13).trips; omega))) $$ []
  · iempintro
  iintro -
  iapply (wp_ld16 (vt d L) (m := zV) y₀ y₀ rfl) $$ Hz
  iintro Hz
  iapply (wp_st16 (vt d L) (m := zV) y₀ (zsOf S G (chunkOf L t1)) ?_) $$ Hz
  · rw [write_z, iterTo_id]
    subst h10; subst h13
    exact segAll_of htr
  iintro Hz
  icases Hall with ⟨⟨He, Hg⟩, Hp⟩
  iapply (Scf.wp_for_bind frame (wpE (defs₀ (F := F)) 𝒱₀ (vt d L) none) Set.univ _ _ _ _ _ _
    (fun k _ => aPts d L (fun j => if (j 0).val < 16 * k then Scalar.ofBits .f32 0x00000000#32 else a₀ j))
    (fun k acc => wp_t11 d L t1 v10 v13 hw a₀ k acc)) $$ [Ha]
  · iapply (Entails.of_eq (congrArg (aPts d L) (show a₀ = (fun j => if (j 0).val < 16 * 0 then Scalar.ofBits .f32 0x00000000#32 else a₀ j) from
      funext fun j => (if_neg (by omega)).symm))); iexact Ha
  iintro %_ Ha
  iapply (Scf.wp_for_bind frame (wpE (defs₀ (F := F)) 𝒱₀ (vt d L) none) Set.univ _ _ _ _ _ _
    (fun k _ => iprop(gPts (F := F) d L (part1 G (chunkOf L t1)) ∗ ePts d L (exOf S G (chunkOf L t1)) ∗ xPts d L (part2 X (chunkOf L t1))
      ∗ aPts d L (accAll (part2 X (chunkOf L t1)) (exOf S G (chunkOf L t1)) (part1 G (chunkOf L t1)) (16 * k))))
    (fun k acc => wp_t12 d L (part2 X (chunkOf L t1)) (exOf S G (chunkOf L t1)) (part1 G (chunkOf L t1)) (fun j => hG _) t1 v10 v13 hw k acc)) $$ [Hg He Hx Ha]
  · isplitl [Hg]; · iexact Hg
    isplitl [He]; · iexact He
    isplitl [Hx]; · iexact Hx
    iapply (Entails.of_eq (congrArg (aPts d L) (show (fun j : S2048.Idx => if (j 0).val < 16 * 128 then Scalar.ofBits .f32 0x00000000#32 else a₀ j)
        = accAll (part2 X (chunkOf L t1)) (exOf S G (chunkOf L t1)) (part1 G (chunkOf L t1)) (16 * 0) from
      funext fun j => if_pos (by have : (j 0).val < 2048 := (j 0).isLt; omega)))); iexact Ha
  iintro %_ ⟨Hg, He, Hx, Ha⟩
  iapply (wp_copy d L (src := cV) (dst := mDst L t1) O W rfl (View.dmaCredit_pos _ (show 0 < S16.numel by decide)) (mSet (chunkOf L t1)) (by rw [set_mDst]) fullShare
    (cmOf S G (chunkOf L t1)) m₀ (msAll S G) (write_m L t1 m₀ _ _ (fun j => congrArg (cmOf S G (chunkOf L t1)) (ix1_eta j).symm))) $$ [Hmw Hc Hmr Hm3 HO]
  · isplitr; · iexact Hmw
    isplitl [Hc]; · iexact Hc
    isplitl [Hmr]; · iexact Hmr
    isplitl [Hm3] <;> iassumption
  iintro ⟨Hc, Hmr, Hm3, HO⟩
  iapply (wp_copy d L (src := zV) (dst := zDst L t1) O W rfl (View.dmaCredit_pos _ (show 0 < S16.numel by decide)) (zSet (chunkOf L t1)) (by rw [set_zDst]) fullShare
    (zsOf S G (chunkOf L t1)) z₀ (zsAll S G) (write_zr L t1 z₀ _ _ (fun j => congrArg (zsOf S G (chunkOf L t1)) (ix1_eta j).symm))) $$ [Hmw Hz Hzr Hm4 HO]
  · isplitr; · iexact Hmw
    isplitl [Hz]; · iexact Hz
    isplitl [Hzr]; · iexact Hzr
    isplitl [Hm4] <;> iassumption
  iintro ⟨Hz, Hzr, Hm4, HO⟩
  iapply (wp_retv (vt d L))
  isplitl [Hx]; · iexact Hx
  isplitl [Hg]; · iexact Hg
  isplitl [He]; · iexact He
  isplitl [Hc]; · iexists _; iexact Hc
  isplitl [Hz]; · iexists _; iexact Hz
  isplitl [Ha]; · iexact Ha
  isplitl [Hp]; · iexact Hp
  isplitl [Hmr]; · iexact Hmr
  isplitl [Hzr]; · iexact Hzr
  isplitl [Hm3]; · iexact Hm3
  isplitl [Hm4]; · iexact Hm4
  iexact HO

/-! ## The loop over a tile's chunks -/

/-- The row of trip `t` after `k` trips. -/
def rowsAt (X : S32768x128.Idx → F .f32) (S : S32768.Idx → F .f32) (G : S32768.Idx → BitVec 32) (m₀ z₀ : S128x16.Idx → F .f32)
    (n₀ : S128x2048.Idx → F .f32) (k : Nat) (t : Fin k1_t1_loop.trips) : sProp 𝕄 :=
  if t.val < k then iprop(mRow d (chunkOf L t) (msAll S G) ∗ zRow d (chunkOf L t) (zsAll S G) ∗ nRow d (chunkOf L t) (nsAll X S G))
  else iprop(mRow d (chunkOf L t) m₀ ∗ zRow d (chunkOf L t) z₀ ∗ nRow d (chunkOf L t) n₀)

/-- The tile's scratch buffers, at any contents. -/
def scratch : sProp 𝕄 :=
  iprop((∃ x, xPts (F := F) d L x) ∗ (∃ s, sPts (F := F) d L s) ∗ (∃ g, gPts (F := F) d L g) ∗ (∃ e, ePts (F := F) d L e) ∗ (∃ c, cPts (F := F) d L c)
    ∗ (∃ z, zPts (F := F) d L z) ∗ (∃ a, aPts (F := F) d L a) ∗ (∃ p, pPts (F := F) d L p))

/-- The tile's copies' semaphores at zero. -/
def sems0 : sProp 𝕄 :=
  iprop(semVal (vt d L, SemLoc.dma cc1_scoped0.sem) 0 ∗ semVal (vt d L, SemLoc.dma cc1_scoped1.sem) 0 ∗ semVal (vt d L, SemLoc.dma cc1_scoped2.sem) 0
    ∗ semVal (vt d L, SemLoc.dma cc1_scoped3.sem) 0 ∗ semVal (vt d L, SemLoc.dma cc1_scoped4.sem) 0 ∗ semVal (vt d L, SemLoc.dma cc1_scoped5.sem) 0)

/-- What the loop over the chunks keeps. -/
def tileInv (O : CellTallies nD τ sig (HIx 1)) (W : Waits sig (HIx 1)) (q : PosShare TreeShare) (X : S32768x128.Idx → F .f32)
    (S : S32768.Idx → F .f32) (G : S32768.Idx → BitVec 32) (m₀ z₀ : S128x16.Idx → F .f32) (n₀ : S128x2048.Idx → F .f32) (k : Nat) (_ : BitVec 32) : sProp 𝕄 :=
  iprop(Transfers.MayWaits (vt d L) (none : HIx 1) O ∗ xSh d L q X ∗ sSh d L q S ∗ gSh (F := F) d L q G ∗ scratch (F := F) d L ∗ sems0 (F := F) d L
    ∗ (bigSep Finset.univ fun t : Fin k1_t1_loop.trips => rowsAt d L X S G m₀ z₀ n₀ k t) ∗ owesFrom (F := F) d L O W)

set_option maxRecDepth 16384 in
set_option maxHeartbeats 1600000 in
theorem wp_t1 (O : CellTallies nD τ sig (HIx 1)) (W : Waits sig (HIx 1)) (q : PosShare TreeShare) (X : S32768x128.Idx → F .f32)
    (S : S32768.Idx → F .f32) (G : S32768.Idx → BitVec 32) (hG : ∀ j, (G j).toNat < 16) (m₀ z₀ : S128x16.Idx → F .f32) (n₀ : S128x2048.Idx → F .f32)
    (v1 : BitVec 32) (k : Fin k1_t1_loop.trips) (acc : BitVec 32) :
    tileInv d L O W q X S G m₀ z₀ n₀ k.val acc
      ⊢ wp frame (wpE (defs₀ (F := F)) 𝒱₀ (vt d L) none) Set.univ (k1_t1_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5 v1 lanes k acc)
        (fun r => tileInv d L O W q X S G m₀ z₀ n₀ (k.val + 1) r) := by
  unfold tileInv scratch sems0
  rw [SparseCore.bigSep_erase' (Finset.mem_univ k), SparseCore.bigSep_erase' (Finset.mem_univ k) (Φ := fun t => rowsAt d L X S G m₀ z₀ n₀ (k.val + 1) t)]
  have hrest : (bigSep (Finset.univ.erase k) fun t : Fin k1_t1_loop.trips => rowsAt d L X S G m₀ z₀ n₀ k.val t)
      = bigSep (Finset.univ.erase k) fun t => rowsAt d L X S G m₀ z₀ n₀ (k.val + 1) t := bigSep_congr fun t ht => by
    have hne : t.val ≠ k.val := fun e => (Finset.mem_erase.mp ht).1 (Fin.ext e)
    unfold rowsAt
    by_cases h : t.val < k.val
    · rw [if_pos h, if_pos (by omega)]
    · rw [if_neg h, if_neg (by omega)]
  rw [hrest, show rowsAt d L X S G m₀ z₀ n₀ k.val k = _ from if_neg (lt_irrefl _), show rowsAt d L X S G m₀ z₀ n₀ (k.val + 1) k = _ from if_pos (Nat.lt_succ_self _)]
  unfold k1_t1_body
  iintro ⟨#Hmw, HX, HS, HG, ⟨Hx, Hs, Hg, He, Hc, Hz, Ha, Hp⟩, ⟨Hm0, Hm1, Hm2, Hm3, Hm4, Hm5⟩, ⟨⟨Hmr, Hzr, Hnr⟩, Hrows⟩, HO⟩
  rw [wp_bind]
  iapply (wp_wand_r frame (wpE (defs₀ (F := F)) 𝒱₀ (vt d L) none) Set.univ)
  isplitl [HX HS HG Hx Hs Hg He Hc Hp Hm0 Hm1 Hm2 HO]
  · iapply (wp_first d L O W q X S G hG k v1)
    isplitr; · iexact Hmw
    isplitl [HX]; · iexact HX
    isplitl [HS]; · iexact HS
    isplitl [HG]; · iexact HG
    isplitl [Hx]; · iexact Hx
    isplitl [Hs]; · iexact Hs
    isplitl [Hg]; · iexact Hg
    isplitl [He]; · iexact He
    isplitl [Hc]; · iexact Hc
    isplitl [Hp]; · iexact Hp
    isplitl [Hm0]; · iexact Hm0
    isplitl [Hm1]; · iexact Hm1
    isplitl [Hm2]; · iexact Hm2
    iexact HO
  iintro %r ⟨%hr, -, HX, HS, HG, Hx, Hs, Hg, He, Hc, Hp, Hm0, Hm1, Hm2, HO⟩
  obtain ⟨v10, v13, hw⟩ := r
  beta_reduce
  rw [wp_bind]
  iapply (wp_wand_r frame (wpE (defs₀ (F := F)) 𝒱₀ (vt d L) none) Set.univ)
  isplitl [Hx Hg He Hc Hz Ha Hp Hmr Hzr Hm3 Hm4 HO]
  · iapply (wp_second d L O W X S G hG k v10 v13 hw hr.1 hr.2 m₀ z₀)
    isplitr; · iexact Hmw
    isplitl [Hx]; · iexact Hx
    isplitl [Hg]; · iexact Hg
    isplitl [He]; · iexact He
    isplitl [Hc]; · iexact Hc
    isplitl [Hz]; · iexact Hz
    isplitl [Ha]; · iexact Ha
    isplitl [Hp]; · iexact Hp
    isplitl [Hmr]; · iexact Hmr
    isplitl [Hzr]; · iexact Hzr
    isplitl [Hm3]; · iexact Hm3
    isplitl [Hm4]; · iexact Hm4
    iexact HO
  iintro %_ ⟨Hx, Hg, He, Hc, Hz, Ha, Hp, Hmr, Hzr, Hm3, Hm4, HO⟩
  iapply (wp_copy d L (src := aV) (dst := nDst L k) O W rfl (View.dmaCredit_pos _ (show 0 < S2048.numel by decide)) (nSet (chunkOf L k)) (by rw [set_nDst]) fullShare
    (nmOf X S G (chunkOf L k)) n₀ (nsAll X S G) (write_n L k n₀ _ _ (fun j => congrArg (nmOf X S G (chunkOf L k)) (ix1_eta j).symm))) $$ [Hmw Ha Hnr Hm5 HO]
  · isplitr; · iexact Hmw
    isplitl [Ha]; · iexact Ha
    isplitl [Hnr]; · iexact Hnr
    isplitl [Hm5] <;> iassumption
  iintro ⟨Ha, Hnr, Hm5, HO⟩
  iapply (wp_retv (vt d L))
  isplitr; · iexact Hmw
  isplitl [HX]; · iexact HX
  isplitl [HS]; · iexact HS
  isplitl [HG]; · iexact HG
  isplitl [Hx Hs Hg He Hc Hz Ha Hp]
  · isplitl [Hx]; · iexists _; iexact Hx
    isplitl [Hs]; · iexact Hs
    isplitl [Hg]; · iexists _; iexact Hg
    isplitl [He]; · iexists _; iexact He
    isplitl [Hc]; · iexact Hc
    isplitl [Hz]; · iexact Hz
    isplitl [Ha]; · iexists _; iexact Ha
    iexact Hp
  isplitl [Hm0 Hm1 Hm2 Hm3 Hm4 Hm5]
  · isplitl [Hm0]; · iexact Hm0
    isplitl [Hm1]; · iexact Hm1
    isplitl [Hm2]; · iexact Hm2
    isplitl [Hm3]; · iexact Hm3
    isplitl [Hm4]; · iexact Hm4
    iexact Hm5
  isplitl [Hmr Hzr Hnr Hrows]
  · isplitl [Hmr Hzr Hnr]
    · isplitl [Hmr]; · iexact Hmr
      isplitl [Hzr]; · iexact Hzr
      iexact Hnr
    · iexact Hrows
  iexact HO

/-- The tile's body. -/
theorem wp_tile (O : CellTallies nD τ sig (HIx 1)) (W : Waits sig (HIx 1)) (q : PosShare TreeShare) (X : S32768x128.Idx → F .f32)
    (S : S32768.Idx → F .f32) (G : S32768.Idx → BitVec 32) (hG : ∀ j, (G j).toNat < 16) (m₀ z₀ : S128x16.Idx → F .f32) (n₀ : S128x2048.Idx → F .f32) :
    tileInv d L O W q X S G m₀ z₀ n₀ 0 0#32
      ⊢ wp frame (wpE (defs₀ (F := F)) 𝒱₀ (vt d L) none) Set.univ (cc1__sc_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5)
        (fun _ => iprop(∃ r, tileInv d L O W q X S G m₀ z₀ n₀ 4 r)) := by
  rw [cc1__sc_body_eq_skeleton]
  unfold cc1__sc_body_skel
  iintro H
  iapply (Scf.wp_for_bind frame (wpE (defs₀ (F := F)) 𝒱₀ (vt d L) none) Set.univ _ _ _ _ _ _
    (fun k r => tileInv d L O W q X S G m₀ z₀ n₀ k r) (fun k acc => wp_t1 d L O W q X S G hG m₀ z₀ n₀ _ k acc)) $$ H
  iintro %r H
  iapply (wp_retv (vt d L))
  iexists r
  iexact H

end Cert.Proof
-- ==== Proof.Tile.lean ====
/-
  The call of the vector subcores: what it is handed and brings back, and its split over cores and tiles.
-/
module

public import proofs.«01_k».proof.Proof.Rows
public import Idealize.ShloMosaic.Lib.ShareLeaves

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.SparseCore.Cfg (tileRest ownBufs ownSems0 ownCells ownRefs mem_ownCells mem_ownRefs)
open Idealize.ShloMosaic.ShareLeaves (leaf pointsTo_leaves)

/-! ## Taking a list of members out of a separating conjunction -/

/-- The conjunction over a set with a list's members taken out one after the other. -/
def peeled {α : Type} [DecidableEq α] (Φ : α → sProp 𝕄) : List α → Finset α → sProp 𝕄
  | [], s => bigSep s Φ
  | a :: l, s => iprop(Φ a ∗ peeled Φ l (s.erase a))

theorem bigSep_peeled {α : Type} [DecidableEq α] (Φ : α → sProp 𝕄) :
    ∀ (l : List α) (s : Finset α), l.Nodup → (∀ a ∈ l, a ∈ s) → bigSep s Φ = peeled Φ l s
  | [], _, _, _ => rfl
  | a :: l, s, hn, hs => by
    rw [SparseCore.bigSep_erase' (hs a List.mem_cons_self), peeled,
      bigSep_peeled Φ l (s.erase a) (List.nodup_cons.mp hn).2 fun b hb => Finset.mem_erase.mpr
        ⟨fun e => (List.nodup_cons.mp hn).1 (e ▸ hb), hs b (List.mem_cons_of_mem _ hb)⟩]

/-! ## The operands and results -/

variable (m : (ℓ : Loc nD τ sig) → Buf (Elt F) ℓ)

abbrev xLoc (d : Dev nD) : Loc nD τ sig := (SparseCore.T d).loc main_arg1
abbrev sLoc (d : Dev nD) : Loc nD τ sig := (SparseCore.T d).loc main_v2
abbrev gLoc (d : Dev nD) : Loc nD τ sig := (SparseCore.T d).loc main_arg2

variable (Sc : (d : Dev nD) → Buf (Elt F) (sLoc d))

/-- The nodes' rows, scores and segments, read-only at share `q`. -/
abbrev reads (d : Dev nD) (q : PosShare TreeShare) : sProp 𝕄 :=
  iprop((xLoc d ↦{q} m (xLoc d)) ∗ (sLoc d ↦{q} Sc d) ∗ (gLoc d ↦{q} m (gLoc d)))

theorem trips_t1 : k1_t1_loop.trips = 4 := by decide

/-- The chunk that tile `i` of core `c` takes in trip `t`. -/
def rowOf (c : Fin 2) (i : Fin 16) (t : Fin k1_t1_loop.trips) : Fin 128 :=
  ⟨8 * i.val + 4 * c.val + t.val, by have := c.isLt; have := i.isLt; have : t.val < 4 := lt_of_lt_of_eq t.isLt trips_t1; omega⟩

/-- The rows of the results that one tile writes. -/
abbrev tileRows (d : Dev nD) (c : Fin 2) (i : Fin 16) (f g : S128x16.Idx → F .f32) (h : S128x2048.Idx → F .f32) : sProp 𝕄 :=
  bigSep Finset.univ fun t : Fin k1_t1_loop.trips => iprop(mRow d (rowOf c i t) f ∗ zRow d (rowOf c i t) g ∗ nRow d (rowOf c i t) h)

/-- A tile's rows as the launch left them, and as the call leaves them. -/
abbrev rowsIn (d : Dev nD) (c : Fin 2) (i : Fin 16) : sProp 𝕄 := tileRows d c i (m (mLoc d)) (m (zLoc d)) (m (nLoc d))
abbrev rowsOut (d : Dev nD) (c : Fin 2) (i : Fin 16) : sProp 𝕄 :=
  tileRows d c i (msAll (Sc d) (m (gLoc d))) (zsAll (Sc d) (m (gLoc d))) (nsAll (m (xLoc d)) (Sc d) (m (gLoc d)))

abbrev coreShare (c : Fin 2) : PosShare TreeShare := leaf 1 fullShare c
abbrev tileShare (c : Fin 2) (i : Fin 16) : PosShare TreeShare := leaf 4 (coreShare c) i

theorem nCore_zero : (K (F := F)).nCore 0 = 2 := rfl

abbrev coreIn (d : Dev nD) (c : Fin 2) : sProp 𝕄 := iprop(reads m Sc d (coreShare c) ∗ bigSep Finset.univ fun i : Fin 16 => rowsIn m d c i)
abbrev coreOut (d : Dev nD) (c : Fin 2) : sProp 𝕄 := iprop(reads m Sc d (coreShare c) ∗ bigSep Finset.univ fun i : Fin 16 => rowsOut m Sc d c i)
abbrev tileIn (d : Dev nD) (c : Fin 2) (i : Fin 16) : sProp 𝕄 := iprop(reads m Sc d (tileShare c i) ∗ rowsIn m d c i)
abbrev tileOut (d : Dev nD) (c : Fin 2) (i : Fin 16) : sProp 𝕄 := iprop(reads m Sc d (tileShare c i) ∗ rowsOut m Sc d c i)

/-- The one call: each core a half share of what is read and its tiles' rows. -/
def P : (K (F := F)).Pay (nD := nD) (Val := Elt F) (Name := ℕ) (U := UU) where
  st := fun q d c => match q with | 0 => coreIn m Sc d (Fin.cast nCore_zero c)
  dn := fun q d c => match q with | 0 => coreOut m Sc d (Fin.cast nCore_zero c)
  go := fun q d c i => match q with | 0 => tileIn m Sc d (Fin.cast nCore_zero c) (Fin.cast nSub_zero i)
  td := fun q d c i => match q with | 0 => tileOut m Sc d (Fin.cast nCore_zero c) (Fin.cast nSub_zero i)
  x := fun _ _ => iprop(emp)

instance P_storable : (P m Sc).IsStorable where
  st q d c := match q with | 0 => (inferInstance : BI.Storable (upEmb : UEmb _ 𝕄) (coreIn m Sc d (Fin.cast nCore_zero c)))
  dn q d c := match q with | 0 => (inferInstance : BI.Storable (upEmb : UEmb _ 𝕄) (coreOut m Sc d (Fin.cast nCore_zero c)))
  go q d c i := match q with | 0 => (inferInstance : BI.Storable (upEmb : UEmb _ 𝕄) (tileIn m Sc d (Fin.cast nCore_zero c) (Fin.cast nSub_zero i)))
  td q d c i := match q with | 0 => (inferInstance : BI.Storable (upEmb : UEmb _ 𝕄) (tileOut m Sc d (Fin.cast nCore_zero c) (Fin.cast nSub_zero i)))

/-- What the tiles ask of the launch memory: every segment is below sixteen. -/
def SegOK : Prop := ∀ (d : Dev nD) (j : S32768.Idx), (m (gLoc d) j).toNat < 16

/-! ## The tile's own buffers and semaphores -/

section Tile

variable (d : Dev nD) (L : grid1.Coords)

abbrev bufList : List (Ref sig .scVector) := [cc1_scratch0, cc1_scratch1, cc1_scratch2, cc1_scratch3, cc1_scratch4, cc1_scratch5, cc1_scratch6, cc1_scratch7]
abbrev semList : List (SemLoc sig) := [.dma cc1_scoped0.sem, .dma cc1_scoped1.sem, .dma cc1_scoped2.sem, .dma cc1_scoped3.sem, .dma cc1_scoped4.sem, .dma cc1_scoped5.sem]

theorem bufList_nodup : bufList.Nodup := by decide
theorem semList_nodup : semList.Nodup := by decide

theorem ownBufs_tile : (ownBufs (vt d L) : sProp 𝕄)
    = peeled (fun b => iprop(∃ f, ((d, b) : Loc nD τ sig) ↦{fullShare} f)) (bufList.map (vt d L).2.devRef) (ownRefs (τ := τ) (vt d L).2) := by
  unfold SparseCore.Cfg.ownBufs
  refine bigSep_peeled _ _ _ (List.Nodup.map (Proc.devRef_injective _) bufList_nodup) fun b hb => ?_
  obtain ⟨r, hr, rfl⟩ := List.mem_map.mp hb
  refine SparseCore.Cfg.mem_ownRefs_of_owner (p := (vt d L).2) ?_
  fin_cases hr <;> rfl

theorem ownSems_tile : (ownSems0 (vt d L) : sProp 𝕄)
    = peeled (fun g => semVal g 0) (semList.map fun s => ((vt d L, s) : GSem nD τ sig)) (ownCells (vt d L)) := by
  unfold SparseCore.Cfg.ownSems0
  refine bigSep_peeled _ _ _ (List.Nodup.map (fun _ _ e => (Prod.mk.inj e).2) semList_nodup) fun g hg => ?_
  obtain ⟨s, hs, rfl⟩ := List.mem_map.mp hg
  refine mem_ownCells.mpr ⟨rfl, ?_⟩
  have : ∀ s ∈ semList, s.isScoped .scVector = true := by decide
  exact this s hs

abbrev cL : Fin 2 := Fin.cast (show grid1.bound 0 = 2 from rfl) (L 0)
abbrev iL : Fin 16 := Fin.cast (show grid1.bound 1 = 16 from rfl) (L 1)

theorem rows_first (X : S32768x128.Idx → F .f32) (S : S32768.Idx → F .f32) (G : S32768.Idx → BitVec 32) (f g : S128x16.Idx → F .f32) (h : S128x2048.Idx → F .f32) :
    (bigSep Finset.univ fun t : Fin k1_t1_loop.trips => rowsAt d L X S G f g h 0 t) = tileRows d (cL L) (iL L) f g h :=
  bigSep_congr fun t _ => if_neg (Nat.not_lt_zero _)
theorem rows_last (X : S32768x128.Idx → F .f32) (S : S32768.Idx → F .f32) (G : S32768.Idx → BitVec 32) (f g : S128x16.Idx → F .f32) (h : S128x2048.Idx → F .f32) :
    (bigSep Finset.univ fun t : Fin k1_t1_loop.trips => rowsAt d L X S G f g h 4 t) = tileRows d (cL L) (iL L) (msAll S G) (zsAll S G) (nsAll X S G) :=
  bigSep_congr fun t _ => if_pos (lt_of_lt_of_eq t.isLt trips_t1)

set_option maxHeartbeats 1600000 in
/-- The task of one vector subcore. -/
theorem tile_body (hseg : SegOK m) (O : CellTallies nD τ sig (HIx 1)) (W : Waits sig (HIx 1)) (hO : ∀ g, O g none = 0) :
    iprop(levAts (K (F := F)).L (K (F := F)).lev ∗ emp ∗ tileIn m Sc d (cL L) (iL L)
        ∗ scopedBufs (vt d L) ∗ scopedSems0 (vt d L) ∗ owes (vt d L) O W)
      ⊢ wp frame (wpE (defs₀ (F := F)) 𝒱₀ (vt d L) none) Set.univ
          (cc1__sc_body (F := F) L xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5)
          fun _ => iprop(tileOut m Sc d (cL L) (iL L) ∗ scopedBufs (vt d L) ∗ scopedSems0 (vt d L) ∗ owesFrom (F := F) d L O W) := by
  rw [(K (F := F)).scopedBufs_V facts d _ _, SparseCore.Cfg.scopedSems0_V (Val := Elt F) d _ _, ownSems_tile, ownBufs_tile]
  simp only [bufList, semList, List.map_cons, List.map_nil, peeled]
  iintro ⟨#Hlv, -, ⟨⟨HX, HS, HG⟩, Hrows⟩, ⟨Hx, Hs, Hg, He, Hc, Hz, Ha, Hp, Hbufs⟩, ⟨H0, H1, H2, H3, H4, H5, Hsems⟩, HO⟩
  ihave Hmw := (show levAts (K (F := F)).L (K (F := F)).lev ⊢ Transfers.MayWaits (vt d L) (none : HIx 1) O from
    (K (F := F)).mayWaits_none (thr := vt d L) hO) $$ Hlv
  ihave Hrows := (Entails.of_eq (rows_first d L (m (xLoc d)) (Sc d) (m (gLoc d)) (m (mLoc d)) (m (zLoc d)) (m (nLoc d))).symm) $$ Hrows
  iapply (wp_wand_r frame (wpE (defs₀ (F := F)) 𝒱₀ (vt d L) none) Set.univ)
  isplitr [Hbufs Hsems]
  · iapply (wp_tile d L O W (tileShare (cL L) (iL L)) (m (xLoc d)) (Sc d) (m (gLoc d)) (hseg d) (m (mLoc d)) (m (zLoc d)) (m (nLoc d)))
    unfold tileInv scratch sems0
    isplitr; · iexact Hmw
    isplitl [HX]; · iexact HX
    isplitl [HS]; · iexact HS
    isplitl [HG]; · iexact HG
    isplitl [Hx Hs Hg He Hc Hz Ha Hp]
    · isplitl [Hx]; · iexact Hx
      isplitl [Hs]; · iexact Hs
      isplitl [Hg]; · iexact Hg
      isplitl [He]; · iexact He
      isplitl [Hc]; · iexact Hc
      isplitl [Hz]; · iexact Hz
      isplitl [Ha]; · iexact Ha
      iexact Hp
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [Hrows]; · iexact Hrows
    iexists W
    isplitr; · ipureintro; exact fun p hp => .inl hp
    iexact HO
  unfold tileInv scratch sems0
  iintro %_ ⟨%_, -, HX, HS, HG, ⟨Hx, Hs, Hg, He, Hc, Hz, Ha, Hp⟩, ⟨H0, H1, H2, H3, H4, H5⟩, Hrows, HO⟩
  ihave Hrows := (Entails.of_eq (rows_last d L (m (xLoc d)) (Sc d) (m (gLoc d)) (m (mLoc d)) (m (zLoc d)) (m (nLoc d)))) $$ Hrows
  isplitl [HX HS HG Hrows]
  · isplitr [Hrows]
    · isplitl [HX]; · iexact HX
      isplitl [HS] <;> iassumption
    · iexact Hrows
  isplitl [Hx Hs Hg He Hc Hz Ha Hp Hbufs]
  · isplitl [Hx]; · iexact Hx
    isplitl [Hs]; · iexact Hs
    isplitl [Hg]; · iexact Hg
    isplitl [He]; · iexact He
    isplitl [Hc]; · iexact Hc
    isplitl [Hz]; · iexact Hz
    isplitl [Ha]; · iexact Ha
    isplitl [Hp]; · iexact Hp
    iexact Hbufs
  isplitl [H0 H1 H2 H3 H4 H5 Hsems]
  · isplitl [H0]; · iexact H0
    isplitl [H1]; · iexact H1
    isplitl [H2]; · iexact H2
    isplitl [H3]; · iexact H3
    isplitl [H4]; · iexact H4
    isplitl [H5]; · iexact H5
    iexact Hsems
  iexact HO

/-! ## The obligation of the call -/

/-- A tile's coordinates. -/
def tileAt (c : Fin (grid1.bound 0)) (s : Fin (grid1.bound 1)) : grid1.Coords :=
  fun | 0 => c | 1 => s | ⟨_ + 2, h⟩ => absurd h (Nat.not_lt.2 (Nat.le_add_left _ _))

theorem defs₀_tile (c : Fin τ.nSC) (s : Fin τ.nSub) :
    defs₀ (F := F) (.scVector c s) 1 ()
      = SparseCore.onTile hcore1 hsub1 (fun c s => cc1__sc_body (F := F) (tileAt c s) xHb (Memref.isWhole_whole _) sHb (Memref.isWhole_whole _) gHb (Memref.isWhole_whole _) mHb (Memref.isWhole_whole _) zHb (Memref.isWhole_whole _) nHb (Memref.isWhole_whole _) xV (Memref.isWhole_whole _) sV (Memref.isWhole_whole _) gV (Memref.isWhole_whole _) eV (Memref.isWhole_whole _) cV (Memref.isWhole_whole _) zV (Memref.isWhole_whole _) aV (Memref.isWhole_whole _) pV (Memref.isWhole_whole _) cc1_scoped0 cc1_scoped1 cc1_scoped2 cc1_scoped3 cc1_scoped4 cc1_scoped5) ⟨⟩ c s := rfl

theorem tile_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr
  · ipureintro; exact fun p hp => (hW' p hp).imp_right Or.inl
  · iexact HO

set_option maxRecDepth 16384 in
theorem tileObl (hseg : SegOK m) : (K (F := F)).TileObl (D (F := F)) 𝒱 (P m Sc) v₀ 0 := by
  intro d c i O W hO _ _
  simp only [show (P m Sc).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body m Sc d (tileAt ⟨_, hci.1⟩ ⟨_, hci.2⟩) hseg O W hO).trans (wp_mono frame _ _ fun _ => tile_post)

end Tile

/-! ## The split over the tiles -/

theorem over_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem sep_congr3 {A A' B B' C C' : sProp 𝕄} (h1 : A = A') (h2 : B = B') (h3 : C = C') : iprop(A ∗ B ∗ C) = iprop(A' ∗ B' ∗ C') := by
  subst h1; subst h2; subst h3; rfl

set_option maxRecDepth 16384 in
/-- What is read, dealt to `2 ^ n` readers. -/
theorem reads_leaves (d : Dev nD) (n : ℕ) (q : PosShare TreeShare) :
    reads m Sc d q = bigSep Finset.univ fun i : Fin (2 ^ n) => reads m Sc d (leaf n q i) := by
  rw [bigSep_sep', bigSep_sep']
  exact sep_congr3 (pointsTo_leaves (ℓ := xLoc d) Finset.univ (m (xLoc d)) n q) (pointsTo_leaves (ℓ := sLoc d) Finset.univ (Sc d) n q)
    (pointsTo_leaves (ℓ := gLoc d) Finset.univ (m (gLoc d)) n q)

theorem coreIn_tiles (d : Dev nD) (c : Fin 2) : coreIn m Sc d c = bigSep Finset.univ fun i : Fin 16 => tileIn m Sc d c i := by
  rw [bigSep_sep']
  exact congrArg (fun A => iprop(A ∗ bigSep Finset.univ fun i : Fin 16 => rowsIn m d c i)) (reads_leaves m Sc d 4 (coreShare c))
theorem coreOut_tiles (d : Dev nD) (c : Fin 2) : coreOut m Sc d c = bigSep Finset.univ fun i : Fin 16 => tileOut m Sc d c i := by
  rw [bigSep_sep']
  exact congrArg (fun A => iprop(A ∗ bigSep Finset.univ fun i : Fin 16 => rowsOut m Sc d c i)) (reads_leaves m Sc d 4 (coreShare c))

theorem vecSplit : (K (F := F)).VecSplit' (P m Sc) 0 := by
  intro d c
  show coreIn m Sc d (Fin.cast nCore_zero c) ⊢ |={Set.univ}=> iprop(
      (bigSep Finset.univ fun i : Fin ((K (F := F)).nSub 0) => tileIn m Sc d (Fin.cast nCore_zero c) (Fin.cast nSub_zero i))
      ∗ ((bigSep Finset.univ fun i : Fin ((K (F := F)).nSub 0) => tileOut m Sc d (Fin.cast nCore_zero c) (Fin.cast nSub_zero i))
          -∗ coreOut m Sc d (Fin.cast nCore_zero c)))
  rw [over_tiles (F := F) (tileIn m Sc d (Fin.cast nCore_zero c)), over_tiles (F := F) (tileOut m Sc d (Fin.cast nCore_zero c)), coreIn_tiles, coreOut_tiles]
  iintro H; imodintro
  isplitl [H]; · iexact H
  iintro H; iexact H

/-! ## The results over all cores -/

theorem rows_disjoint {s : Shape} {a₀ : Fin s.rank} (h : 128 ∣ s.size a₀) {set : Fin 128 → Finset s.Idx} (hs : ∀ r, set r = (Rect.part h r).set) :
    ∀ i ∈ (Finset.univ : Finset (Fin 128)), ∀ j ∈ (Finset.univ : Finset (Fin 128)), i ≠ j → Disjoint (set i) (set j) :=
  fun i _ j _ hij => by rw [hs, hs]; exact Rect.part_disjoint h hij
theorem rows_cover {s : Shape} {a₀ : Fin s.rank} (h : 128 ∣ s.size a₀) {set : Fin 128 → Finset s.Idx} (hs : ∀ r, set r = (Rect.part h r).set) :
    (Finset.univ : Finset (Fin 128)).biUnion set = Finset.univ :=
  (Finset.biUnion_congr rfl fun i _ => hs i).trans (Rect.biUnion_part h)

theorem mSet_eq (r : Fin 128) : mSet r = (row16 r).set := by
  show ((View.whole (main_v3_0_scv : Ref sig .scVector)).slice (row16 r)).set = _
  rw [View.set_slice]; exact Finset.map_refl
theorem zSet_eq (r : Fin 128) : zSet r = (row16 r).set := by
  show ((View.whole (main_v3_1_scv : Ref sig .scVector)).slice (row16 r)).set = _
  rw [View.set_slice]; exact Finset.map_refl
theorem nSet_eq (r : Fin 128) : nSet r = (row2048 r).set := by
  show ((View.whole (main_v3_2_scv : Ref sig .scVector)).slice (row2048 r)).set = _
  rw [View.set_slice]; exact Finset.map_refl

/-- The chunks, told apart by core, tile and trip. -/
def chunkEquiv : (Fin 2 × Fin 16) × Fin k1_t1_loop.trips ≃ Fin 128 where
  toFun x := rowOf x.1.1 x.1.2 x.2
  invFun r := ((⟨r.val / 4 % 2, by omega⟩, ⟨r.val / 8, by have := r.isLt; omega⟩), ⟨r.val % 4, by rw [trips_t1]; omega⟩)
  left_inv x := by
    obtain ⟨⟨c, i⟩, t⟩ := x
    have hc := c.isLt; have hi := i.isLt; have ht : t.val < 4 := lt_of_lt_of_eq t.isLt trips_t1
    refine Prod.ext (Prod.ext (Fin.ext ?_) (Fin.ext ?_)) (Fin.ext ?_) <;> simp only [rowOf] <;> omega
  right_inv r := Fin.ext (by simp only [rowOf]; omega)

theorem rows_all (d : Dev nD) (f g : S128x16.Idx → F .f32) (h : S128x2048.Idx → F .f32) :
    (bigSep Finset.univ fun c : Fin 2 => bigSep Finset.univ fun i : Fin 16 => tileRows d c i f g h)
      = iprop((mLoc d ↦{fullShare} f) ∗ (zLoc d ↦{fullShare} g) ∗ (nLoc d ↦{fullShare} h) : sProp 𝕄) := by
  have e1 : (mLoc d ↦{fullShare} f : sProp 𝕄) = bigSep Finset.univ fun r : Fin 128 => mRow d r f := by
    rw [← pointsTo_biUnion Finset.univ (ℓ := mLoc d) mSet (rows_disjoint div16 mSet_eq), rows_cover div16 mSet_eq]; try rfl
  have e2 : (zLoc d ↦{fullShare} g : sProp 𝕄) = bigSep Finset.univ fun r : Fin 128 => zRow d r g := by
    rw [← pointsTo_biUnion Finset.univ (ℓ := zLoc d) zSet (rows_disjoint div16 zSet_eq), rows_cover div16 zSet_eq]; try rfl
  have e3 : (nLoc d ↦{fullShare} h : sProp 𝕄) = bigSep Finset.univ fun r : Fin 128 => nRow d r h := by
    rw [← pointsTo_biUnion Finset.univ (ℓ := nLoc d) nSet (rows_disjoint div2048 nSet_eq), rows_cover div2048 nSet_eq]; try rfl
  rw [e1, e2, e3, ← bigSep_sep', ← bigSep_sep', bigSep_univ_equiv chunkEquiv, bigSep_univ_prod, bigSep_univ_prod]
  rfl

/-- The call's operands over the cores, and its results. -/
theorem cores_in (d : Dev nD) :
    (bigSep Finset.univ fun c : Fin ((K (F := F)).nCore 0) => (P m Sc).st 0 d c)
      = iprop(reads m Sc d fullShare ∗ (mLoc d ↦{fullShare} m (mLoc d)) ∗ (zLoc d ↦{fullShare} m (zLoc d)) ∗ (nLoc d ↦{fullShare} m (nLoc d))) := by
  show (bigSep Finset.univ fun c : Fin ((K (F := F)).nCore 0) => coreIn m Sc d (Fin.cast nCore_zero c)) = _
  rw [over_cores (F := F) (coreIn m Sc d), bigSep_sep', rows_all]
  exact congrArg (fun A => iprop(A ∗ _)) (reads_leaves m Sc d 1 fullShare).symm
theorem cores_out (d : Dev nD) :
    (bigSep Finset.univ fun c : Fin ((K (F := F)).nCore 0) => (P m Sc).dn 0 d c)
      = iprop(reads m Sc d fullShare ∗ (mLoc d ↦{fullShare} msAll (Sc d) (m (gLoc d))) ∗ (zLoc d ↦{fullShare} zsAll (Sc d) (m (gLoc d)))
        ∗ (nLoc d ↦{fullShare} nsAll (m (xLoc d)) (Sc d) (m (gLoc d)))) := by
  show (bigSep Finset.univ fun c : Fin ((K (F := F)).nCore 0) => coreOut m Sc d (Fin.cast nCore_zero c)) = _
  rw [over_cores (F := F) (coreOut m Sc d), bigSep_sep', rows_all]
  exact congrArg (fun A => iprop(A ∗ _)) (reads_leaves m Sc d 1 fullShare).symm

end Cert.Proof
-- ==== Proof.Ops.lean ====
/-
  Loads and stores of whole TensorCore buffers, by what is read through them.
-/
module

public import proofs.«01_k».proof.Proof.Tile
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A load of a whole buffer reads what the buffer is known to hold. -/
theorem wp_load_owns (d : Dev nD) {s : Shape} {e : EltTy} {m : Memref sig .tc .vmem s e} {off : Fin s.rank → Nat} (h0 : off = fun _ => 0)
    {inb : ∀ a, off a + s.size a ≤ s.size a} {hl : m.view.LoadsAt (Rect.unit off s.size inb).toLoadRect} {X : s.Idx → Elt F e}
    {k : (s.Idx → Elt F e) → Prog (TpuEff nD τ sig (Elt F) Λ₀ .tc) PUnit} (Q : PUnit → sProp 𝕄) :
    iprop(owns (T d) m fullShare X ∗ (owns (T d) m fullShare X -∗ wp frame (wpE (defs₀ (F := F)) 𝒱₀ (T d) none) Set.univ (k X) Q))
      ⊢ wp frame (wpE (defs₀ (F := F)) 𝒱₀ (T d) none) Set.univ (Prog.lift (.load m (Rect.unit off s.size inb).toLoadRect hl) >>= k) Q := by
  unfold owns
  iintro ⟨⟨%f, %hf, H⟩, Hk⟩
  iapply (wp_load_rect 𝒱₀ (T d) none Set.univ (m := m) (r := Rect.unit off s.size inb) (hl := hl) (S := m.view.set) (f := f)
    (k := k) (View.set_slice_subset m.view (Rect.unit off s.size inb))) $$ H
  iintro H
  have e : (m.access (Rect.unit off s.size inb)).read (Elt F) f = X := by
    rw [← hf]; exact View.ld_unit_zero h0 inb (m.view.read (Elt F) f)
  rw [e]
  iapply Hk
  iexists f
  isplitr
  · ipureintro; exact hf
  iexact H

/-- A store to a whole buffer leaves the payload there. -/
theorem wp_store_owns (d : Dev nD) {s : Shape} {e : EltTy} {m : Memref sig .tc .vmem s e} {off : Fin s.rank → Nat} (h0 : off = fun _ => 0)
    {inb : ∀ a, off a + s.size a ≤ s.size a} {w : s.Idx → Elt F e} {X : s.Idx → Elt F e}
    {hx : (m.access (Rect.unit off s.size inb)).Stores Finset.univ} {hm}
    {k : PUnit → Prog (TpuEff nD τ sig (Elt F) Λ₀ .tc) PUnit} (Q : PUnit → sProp 𝕄) :
    iprop(owns (T d) m fullShare X ∗ (owns (T d) m fullShare w -∗ wp frame (wpE (defs₀ (F := F)) 𝒱₀ (T d) none) Set.univ (k ⟨⟩) Q))
      ⊢ wp frame (wpE (defs₀ (F := F)) 𝒱₀ (T d) none) Set.univ (Prog.lift (.store m (Rect.unit off s.size inb) w Finset.univ hx hm) >>= k) Q := by
  unfold owns
  iintro ⟨⟨%f, %hf, H⟩, Hk⟩
  iapply (wp_store 𝒱₀ (T d) none Set.univ (m := m) (r := Rect.unit off s.size inb) (hx := hx) (hm := hm) (S := m.view.set) (f := f) (w := w)
    (k := k) (by rw [View.setOn_univ]; exact View.set_slice_subset m.view (Rect.unit off s.size inb))) $$ H
  iintro H
  iapply Hk
  iexists _
  isplitr
  swap
  · iexact H
  ipureintro
  exact (View.ld_unit_zero h0 inb (m.view.read (Elt F) _)).symm.trans (View.read_write_univ (v := m.access (Rect.unit off s.size inb)) f w)

/-- The combining kernel reads the three arrays of partial results and stores the pooled rows. -/
theorem wp_combine (d : Dev nD) (a0 : Memref sig .tc .vmem S128x16 .f32) (h0 : a0.IsWhole) (a1 : Memref sig .tc .vmem S128x16 .f32) (h1 : a1.IsWhole)
    (a2 : Memref sig .tc .vmem S128x2048 .f32) (h2 : a2.IsWhole) (a3 : Memref sig .tc .vmem S16x128 .f32) (h3 : a3.IsWhole)
    (X0 : Vec F S128x16 .f32) (X1 : Vec F S128x16 .f32) (X2 : Vec F S128x2048 .f32) (X3 : Vec F S16x128 .f32) (Q : PUnit → sProp 𝕄) :
    iprop(owns (T d) a0 fullShare X0 ∗ owns (T d) a1 fullShare X1 ∗ owns (T d) a2 fullShare X2 ∗ owns (T d) a3 fullShare X3
        ∗ (owns (T d) a0 fullShare X0 ∗ owns (T d) a1 fullShare X1 ∗ owns (T d) a2 fullShare X2 ∗ owns (T d) a3 fullShare (k2_pay1 X0 X1 X2) -∗ Q ⟨⟩))
      ⊢ wp frame (wpE (defs₀ (F := F)) 𝒱₀ (T d) none) Set.univ (cc2__combine_body a0 h0 a1 h1 a2 h2 a3 h3) Q := by
  rw [cc2__combine_body_eq_skeleton]
  unfold cc2__combine_body_skel
  have z : (![0, 0] : Fin 2 → Nat) = fun _ => 0 := by funext a; fin_cases a <;> rfl
  iintro ⟨H0, H1, H2, H3, Hk⟩
  iapply (wp_load_owns d z (m := a0) (X := X0) Q)
  isplitl [H0]; · iexact H0
  iintro H0
  iapply (wp_load_owns d z (m := a1) (X := X1) Q)
  isplitl [H1]; · iexact H1
  iintro H1
  iapply (wp_load_owns d z (m := a2) (X := X2) Q)
  isplitl [H2]; · iexact H2
  iintro H2
  iapply (wp_load_owns d z (m := a3) (X := X3) Q)
  isplitl [H3]; · iexact H3
  iintro H3
  iapply (wp_store_owns d z (m := a3) (X := X3) Q)
  isplitl [H3]; · iexact H3
  iintro H3
  iapply (wp_retv (T d))
  iapply Hk
  isplitl [H0]; · iexact H0
  isplitl [H1]; · iexact H1
  isplitl [H2]; · iexact H2
  iexact H3

/-- The scoring kernel: at the first grid point it computes the rotated queries into its scratch buffer, at every
    point it stores the scores of a block of nodes. -/
theorem wp_scores (d : Dev nD) (i : grid0.Coords) (a1 : Memref sig .tc .vmem S16x128 .f32) (h1 : a1.IsWhole) (a2 : Memref sig .tc .vmem S128x128 .f32) (h2 : a2.IsWhole)
    (a3 : Memref sig .tc .vmem S2048x128 .f32) (h3 : a3.IsWhole) (a4 : Memref sig .tc .vmem S1x1x2048 .i32) (h4 : a4.IsWhole)
    (a5 : Memref sig .tc .vmem S1x1x2048 .f32) (h5 : a5.IsWhole) (a6 : Memref sig .tc .vmem S16x128 .f32) (h6 : a6.IsWhole)
    (X1 : Vec F S16x128 .f32) (X2 : Vec F S128x128 .f32) (X3 : Vec F S2048x128 .f32) (X4 : Vec F S1x1x2048 .i32) (X5 : Vec F S1x1x2048 .f32)
    (X6 : Vec F S16x128 .f32) (hX6 : (i 0).val ≠ 0 → X6 = k0_pay1 X1 X2) (Q : PUnit → sProp 𝕄) :
    iprop(owns (T d) a1 fullShare X1 ∗ owns (T d) a2 fullShare X2 ∗ owns (T d) a3 fullShare X3 ∗ owns (T d) a4 fullShare X4
        ∗ owns (T d) a5 fullShare X5 ∗ owns (T d) a6 fullShare X6
        ∗ (owns (T d) a1 fullShare X1 ∗ owns (T d) a2 fullShare X2 ∗ owns (T d) a3 fullShare X3 ∗ owns (T d) a4 fullShare X4
          ∗ owns (T d) a5 fullShare (k0_pay2 X3 X4 (k0_pay1 X1 X2)) ∗ owns (T d) a6 fullShare (k0_pay1 X1 X2) -∗ Q ⟨⟩))
      ⊢ wp frame (wpE (defs₀ (F := F)) 𝒱₀ (T d) none) Set.univ (cc0__scores_body i a1 h1 a2 h2 a3 h3 a4 h4 a5 h5 a6 h6) Q := by
  rw [cc0__scores_body_eq_skeleton]
  unfold cc0__scores_body_skel
  dsimp only
  have z : (![0, 0] : Fin 2 → Nat) = fun _ => 0 := by funext a; fin_cases a <;> rfl
  have z3 : (![0, 0, 0] : Fin 3 → Nat) = fun _ => 0 := by funext a; fin_cases a <;> rfl
  have hc : (Scalar.cmpi .ne (Scalar.extui (Scalar.cmpi .eq (BitVec.ofNat 32 (i 0).val) 0#32) : BitVec 32) 0#32 = 1#1) ↔ (i 0).val = 0 := by
    have hi : (i 0).val < 16 := (i 0).isLt
    generalize (i 0).val = n at hi
    interval_cases n <;> decide
  iintro ⟨H1, H2, H3, H4, H5, H6, Hk⟩
  by_cases hi : (i 0).val = 0
  on_goal 1 =>
    rw [dif_pos (hc.mpr hi)]
    iapply (wp_load_owns d z (m := a1) (X := X1) Q)
    isplitl [H1]; · iexact H1
    iintro H1
    iapply (wp_load_owns d z (m := a2) (X := X2) Q)
    isplitl [H2]; · iexact H2
    iintro H2
    iapply (wp_load_owns d z (m := a6) (X := X6) Q)
    isplitl [H6]; · iexact H6
    iintro H6
    iapply (wp_store_owns d z (m := a6) (X := X6) Q)
    isplitl [H6]; · iexact H6
    iintro H6
  on_goal 2 =>
    rw [dif_neg (fun h => hi (hc.mp h)), hX6 hi]
  all_goals
    iapply (wp_load_owns d z (m := a3) (X := X3) Q)
    isplitl [H3]; · iexact H3
    iintro H3
    iapply (wp_load_owns d z3 (m := a4) (X := X4) Q)
    isplitl [H4]; · iexact H4
    iintro H4
    iapply (wp_load_owns d z (m := a6) (X := k0_pay1 X1 X2) Q)
    isplitl [H6]; · iexact H6
    iintro H6
    iapply (wp_load_owns d z3 (m := a5) (X := X5) Q)
    isplitl [H5]; · iexact H5
    iintro H5
    iapply (wp_store_owns d z3 (m := a5) (X := X5) Q)
    isplitl [H5]; · iexact H5
    iintro H5
    iapply (wp_retv (T d))
    iapply Hk
    isplitl [H1]; · iexact H1
    isplitl [H2]; · iexact H2
    isplitl [H3]; · iexact H3
    isplitl [H4]; · iexact H4
    isplitl [H5]; · iexact H5
    iexact H6

end Cert.Proof

end
-- ==== Proof.Regions.lean ====
/-
  The two TensorCore kernels as the launch runs them: the scores over a grid of sixteen blocks of nodes, the
  combination of the partial results in one piece. For each, what it is given, what it hands back.
-/
module

public import proofs.«01_k».proof.Proof.Ops
public import Idealize.ShloMosaic.Lib.Pipeline.RegionsLoop
public import Idealize.ShloMosaic.Lib.Pipeline.FrameBody

@[expose] public section

set_option maxRecDepth 16384

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-- The admissibility of the two pipelines' configurations, which state nothing. -/
def adm : (p : Fin 2) → (pcfgs (F := F) p).Adm := fun p => (cfgs p).toPCfg_adm

/-- What the TensorCore may have waited on before its call number `n`. -/
def waitedBelow (d : Dev nD) (n : ℕ) : Set (SemLoc sig × HIx 1) := {p | (K (F := F)).lev (T d, p.1) p.2 ≤ 8 * n}

variable (W : (c : Dev nD) → (b : Ref sig .tc) → Buf (Elt F) ((c : Thread nD τ).loc b))

/-! ## The proof data -/

/-- Window `w` of the combination as its fetch stages it. -/
abbrev blk2 (w : Fin cfg2.W) (c : Dev nD) (t : Fin cfg2.N) : ((cfg2.win w).xblock (cfg2.grid.coords t)).Idx → Elt F (cfg2.win w).elt :=
  ((cfg2.win w).blk t).view.read (Elt F) (W c (Pipeline.arrRef spec2 w))

/-- Window `w` of the scoring as its fetch stages it. -/
abbrev blk0 (w : Fin cfg0.W) (c : Dev nD) (t : Fin cfg0.N) : ((cfg0.win w).xblock (cfg0.grid.coords t)).Idx → Elt F (cfg0.win w).elt :=
  ((cfg0.win w).blk t).view.read (Elt F) (W c (Pipeline.arrRef spec0 w))

/-- The combination: each input in place, the output at what the kernel stores; what the core owes and may have
    waited on as after the SparseCore call. -/
def dat2 (c : Dev nD) : Dat τ (Elt F) (HIx 1) ℕ UU ℕ cfg2 c where
  A w := W c (Pipeline.arrRef spec2 w)
  after w t := match w with
    | ⟨0, _⟩ => blk2 W 0 c t
    | ⟨1, _⟩ => blk2 W 1 c t
    | ⟨2, _⟩ => blk2 W 2 c t
    | ⟨3, _⟩ => k2_pay1 (blk2 W 0 c t) (blk2 W 1 c t) (blk2 W 2 c t)
  Φ _ := Pipeline.scopedRest (Ix := HIx 1) (Name := ℕ) (U := UU) (Lvl := ℕ) (Val := Elt F) spec2 c
  q _ := fullShare
  owed _ := (K (F := F)).Otc c 1
  recorded _ := waitedBelow (F := F) c 1

/-- The rotated queries, which the scoring keeps in its scratch buffer. -/
abbrev rot (c : Dev nD) (t : Fin cfg0.N) : Vec F S16x128 .f32 := k0_pay1 (blk0 W 0 c t) (blk0 W 1 c t)

/-- The scoped buffers the scoring does not use. -/
def idle0 (c : Dev nD) : sProp 𝕄 :=
  iprop((∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

/-- Before point `n` of the scoring: the scratch buffer, which after the first point holds the rotated queries, and
    the idle buffers. -/
def inv0 (c : Dev nD) (n : ℕ) : sProp 𝕄 :=
  iprop((∃ X, ⌜n ≠ 0 → X = rot W c ⟨0, by decide⟩⌝ ∗ owns (c : Thread nD τ) (Memref.whole cc0_scratch0) fullShare X) ∗ idle0 (F := F) c)

/-- The scoring: each input in place, the output's block at the scores of its nodes. -/
def dat0 (c : Dev nD) : Dat τ (Elt F) (HIx 1) ℕ UU ℕ cfg0 c where
  A w := W c (Pipeline.arrRef spec0 w)
  after w t := match w with
    | ⟨0, _⟩ => blk0 W 0 c t
    | ⟨1, _⟩ => blk0 W 1 c t
    | ⟨2, _⟩ => blk0 W 2 c t
    | ⟨3, _⟩ => blk0 W 3 c t
    | ⟨4, _⟩ => k0_pay2 (blk0 W 2 c t) (blk0 W 3 c t) (rot W c t)
  Φ t := inv0 W c t.val
  q _ := fullShare
  owed _ := (K (F := F)).Otc c 0
  recorded _ := waitedBelow (F := F) c 0

/-- The family of proof data at one valuation. -/
def pdats : (p : Fin 2) → (c : Dev nD) → Dat τ (Elt F) (HIx 1) ℕ UU ℕ (Pipeline.pin (pcfgs (F := F)) adm p) c
  | ⟨0, _⟩ => fun c => dat0 W c
  | ⟨1, _⟩ => fun c => dat2 W c

theorem before2 (c : Dev nD) (t : Fin cfg2.N) (d) : (dat2 W c).before 0 t d = blk2 W 0 c t := by
  rw [Dat.before_fetched _ _ _ (fetch2_0 t)]; rfl
theorem before2' (c : Dev nD) (t : Fin cfg2.N) (d) : (dat2 W c).before 1 t d = blk2 W 1 c t := by
  rw [Dat.before_fetched _ _ _ (fetch2_1 t)]; rfl
theorem before2'' (c : Dev nD) (t : Fin cfg2.N) (d) : (dat2 W c).before 2 t d = blk2 W 2 c t := by
  rw [Dat.before_fetched _ _ _ (fetch2_2 t)]; rfl

theorem body2 (c : Dev nD) : BodyObligation (dat2 W c) (defs₀ (F := F)) 𝒱₀ none Set.univ := fun t => by
  rw [bigSep_W2, bigSep_W2]
  rw [show (dat2 W c).Φ t.succ = (dat2 W c).Φ t.castSucc from rfl]
  iintro ⟨HΦ, Howes, ⟨%d0, H0⟩, ⟨%d1, H1⟩, ⟨%d2, H2⟩, ⟨%d3, H3⟩⟩
  rw [before2, before2', before2'']
  iapply (wp_combine c (st2_0 t) (hstage2_0 0) (st2_1 t) (hstage2_1 0) (st2_2 t) (hstage2_2 0) (st2_3 t) (hstage2_3 0)
    (blk2 W 0 c t) (blk2 W 1 c t) (blk2 W 2 c t) ((dat2 W c).before 3 t d3) _)
  isplitl [H0]; · iexact H0
  isplitl [H1]; · iexact H1
  isplitl [H2]; · iexact H2
  isplitl [H3]; · iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

theorem before0_0 (c : Dev nD) (t : Fin cfg0.N) (d) : (dat0 W c).before 0 t d = blk0 W 0 c t :=
  (Dat.before_in_eq_fetched _ 0 rfl (fun _ => rfl) (fun _ _ _ => rfl) (fun _ => rfl) t d).trans rfl
theorem before0_1 (c : Dev nD) (t : Fin cfg0.N) (d) : (dat0 W c).before 1 t d = blk0 W 1 c t :=
  (Dat.before_in_eq_fetched _ 1 rfl (fun _ => rfl) (fun _ _ _ => rfl) (fun _ => rfl) t d).trans rfl
theorem before0_2 (c : Dev nD) (t : Fin cfg0.N) (d) : (dat0 W c).before 2 t d = blk0 W 2 c t :=
  (Dat.before_in_eq_fetched _ 2 rfl (fun _ => rfl) (fun _ _ _ => rfl) (fun _ => rfl) t d).trans rfl
theorem before0_3 (c : Dev nD) (t : Fin cfg0.N) (d) : (dat0 W c).before 3 t d = blk0 W 3 c t :=
  (Dat.before_in_eq_fetched _ 3 rfl (fun _ => rfl) (fun _ _ _ => rfl) (fun _ => rfl) t d).trans rfl

/-- The rotated queries are the same at every point. -/
theorem rot_const (c : Dev nD) (t t' : Fin cfg0.N) : rot W c t = rot W c t' := rfl

theorem body0 (c : Dev nD) : BodyObligation (dat0 W c) (defs₀ (F := F)) 𝒱₀ none Set.univ := fun t => by
  rw [bigSep_W0, bigSep_W0]
  rw [show (dat0 W c).Φ t.castSucc = inv0 W c t.val from rfl, show (dat0 W c).Φ t.succ = inv0 W c (t.val + 1) from rfl]
  unfold inv0
  iintro ⟨⟨⟨%X, %hX, Hs⟩, HΦ⟩, Howes, ⟨%d0, H0⟩, ⟨%d1, H1⟩, ⟨%d2, H2⟩, ⟨%d3, H3⟩, ⟨%d4, H4⟩⟩
  rw [before0_0, before0_1, before0_2, before0_3]
  have ht : t.val < 16 := t.isLt
  iapply (wp_scores c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (Memref.whole cc0_scratch0) (Memref.isWhole_whole _)
    (blk0 W 0 c t) (blk0 W 1 c t) (blk0 W 2 c t) (blk0 W 3 c t) ((dat0 W c).before 4 t d4) X
    (fun h => (hX fun h0 => h (by rw [show t = ⟨0, by decide⟩ from Fin.ext h0]; decide)).trans (rot_const W c _ _)) _)
  isplitl [H0]; · iexact H0
  isplitl [H1]; · iexact H1
  isplitl [H2]; · iexact H2
  isplitl [H3]; · iexact H3
  isplitl [H4]; · iexact H4
  isplitl [Hs]; · iexact Hs
  iintro ⟨H0, H1, H2, H3, H4, Hs⟩
  isplitl [Hs HΦ]
  · isplitl [Hs]
    · iexists _
      isplitr
      swap
      · iexact Hs
      · ipureintro; exact fun _ => rot_const W c _ _
    · iexact HΦ
  isplitl [Howes]; · iexact Howes
  isplitl [H0]; · iexact H0
  isplitl [H1]; · iexact H1
  isplitl [H2]; · iexact H2
  isplitl [H3]; · iexact H3
  iexact H4

/-! ## The two calls, over all the buffers of the core -/

/-- The TensorCore owes nothing at the index of its own transfers. -/
theorem Otc_none (c : Dev nD) (n : ℕ) (g : GSem nD τ sig) : (K (F := F)).Otc (N := 1) c n g none = 0 := by
  by_contra h
  have h' := (K (F := F)).lev_of_Otc_pos (Nat.pos_of_ne_zero h)
  exact absurd h' (by show ¬ (_ ≤ 0); omega)

/-- What a call of the TensorCore takes over beside the buffers: what it owes before call `n`. -/
def owing (c : Dev nD) (n : ℕ) : sProp 𝕄 :=
  iprop(∃ Wt, ⌜(K (F := F)).WBelow (T c) Wt (8 * n)⌝ ∗ owes (T c) ((K (F := F)).Otc c n) Wt)

variable (W' : (c : Dev nD) → (b : Ref sig .tc) → Buf (Elt F) ((c : Thread nD τ).loc b))

/-- The combined rows, as the pipeline leaves them. -/
def pooled (c : Dev nD) : Buf (Elt F) ((c : Thread nD τ).loc main_v4) := (dat2 W c).arrAt 3 cfg2.N

/-- The scores, as the pipeline leaves them. -/
def scored (c : Dev nD) : Buf (Elt F) ((c : Thread nD τ).loc main_v1) := (dat0 W c).arrAt 4 cfg0.N

theorem owing_of_owesAt {cfg : Cfg sig Λ₀} (c : Dev nD) (n : ℕ) (dat : Dat τ (Elt F) (HIx 1) ℕ UU ℕ cfg c) (t : Fin (cfg.N + 1))
    (h0 : dat.owed t = (K (F := F)).Otc c n) (h1 : dat.recorded t = waitedBelow (F := F) c n) : (dat.owesAt none t : sProp 𝕄) ⊢ owing c n := by
  unfold Pipeline.Dat.owesAt Pipeline.owesWithin owing
  rw [h0]
  iintro ⟨%Wt, %hW, HO⟩
  iexists Wt
  isplitr
  · ipureintro
    intro p hp
    rcases hW hp with h | ⟨w, s, h⟩
    · rw [h1] at h; exact h
    · rw [h]; exact Nat.zero_le _
  · iexact HO

theorem owesAt_of_owing {cfg : Cfg sig Λ₀} (c : Dev nD) (n : ℕ) (dat : Dat τ (Elt F) (HIx 1) ℕ UU ℕ cfg c) (t : Fin (cfg.N + 1))
    (h0 : dat.owed t = (K (F := F)).Otc c n) (h1 : dat.recorded t = waitedBelow (F := F) c n) : owing c n ⊢ (dat.owesAt none t : sProp 𝕄) := by
  unfold Pipeline.Dat.owesAt Pipeline.owesWithin owing
  rw [h0]
  iintro ⟨%Wt, %hW, HO⟩
  iexists Wt
  isplitr
  · ipureintro
    intro p hp
    exact Or.inl (by rw [h1]; exact hW p hp)
  · iexact HO

set_option backward.isDefEq.respectTransparency.types false in
/-- The combination. -/
def reg2 (hout' : ∀ c, W' c main_v4 = pooled W c) (hne : ∀ c (b : Ref sig .tc), b ≠ main_v4 → W' c b = W c b) :
    Pipeline.RegionSeg (pcfgs (F := F)) adm (pdats W) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 W c).loose
  hwaits c := Pipeline.cellsWaits_intro _ _ _ _ c fun w s t => (K (F := F)).mayWait_none _ (Otc_none c 1)
  pre c := iprop(unscopedBufs c (W c) ∗ owing c 1)
  post c := iprop(unscopedBufs c (W' c) ∗ owing c 1)
  X _ := BI.emp
  Y _ := BI.emp
  Z c := Pipeline.unscopedRest (Ix := HIx 1) (Name := ℕ) (U := UU) (Lvl := ℕ) spec2 c (W c)
  hentry c := by
    rw [Pipeline.ownSems0_none]
    have hsplit := Pipeline.arrays_of_unscopedBufs (p := 1) (pcfgs (F := F)) adm (pdats W) launch2.win launch2.arr_whole c
      ((pdats W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owing c 1 (dat2 W c) 0 rfl rfl); iexact HO
    isplitr; · iempintro
    iexact Hrest
  hin c := by
    rw [show (pdats W 1 c).Φ 0 = Pipeline.scopedRest (Ix := HIx 1) (Name := ℕ) (U := UU) (Lvl := ℕ) (Val := Elt F) spec2 c from rfl]
    iintro ⟨-, -, Hr⟩; iexact Hr
  hout c := by
    rw [Pipeline.ownSems0_none, show (pdats W 1 c).Φ (Fin.last _) = Pipeline.scopedRest (Ix := HIx 1) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats W) ((pdats W 1 c).share_full fun _ => rfl) (W c) (W' c) ((pdats W 1 c).arrAt · cfg2.N)
      (fun w => by
        fin_cases w
        · exact ((pdats W 1 c).arrAt_in 0 rfl _).trans (hne c main_v3_0 (by decide)).symm
        · exact ((pdats W 1 c).arrAt_in 1 rfl _).trans (hne c main_v3_1 (by decide)).symm
        · exact ((pdats W 1 c).arrAt_in 2 rfl _).trans (hne c main_v3_2 (by decide)).symm
        · exact (hout' c).symm)
      (fun b hb => hne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    iapply (owing_of_owesAt c 1 (dat2 W c) (Fin.last _) rfl rfl); iexact HO

set_option backward.isDefEq.respectTransparency.types false in
/-- The scoring. -/
def reg0 (hout' : ∀ c, W' c main_v1 = scored W c) (hne : ∀ c (b : Ref sig .tc), b ≠ main_v1 → W' c b = W c b) :
    Pipeline.RegionSeg (pcfgs (F := F)) adm (pdats W) none defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 W c).loose
  hwaits c := Pipeline.cellsWaits_intro _ _ _ _ c fun w s t => (K (F := F)).mayWait_none _ (Otc_none c 0)
  pre c := iprop(unscopedBufs c (W c) ∗ owing c 0)
  post c := iprop(unscopedBufs c (W' c) ∗ owing c 0)
  X _ := BI.emp
  Y _ := BI.emp
  Z c := Pipeline.unscopedRest (Ix := HIx 1) (Name := ℕ) (U := UU) (Lvl := ℕ) spec0 c (W c)
  hentry c := by
    rw [Pipeline.ownSems0_none]
    have hsplit := Pipeline.arrays_of_unscopedBufs (p := 0) (pcfgs (F := F)) adm (pdats W) launch0.win launch0.arr_whole c
      ((pdats W 0 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_owing c 0 (dat0 W c) 0 rfl rfl); iexact HO
    isplitr; · iempintro
    iexact Hrest
  hin c := by
    rw [show (pdats W 0 c).Φ 0 = inv0 W c 0 from rfl]
    have e := Entails.of_eq (scopedRest0_eq (Ix := HIx 1) (Name := ℕ) (U := UU) (Lvl := ℕ) (Val := Elt F) c)
    iintro ⟨-, -, Hr⟩
    ihave H := e $$ Hr
    icases H with ⟨⟨%f, Hs⟩, Hi⟩
    unfold inv0 idle0
    isplitl [Hs]
    · iexists f
      isplitr; · ipureintro; exact fun h => absurd rfl h
      rw [owns_whole_eq]
      iexists f; isplitr; · ipureintro; rfl
      iexact Hs
    · iexact Hi
  hout c := by
    rw [Pipeline.ownSems0_none, show (pdats W 0 c).Φ (Fin.last _) = inv0 W c 16 from rfl]
    have e := Entails.of_eq (scopedRest0_eq (Ix := HIx 1) (Name := ℕ) (U := UU) (Lvl := ℕ) (Val := Elt F) c).symm
    unfold inv0 idle0
    simp only [owns_whole_eq]
    iintro ⟨⟨%X, -, %f, -, Hs⟩, Hi⟩
    isplitr; · iempintro
    isplitr; · iempintro
    iapply e
    isplitl [Hs]
    · iexists f; iexact Hs
    iexact Hi
  hexit c := by
    have hjoin := Pipeline.unscopedBufs_of_arrays (p := 0) (pcfgs (F := F)) adm (Ix := HIx 1) (Name := ℕ) (U := UU) (Lvl := ℕ) launch0.win launch0.arr_whole c
      (pdats W) ((pdats W 0 c).share_full fun _ => rfl) (W c) (W' c) ((pdats W 0 c).arrAt · cfg0.N)
      (fun w => by
        fin_cases w
        · exact ((pdats W 0 c).arrAt_in 0 rfl _).trans (hne c main_arg0 (by decide)).symm
        · exact ((pdats W 0 c).arrAt_in 1 rfl _).trans (hne c main_arg3 (by decide)).symm
        · exact ((pdats W 0 c).arrAt_in 2 rfl _).trans (hne c main_arg1 (by decide)).symm
        · exact ((pdats W 0 c).arrAt_in 3 rfl _).trans (hne c main_v0 (by decide)).symm
        · exact (hout' c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    iapply (owing_of_owesAt c 0 (dat0 W c) (Fin.last _) rfl rfl); iexact HO

end Cert.Proof

end
-- ==== Proof.Main.lean ====
/-
  The whole program: the TensorCore's host operations, its two kernels and the SparseCore call between them, from
  the launch memory to the result.
-/
module

public import proofs.«01_k».proof.Proof.Regions

@[expose] public section

set_option maxRecDepth 16384

noncomputable section

namespace Cert.Proof

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (cellOf pin)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at launch -/

/-- The pipelines' rounds inside the user component. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by infer_instance

/-- The staging cells are distinct. -/
theorem phinj : Function.Injective (cellOf (nD := nD) (τ := τ) (pin (pcfgs (F := F)) adm)) := cellOf_inj

def u₀ : UU := (initOf (K (F := F)).hsCells (K (F := F)).hsToks,
  (initOf (Pipeline.cells (pin (pcfgs (F := F)) adm) phinj) (Pipeline.launchToks (pin (pcfgs (F := F)) adm) phinj), 1))

/-- The two pipelines' ghost state on one device. -/
def G (d : Dev nD) : sProp 𝕄 :=
  iprop((bigSep Finset.univ fun p : Fin 2 => Pipeline.cellsGhost (pin (pcfgs (F := F)) adm) EP p d)
    ∗ bigSep Finset.univ fun p : Fin 2 => Pipeline.toksInit (pin (pcfgs (F := F)) adm) EP p d)

theorem hu₀ (Sc : (d : Dev nD) → Buf (Elt F) (sLoc d)) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m Sc).x q thr) := by
  unfold u₀
  iintro Hu
  ihave H := (ownU_pair (initOf (K (F := F)).hsCells (K (F := F)).hsToks)
    (initOf (Pipeline.cells (pin (pcfgs (F := F)) adm) phinj) (Pipeline.launchToks (pin (pcfgs (F := F)) adm) phinj), (1 : Counters))) $$ Hu
  icases H with ⟨HH, HP⟩
  ihave H := (own_pair_emb (embR (A := UH) (B := UP × Counters)) (initOf (Pipeline.cells (pin (pcfgs (F := F)) adm) phinj) (Pipeline.launchToks (pin (pcfgs (F := F)) adm) phinj)) (1 : Counters)) $$ HP
  icases H with ⟨HP, -⟩
  imod (Pipeline.fund_ghost (pin (pcfgs (F := F)) adm) (EP (F := F)) phinj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (P (F := F) m Sc).x q thr) = iprop(emp) from
    (bigSep_congr fun _ _ => bigSep_univ_of_subsingleton (0 : Fin 1)).trans (BI.bigSep_emp_const _)]
  iempintro

/-! ## The buffers' contents between the steps -/

/-- The TensorCore's buffers that last. -/
abbrev lasting : Finset (DevRef τ sig) := (StableHlo.tcRefs τ sig).filter fun b => ¬ b.isScoped

theorem lasting_held (d : Dev nD) (V : Valuation τ sig (Elt F)) :
    (unscopedBufs d (fun b => V b) : sProp 𝕄) = StableHlo.held (d : Thread nD τ) lasting V := by
  unfold unscopedBufs StableHlo.held lasting StableHlo.tcRefs
  rw [Finset.filter_map, bigSep_map]
  rfl

abbrev op1 : HloOp τ sig (Elt F) := StableHlo.reshape main_arg2 main_v0 (rfl : (.i32 : EltTy) = .i32) shapeCasts_S32768_S16x1x2048
abbrev op2 : HloOp τ sig (Elt F) := StableHlo.reshape main_v1 main_v2 (rfl : (.f32 : EltTy) = .f32) shapeCasts_S16x1x2048_S32768

/-- At launch; after the first reshape; after the scoring; after the second reshape. -/
def V0 (d : Dev nD) : Valuation τ sig (Elt F) := fun b => m (d, b)
def V1 (d : Dev nD) : Valuation τ sig (Elt F) := (op1 (F := F)).result (V0 m d)
def W1 (d : Dev nD) (b : Ref sig .tc) : Buf (Elt F) ((d : Thread nD τ).loc b) := V1 m d b
def V2 (d : Dev nD) : Valuation τ sig (Elt F) := Function.update (V1 m d) (Proc.devRef .tc main_v1) (scored (W1 m) d)
def W2 (d : Dev nD) (b : Ref sig .tc) : Buf (Elt F) ((d : Thread nD τ).loc b) := V2 m d b
def V3 (d : Dev nD) : Valuation τ sig (Elt F) := (op2 (F := F)).result (V2 m d)
def W3 (d : Dev nD) (b : Ref sig .tc) : Buf (Elt F) ((d : Thread nD τ).loc b) := V3 m d b

/-- The scores the tiles read. -/
def sc2 (d : Dev nD) : Buf (Elt F) (sLoc d) := W3 m d main_v2

/-- After the SparseCore call; after the combination. -/
def W4 (d : Dev nD) : (b : Ref sig .tc) → Buf (Elt F) ((d : Thread nD τ).loc b) :=
  Function.update (Function.update (Function.update (W3 m d) main_v3_0 (msAll (sc2 m d) (m (gLoc d)))) main_v3_1 (zsAll (sc2 m d) (m (gLoc d))))
    main_v3_2 (nsAll (m (xLoc d)) (sc2 m d) (m (gLoc d)))
def W5 (d : Dev nD) : (b : Ref sig .tc) → Buf (Elt F) ((d : Thread nD τ).loc b) :=
  Function.update (W4 m d) main_v4 (pooled (W4 m) d)

theorem W2_out (d : Dev nD) : W2 m d main_v1 = scored (W1 m) d := by
  show V2 m d (Proc.devRef .tc main_v1) = _
  unfold V2
  rw [Function.update_self]
theorem W2_ne (d : Dev nD) (b : Ref sig .tc) (h : b ≠ main_v1) : W2 m d b = W1 m d b :=
  Function.update_of_ne (StableHlo.devRef_ne_of_ne h) _ _
theorem W5_out (d : Dev nD) : W5 m d main_v4 = pooled (W4 m) d := Function.update_self _ _ _
theorem W5_ne (d : Dev nD) (b : Ref sig .tc) (h : b ≠ main_v4) : W5 m d b = W4 m d b := Function.update_of_ne h _ _
theorem W1_ne (d : Dev nD) (b : Ref sig .tc) (h : b ≠ main_v0) : W1 m d b = m ((d : Thread nD τ).loc b) :=
  StableHlo.reshape_result_ne _ _ _ _ _ _ _ h
theorem W3_ne (d : Dev nD) (b : Ref sig .tc) (h : b ≠ main_v2) : W3 m d b = W2 m d b :=
  StableHlo.reshape_result_ne _ _ _ _ _ _ _ h

/-- What no step before the call writes is as at launch. -/
theorem W3_keep (d : Dev nD) (b : Ref sig .tc) (h0 : b ≠ main_v0) (h1 : b ≠ main_v1) (h2 : b ≠ main_v2) :
    W3 m d b = m ((d : Thread nD τ).loc b) := by rw [W3_ne m d b h2, W2_ne m d b h1, W1_ne m d b h0]

theorem W4_keep (d : Dev nD) (b : Ref sig .tc) (h0 : b ≠ main_v3_0) (h1 : b ≠ main_v3_1) (h2 : b ≠ main_v3_2) :
    W4 m d b = W3 m d b := by
  unfold W4; rw [Function.update_of_ne h2, Function.update_of_ne h1, Function.update_of_ne h0]
theorem W4_0 (d : Dev nD) : W4 m d main_v3_0 = msAll (sc2 m d) (m (gLoc d)) := by
  unfold W4; rw [Function.update_of_ne (by decide), Function.update_of_ne (by decide), Function.update_self]
theorem W4_1 (d : Dev nD) : W4 m d main_v3_1 = zsAll (sc2 m d) (m (gLoc d)) := by
  unfold W4; rw [Function.update_of_ne (by decide), Function.update_self]
theorem W4_2 (d : Dev nD) : W4 m d main_v3_2 = nsAll (m (xLoc d)) (sc2 m d) (m (gLoc d)) := by
  unfold W4; rw [Function.update_self]

/-- A lasting buffer held whole. -/
abbrev at' (d : Dev nD) (W : (b : Ref sig .tc) → Buf (Elt F) ((d : Thread nD τ).loc b)) (b : Ref sig .tc) : sProp 𝕄 :=
  (d : Thread nD τ).loc b ↦{fullShare} W b

theorem lasting_eq (d : Dev nD) (W : (b : Ref sig .tc) → Buf (Elt F) ((d : Thread nD τ).loc b)) :
    (unscopedBufs d W : sProp 𝕄) = iprop(at' d W main_arg0 ∗ at' d W main_arg3 ∗ at' d W main_v0 ∗ at' d W main_v1 ∗ at' d W main_v4
      ∗ at' d W main_arg1 ∗ at' d W main_v2 ∗ at' d W main_arg2 ∗ at' d W main_v3_0 ∗ at' d W main_v3_1 ∗ at' d W main_v3_2) := by
  unfold unscopedBufs
  rw [show (Finset.univ.filter fun b : Ref sig .tc => ¬ b.isScoped) = {main_arg0, main_arg3, main_v0, main_v1, main_v4, main_arg1, main_v2, main_arg2, main_v3_0, main_v3_1, main_v3_2} by decide]
  iterate 10 rw [SparseCore.bigSep_insert' (by decide)]
  rw [bigSep_singleton]

/-! ## The two kernels of the TensorCore, inside the program -/

theorem tcSt_owing (d : Dev nD) (n : ℕ) : ∃ R : sProp 𝕄, (K (F := F)).tcSt EH d n = iprop(owing d n ∗ R) := ⟨_, rfl⟩

theorem wp_reg [∀ e, Nonempty (Elt F e)] {p : Fin 2} {pd : (p : Fin 2) → (c : Dev nD) → Pipeline.Dat τ (Elt F) (HIx 1) ℕ UU ℕ (pin (pcfgs (F := F)) adm p) c}
    (R : Pipeline.RegionSeg (pcfgs (F := F)) adm pd none defs₀ 𝒱₀ (K (F := F)).L (K (F := F)).lev p) (κ : GSem nD τ sig → ℕ) (Sc : (d : Dev nD) → Buf (Elt F) (sLoc d)) (d : Dev nD)
    (W W' : (b : Ref sig .tc) → Buf (Elt F) ((d : Thread nD τ).loc b)) (n : ℕ)
    (hpre : R.pre d = iprop(unscopedBufs d W ∗ owing d n)) (hpost : R.post d = iprop(unscopedBufs d W' ∗ owing d n)) (Q : PUnit → sProp 𝕄) :
    iprop((K (F := F)).ctx EH (P m Sc) κ ∗ boundary (T d) ∗ unscopedBufs d W ∗ (K (F := F)).tcSt EH d n
        ∗ Pipeline.cellsGhost (pin (pcfgs (F := F)) adm) EP p d ∗ Pipeline.toksInit (pin (pcfgs (F := F)) adm) EP p d
        ∗ (boundary (T d) ∗ unscopedBufs d W' ∗ (K (F := F)).tcSt EH d n -∗ Q ⟨⟩))
      ⊢ wp frame (wpE ((K (F := F)).defs (D (F := F))) 𝒱 (T d) none) Set.univ
          (Prog.lift (.customCall (SparseCore.inner (Pipeline.entry p)) ()) : Prog (TpuEff nD τ sig (Elt F) _ .tc) PUnit) Q := by
  obtain ⟨Rest, hR⟩ := tcSt_owing (F := F) d n
  rw [hR]
  iintro ⟨#Hctx, Hb, Hu, ⟨HO, Hrest⟩, Hg, Ht, Hk⟩
  ihave Hlev := ((K (F := F)).ctx_levAts (EH := EH) (P := P m Sc) κ) $$ Hctx
  iapply ((K (F := F)).wp_liftProg (D (F := F)) 𝒱 (T d) Set.univ none (.op (.customCall (Pipeline.entry p) ()) fun r => .ret r) Q)
  iapply (Pipeline.RegionSeg.wp (pcfgs (F := F)) adm pd none phinj EP defs₀ 𝒱₀ (K (F := F)).L (K (F := F)).lev R d none (fun _ h => absurd h (by simp)) _ Q)
  isplitl [Hk Hrest]
  · iintro ⟨Hb, Hpost⟩
    ihave Hp := (Entails.of_eq hpost) $$ Hpost
    icases Hp with ⟨Hu, HO⟩
    rw [wp_ret]; imodintro
    iapply Hk
    isplitl [Hb]; · iexact Hb
    isplitl [Hu]; · iexact Hu
    isplitl [HO] <;> iassumption
  isplitl [Hb]; · iexact Hb
  isplitl [Hu HO]
  · iapply (Entails.of_eq hpre.symm)
    isplitl [Hu] <;> iassumption
  isplitr; · iexact Hlev
  isplitl [Hg] <;> iassumption

/-! ## @main -/

/-- What the TensorCore keeps at the end: the arguments as at launch, the result as the combination leaves it. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ ((SparseCore.T d).loc main_v4 ↦{fullShare} pooled (W4 m) d))

theorem sub_lasting (op : HloOp τ sig (Elt F)) (h : op.bufs ⊆ StableHlo.tcRefs τ sig) : op.bufs ⊆ lasting := fun b hb =>
  Finset.mem_filter.mpr ⟨h hb, fun h' => Bool.false_ne_true ((op.no_scoped b hb).symm.trans h')⟩

/-- The buffers after the call, from what it hands back and what it left alone. -/
theorem joined (d : Dev nD) :
    iprop(at' d (W3 m d) main_arg0 ∗ at' d (W3 m d) main_arg3 ∗ at' d (W3 m d) main_v0 ∗ at' d (W3 m d) main_v1 ∗ at' d (W3 m d) main_v4
        ∗ reads m (sc2 m) d fullShare ∗ (mLoc d ↦{fullShare} msAll (sc2 m d) (m (gLoc d))) ∗ (zLoc d ↦{fullShare} zsAll (sc2 m d) (m (gLoc d)))
        ∗ (nLoc d ↦{fullShare} nsAll (m (xLoc d)) (sc2 m d) (m (gLoc d))))
      ⊢ unscopedBufs d (W4 m d) := by
  rw [lasting_eq]
  unfold at'
  rw [W4_0, W4_1, W4_2, W4_keep m d main_arg0 (by decide) (by decide) (by decide), W4_keep m d main_arg1 (by decide) (by decide) (by decide),
    W4_keep m d main_arg2 (by decide) (by decide) (by decide), W4_keep m d main_arg3 (by decide) (by decide) (by decide),
    W4_keep m d main_v0 (by decide) (by decide) (by decide), W4_keep m d main_v1 (by decide) (by decide) (by decide),
    W4_keep m d main_v2 (by decide) (by decide) (by decide), W4_keep m d main_v4 (by decide) (by decide) (by decide),
    W3_keep m d main_arg1 (by decide) (by decide) (by decide), W3_keep m d main_arg2 (by decide) (by decide) (by decide)]
  iintro ⟨H0, H3, Hv0, Hv1, Hv4, ⟨Hx, Hs, Hg⟩, Hm, Hz, Hn⟩
  isplitl [H0]; · iexact H0
  isplitl [H3]; · iexact H3
  isplitl [Hv0]; · iexact Hv0
  isplitl [Hv1]; · iexact Hv1
  isplitl [Hv4]; · iexact Hv4
  isplitl [Hx]; · iexact Hx
  isplitl [Hs]; · iexact Hs
  isplitl [Hg]; · iexact Hg
  isplitl [Hm]; · iexact Hm
  isplitl [Hz]; · iexact Hz
  iexact Hn

/-- The buffers before the call, split into what it takes and what it leaves alone. -/
theorem parted (d : Dev nD) :
    (unscopedBufs d (W3 m d) : sProp 𝕄)
      ⊢ iprop((at' d (W3 m d) main_arg0 ∗ at' d (W3 m d) main_arg3 ∗ at' d (W3 m d) main_v0 ∗ at' d (W3 m d) main_v1 ∗ at' d (W3 m d) main_v4)
        ∗ reads m (sc2 m) d fullShare ∗ (mLoc d ↦{fullShare} m (mLoc d)) ∗ (zLoc d ↦{fullShare} m (zLoc d)) ∗ (nLoc d ↦{fullShare} m (nLoc d))) := by
  rw [lasting_eq]
  unfold at'
  rw [W3_keep m d main_arg1 (by decide) (by decide) (by decide), W3_keep m d main_arg2 (by decide) (by decide) (by decide),
    W3_keep m d main_v3_0 (by decide) (by decide) (by decide), W3_keep m d main_v3_1 (by decide) (by decide) (by decide),
    W3_keep m d main_v3_2 (by decide) (by decide) (by decide)]
  iintro ⟨H0, H3, Hv0, Hv1, Hv4, Hx, Hs, Hg, Hm, Hz, Hn⟩
  isplitl [H0 H3 Hv0 Hv1 Hv4]
  · isplitl [H0]; · iexact H0
    isplitl [H3]; · iexact H3
    isplitl [Hv0]; · iexact Hv0
    isplitl [Hv1]; · iexact Hv1
    iexact Hv4
  isplitl [Hx Hs Hg]
  · isplitl [Hx]; · iexact Hx
    isplitl [Hs]; · iexact Hs
    iexact Hg
  isplitl [Hm]; · iexact Hm
  isplitl [Hz]; · iexact Hz
  iexact Hn

/-- What lasts to the end. -/
theorem kept (d : Dev nD) : (unscopedBufs d (W5 m d) : sProp 𝕄) ⊢ FIN m d := by
  rw [lasting_eq]
  unfold at'
  rw [W5_out, W5_ne m d main_arg0 (by decide), W5_ne m d main_arg1 (by decide), W5_ne m d main_arg2 (by decide), W5_ne m d main_arg3 (by decide),
    W4_keep m d main_arg0 (by decide) (by decide) (by decide), W4_keep m d main_arg1 (by decide) (by decide) (by decide),
    W4_keep m d main_arg2 (by decide) (by decide) (by decide), W4_keep m d main_arg3 (by decide) (by decide) (by decide),
    W3_keep m d main_arg0 (by decide) (by decide) (by decide), W3_keep m d main_arg1 (by decide) (by decide) (by decide),
    W3_keep m d main_arg2 (by decide) (by decide) (by decide), W3_keep m d main_arg3 (by decide) (by decide) (by decide)]
  iintro ⟨H0, H3, -, -, Hv4, Hx, -, Hg, -⟩
  isplitl [H0]; · iexact H0
  isplitl [Hx]; · iexact Hx
  isplitl [Hg]; · iexact Hg
  isplitl [H3]; · iexact H3
  iexact Hv4

theorem hmain [∀ e, Nonempty (Elt F e)] (κ : GSem nD τ sig → ℕ) (d : Dev nD) :
    iprop((K (F := F)).ctx EH (P m (sc2 m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [show (Finset.univ : Finset (Fin 2)) = {0, 1} by decide]
  simp only [SparseCore.bigSep_insert' (show (0 : Fin 2) ∉ ({1} : Finset (Fin 2)) by decide), bigSep_singleton]
  rw [show (unscopedBufs d (fun b => m ((SparseCore.T d).loc b)) : sProp 𝕄) = StableHlo.held (T d) lasting (V0 m d) from lasting_held d (V0 m d)]
  simp only [main, wp_bind, wp_pure]
  iintro ⟨#Hctx, Hst, ⟨Hb, Hheld, Hts, -⟩, ⟨Hg0, Hg1⟩, Ht0, Ht1⟩
  -- the segments, reshaped for the scoring
  iapply (StableHlo.wp_hlo_within 𝒱 (T d) none Set.univ (op := op1) (S := lasting) (sub_lasting _ (StableHlo.reshape_bufs_sub ..)) (V := V0 m d)) $$ [Hb Hheld]
  · isplitl [Hb] <;> iassumption
  iintro ⟨Hb, Hheld⟩
  rw [wp_ret]; imodintro
  ihave Hu := (Entails.of_eq (show (StableHlo.held (T d) lasting ((op1 (F := F)).result (V0 m d)) : sProp 𝕄) = unscopedBufs d (W1 m d) from (lasting_held d (V1 m d)).symm)) $$ Hheld
  -- the scoring
  iapply (wp_reg m (reg0 (W1 m) (W2 m) (W2_out m) (W2_ne m)) κ (sc2 m) d (W1 m d) (W2 m d) 0 rfl rfl)
  isplitr; · iexact Hctx
  isplitl [Hb]; · iexact Hb
  isplitl [Hu]; · iexact Hu
  isplitl [Hst]; · iexact Hst
  isplitl [Hg0]; · iexact Hg0
  isplitl [Ht0]; · iexact Ht0
  iintro ⟨Hb, Hu, Hst⟩
  -- the scores, reshaped for the tiles
  ihave Hheld := (Entails.of_eq (show (unscopedBufs d (W2 m d) : sProp 𝕄) = StableHlo.held (T d) lasting (V2 m d) from lasting_held d (V2 m d))) $$ Hu
  iapply (StableHlo.wp_hlo_within 𝒱 (T d) none Set.univ (op := op2) (S := lasting) (sub_lasting _ (StableHlo.reshape_bufs_sub ..)) (V := V2 m d)) $$ [Hb Hheld]
  · isplitl [Hb] <;> iassumption
  iintro ⟨Hb, Hheld⟩
  rw [wp_ret]; imodintro
  ihave Hu := (Entails.of_eq (show (StableHlo.held (T d) lasting ((op2 (F := F)).result (V2 m d)) : sProp 𝕄) = unscopedBufs d (W3 m d) from (lasting_held d (V3 m d)).symm)) $$ Hheld
  ihave Hp := (parted m d) $$ Hu
  icases Hp with ⟨Hleft, Hin⟩
  -- the SparseCore call
  iapply ((K (F := F)).wp_run (D (F := F)) 𝒱 (EH := EH) (P := P m (sc2 m)) κ d 0) $$ [Hst Hin Hleft Hb Hts Hg1 Ht1]
  isplitr; · iexact Hctx
  isplitl [Hst]; · iexact Hst
  isplitl [Hin]
  · iapply (Entails.of_eq (cores_in m (sc2 m) d).symm); iexact Hin
  iintro ⟨Hst, Hdn⟩
  ihave Hout := (Entails.of_eq (cores_out m (sc2 m) d)) $$ Hdn
  icases Hleft with ⟨H0, H3, Hv0, Hv1, Hv4⟩
  ihave Hu := (joined m d) $$ [H0 H3 Hv0 Hv1 Hv4 Hout]
  · isplitl [H0]; · iexact H0
    isplitl [H3]; · iexact H3
    isplitl [Hv0]; · iexact Hv0
    isplitl [Hv1]; · iexact Hv1
    isplitl [Hv4]; · iexact Hv4
    iexact Hout
  -- the combination
  iapply (wp_reg m (reg2 (W4 m) (W5 m) (W5_out m) (W5_ne m)) κ (sc2 m) d (W4 m d) (W5 m d) 1 rfl rfl)
  isplitr; · iexact Hctx
  isplitl [Hb]; · iexact Hb
  isplitl [Hu]; · iexact Hu
  isplitl [Hst]; · iexact Hst
  isplitl [Hg1]; · iexact Hg1
  isplitl [Ht1]; · iexact Ht1
  iintro ⟨Hb, Hu, Hst⟩
  imodintro
  isplitl [Hst]; · iexact Hst
  isplitl [Hu]
  · iapply (kept m d); iexact Hu
  isplitl [Hb] <;> iassumption

/-! ## The run -/

/-- What a final state's memory holds on one device. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem ((SparseCore.T d).loc main_v4) = pooled (W4 m) d

/-- A buffer held whole is what the state's memory holds there. -/
theorem agrees (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (agrees s' _ _) $$ [H0 HSI]
  · isplitl [H0] <;> iassumption
  icases H with ⟨%h0, HSI⟩
  ihave H := (agrees s' _ _) $$ [H1 HSI]
  · isplitl [H1] <;> iassumption
  icases H with ⟨%h1, HSI⟩
  ihave H := (agrees s' _ _) $$ [H2 HSI]
  · isplitl [H2] <;> iassumption
  icases H with ⟨%h2, HSI⟩
  ihave H := (agrees s' _ _) $$ [H3 HSI]
  · isplitl [H3] <;> iassumption
  icases H with ⟨%h3, HSI⟩
  ihave H := (agrees s' _ _) $$ [H4 HSI]
  · isplitl [H4] <;> iassumption
  icases H with ⟨%h4, -⟩
  ipureintro; exact ⟨h0, h1, h2, h3, h4⟩

/-- The run's outcome: on every device the arguments unchanged and the result the combination's, every semaphore zero. -/
def QC : PUnit × MemSt nD τ sig (Elt F) → Prop := fun r => (∀ c : Dev nD,
  (r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)
    ∧ r.2.mem ((SparseCore.T c).loc main_v4) = pooled (W4 m) c)) ∧ r.2.sem = fun _ => 0

theorem run_main [∀ e, Nonempty (Elt F e)] (hseg : SegOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (sc2 m)) (A := ∅) facts v₀
    (fun q hq => match q with | 0 => nomatch hq)
    (fun q _ => match q with | 0 => tileObl m (sc2 m) hseg)
    (fun q _ => match q with | 0 => SparseCore.Cfg.VecSplit.of_plain (vecSplit m (sc2 m)))
    m ρ main (fun d => G d) (FIN m) (u₀ (F := F)) (sep_elim_left.trans (hu₀ m (sc2 m))) (hmain m ρ) (fq m) (hfin m) (QC m) (fun _ h hz => ⟨h, hz⟩)

end Cert.Proof

end
-- ==== Proof.Frames.lean ====
/-
  The kernel at the words: its run is the idealized kernel's, whose text is the same.
-/
module

public import proofs.«01_k».proof.Proof.Main
public import proofs.«01_k».proof.Proof.Gen.Kernel

@[expose] public section

noncomputable section

namespace Cert.Proof

open Idealize.ShloMosaic
open Idealize.SL.Sem

instance elt_nonempty (e : EltTy) : Nonempty (Elt Bits e) := by cases e <;> exact ⟨0⟩

set_option maxHeartbeats 8000000 in
set_option maxRecDepth 100000 in
theorem tile_same : Cert.Kernel.cc1__sc_body (F := Bits) = Cert.KernelIdeal.cc1__sc_body (F := Bits) := rfl
theorem scores_same : Cert.Kernel.cc0__scores_body (F := Bits) = Cert.KernelIdeal.cc0__scores_body (F := Bits) := rfl
theorem combine_same : Cert.Kernel.cc2__combine_body (F := Bits) = Cert.KernelIdeal.cc2__combine_body (F := Bits) := rfl

set_option maxRecDepth 100000 in
theorem bodies_same : Cert.Kernel.defs₀ (F := Bits) = Cert.KernelIdeal.defs₀ (F := Bits) := by
  refine funext fun p => funext fun l => funext fun a => ?_
  match p, l, a with
  | .tc, 0, (t, s) =>
    unfold Cert.Kernel.defs₀ Cert.KernelIdeal.defs₀
    dsimp only
    rw [scores_same]
    rfl
  | .tc, 1, _ => rfl
  | .tc, 2, (t, s) =>
    unfold Cert.Kernel.defs₀ Cert.KernelIdeal.defs₀
    dsimp only
    rw [combine_same]
    rfl
  | .scVector c s, 1, _ =>
    unfold Cert.Kernel.defs₀ Cert.KernelIdeal.defs₀
    dsimp only
    rw [tile_same]
    rfl
  | .scVector c s, 0, _ => rfl
  | .scVector c s, 2, _ => rfl
  | .scScalar c, 0, _ => rfl
  | .scScalar c, 1, _ => rfl
  | .scScalar c, 2, _ => rfl

theorem defs_same : Cert.Kernel.defs (F := Bits) = Cert.KernelIdeal.defs (F := Bits) := by
  unfold Cert.Kernel.defs Cert.KernelIdeal.defs
  rw [bodies_same]
  rfl

end Cert.Proof
-- ==== Proof.Pre.lean ====
/-
  What the precondition says of the arguments: the segments are below sixteen and in order.
-/
module

public import proofs.«01_k».proof.Defs
public import proofs.«01_k».proof.Proof.Gen.Pre_sorted_ids
public import Idealize.ShloMosaic.Lib.StableHlo.Run
public import Idealize.ShloMosaic.Lib.ReduceAll
public import Idealize.ShloMosaic.Lib.ValueIdxCore
public import Idealize.ShloMosaic.Lib.Pipeline.Value

@[expose] public section

noncomputable section

namespace Cert.Proof

open Idealize.ShloMosaic
open Idealize.ShloMosaic.ValueIdx (ix1)

abbrev S1_32768 : Shape := ⟨1, ![32768]⟩

instance scalar_subsingleton : Subsingleton (Cert.Pre_sorted_ids.S_).Idx := ⟨fun i j => funext fun a => a.elim0⟩

/-- The index of node `n`. -/
abbrev nd (n : Fin 32768) : S1_32768.Idx := ix1 n

/-- The segments are below sixteen and never decrease. -/
structure Sorted (s : S1_32768.Idx → BitVec 32) : Prop where
  lt : ∀ j, (s j).toNat < 16
  step : ∀ n : ℕ, ∀ h : n + 1 < 32768, (s (nd ⟨n, by omega⟩)).toNat ≤ (s (nd ⟨n + 1, h⟩)).toNat

theorem sorted_of_pre {F : FTy → Type} [FloatOps F] (a0 : FVec F Cert.Pre_sorted_ids.S16x128 .f32) (a1 : FVec F Cert.Pre_sorted_ids.S32768x128 .f32)
    (a2 : IVec Cert.Pre_sorted_ids.S32768 32) (a3 : FVec F Cert.Pre_sorted_ids.S128x128 .f32)
    (h : Cert.Pre_sorted_ids.fn a0 a1 a2 a3 = fun _ => 1#1) : Sorted a2 := by
  have e := congrFun h (fun a => a.elim0)
  unfold Cert.Pre_sorted_ids.fn at e
  simp only [andi, IntOp.andi_eq_one] at e
  obtain ⟨⟨e1, e2⟩, e3⟩ := e
  have lt : ∀ j, (a2 j).toNat < 16 := by
    intro j
    have f1 := Host.reduce_andi_all _ _ _ _ _ e1 j
    have f2 := Host.reduce_andi_all _ _ _ _ _ e2 j
    have f1 := IntOp.cmpi_sge.1 f1
    have f2 := IntOp.cmpi_slt.1 f2
    simp only [broadcastInDim, constantI, BitVec.toInt_eq_toNat_cond, BitVec.toNat_ofNat, Nat.reducePow, Nat.reduceMod] at f1 f2
    omega
  refine ⟨lt, fun n hn => ?_⟩
  have f3 := Host.reduce_andi_all _ _ _ _ _ e3 (ix1 (⟨n, by omega⟩ : Fin 32767))
  have f3 := IntOp.cmpi_sge.1 f3
  rw [extractStridedSlice_apply _ a2 _ _ (nd ⟨n, by omega⟩) (fun a => by match a with | 0 => exact (Nat.zero_add n).symm),
    extractStridedSlice_apply _ a2 _ _ (nd ⟨n + 1, hn⟩) (fun a => by match a with | 0 => exact Nat.add_comm n 1)] at f3
  have l1 := lt (nd ⟨n, by omega⟩)
  have l2 := lt (nd ⟨n + 1, hn⟩)
  simp only [BitVec.toInt_eq_toNat_cond] at f3
  show (a2 (nd ⟨n, _⟩)).toNat ≤ (a2 (nd ⟨n + 1, _⟩)).toNat
  omega

end Cert.Proof
-- ==== Proof.Quiet.lean ====
/-
  Every program runs and ends quiet with its arguments unchanged.
-/
module

public import proofs.«01_k».proof.Proof.Frames
public import proofs.«01_k».proof.Proof.Pre
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic

instance elt_inhabited (e : EltTy) : Nonempty (Elt Ideal e) := by
  cases e <;> first | exact ⟨(0 : EReal)⟩ | exact ⟨(0 : BitVec _)⟩

theorem frame_ideal : Cert.quiescent_KernelIdeal := fun m ρ h =>
  (θ_run Cert.KernelIdeal.defs _ _).mono (fun _ h => ⟨fun c => ⟨(h.1 c).1, (h.1 c).2.1, (h.1 c).2.2.1, (h.1 c).2.2.2.1⟩, h.2⟩)
    (run_main (F := Ideal) m ρ fun d j => (sorted_of_pre _ _ _ _ (h d)).lt j)

theorem frame_kernel : Cert.quiescent_Kernel := fun m ρ h => by
  have r := run_main (F := Bits) m ρ fun d j => (sorted_of_pre _ _ _ _ (h d)).lt j
  rw [← defs_same] at r
  exact (θ_run Cert.Kernel.defs _ _).mono
    (fun _ h => ⟨fun c => ⟨(h.1 c).1, (h.1 c).2.1, (h.1 c).2.2.1, (h.1 c).2.2.2.1⟩, h.2⟩) r

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Finite.lean ====
/-
  What the second precondition says besides: the floats of the arguments are reals.
-/
module

public import proofs.«01_k».proof.Defs
public import proofs.«01_k».proof.Proof.Pre
public import proofs.«01_k».proof.Proof.Gen.Pre_sorted_finite
public import Idealize.ShloMosaic.Lib.StableHlo.Run
public import Idealize.ShloMosaic.Lib.ReduceAll
public import Idealize.ShloMosaic.Lib.ValueIdxCore
public import Idealize.ShloMosaic.Lib.Pipeline.Value

@[expose] public section

noncomputable section

namespace Cert.Proof

open Idealize.ShloMosaic

/-- A float whose absolute value is found below the infinity is a real. -/
theorem real_of_abs {x : Ideal .f32}
    (h : FloatOps.cmpf .olt (FloatOps.hostAbsf x) (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  by_cases k : max (x : EReal) (-(x : EReal)) < ⊤
  · rw [max_lt_iff] at k
    refine ⟨EReal.toReal x, (EReal.coe_toReal k.1.ne ?_).symm⟩
    intro hb
    rw [hb] at k
    exact absurd k.2 (by simp)
  · simp [k] at h

/-- The further precondition: segments as before, and every float of the three arguments is a real. -/
theorem finite_of_pre (a0 : FVec Ideal Cert.Pre_sorted_ids.S16x128 .f32) (a1 : FVec Ideal Cert.Pre_sorted_ids.S32768x128 .f32)
    (a2 : IVec Cert.Pre_sorted_ids.S32768 32) (a3 : FVec Ideal Cert.Pre_sorted_ids.S128x128 .f32)
    (h : Cert.Pre_sorted_finite.fn a0 a1 a2 a3 = fun _ => 1#1) :
    Sorted a2 ∧ (∀ j, ∃ r : ℝ, a0 j = (r : EReal)) ∧ (∀ j, ∃ r : ℝ, a1 j = (r : EReal)) ∧ ∀ j, ∃ r : ℝ, a3 j = (r : EReal) := by
  have e := congrFun h (fun a => a.elim0)
  unfold Cert.Pre_sorted_finite.fn Cert.Pre_sorted_finite.fn_part1 at e
  simp only [andi, IntOp.andi_eq_one] at e
  obtain ⟨⟨⟨e0, e1⟩, e2⟩, e3⟩ := e
  refine ⟨sorted_of_pre (F := Ideal) a0 a1 a2 a3 ?_, fun j => real_of_abs ?_, fun j => real_of_abs ?_, fun j => real_of_abs ?_⟩
  · funext u
    unfold Cert.Pre_sorted_ids.fn
    simp only [andi, IntOp.andi_eq_one]
    rw [Subsingleton.elim u (fun a => a.elim0)]
    exact e0
  · exact Host.reduce_andi_all _ _ _ _ _ e1 j
  · exact Host.reduce_andi_all _ _ _ _ _ e2 j
  · exact Host.reduce_andi_all _ _ _ _ _ e3 j

end Cert.Proof
-- ==== Proof.QuietFinite.lean ====
/-
  The frames under the second precondition.
-/
module

public import proofs.«01_k».proof.Proof.Quiet
public import proofs.«01_k».proof.Proof.Finite
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic

theorem frame_ideal_finite : Cert.quiescent_KernelIdeal_pre_sorted_finite := fun m ρ h =>
  (θ_run Cert.KernelIdeal.defs _ _).mono (fun _ h => ⟨fun c => ⟨(h.1 c).1, (h.1 c).2.1, (h.1 c).2.2.1, (h.1 c).2.2.2.1⟩, h.2⟩)
    (run_main (F := Ideal) m ρ fun d j => (finite_of_pre _ _ _ _ (h d)).1.lt j)

theorem frame_reference_finite : Cert.quiescent_ReferenceIdeal_pre_sorted_finite := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Soft.lean ====
/-
  The softmax over one segment, on the reals: it does not depend on the number that the exponents are shifted by,
  and it can be put together from chunks, each with a shift of its own.
-/
module

public import Idealize.ShloMosaic.PureOps.Ideal
public import Idealize.ShloMosaic.Lib.StableHlo.Run

@[expose] public section

noncomputable section

namespace Cert.Proof

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Soft
variable {ι : Type} [Fintype ι] (p : ι → Prop) [DecidablePred p] (s x : ι → ℝ)

/-- The weighted sum and the sum of weights over the members, at the shift `K`. -/
def top (K : ℝ) : ℝ := ∑ n, if p n then Real.exp (s n - K) * x n else 0
def bottom (K : ℝ) : ℝ := ∑ n, if p n then Real.exp (s n - K) else 0

/-- The members' mean of `x` under the weights `exp s`. -/
def soft : ℝ := top p s x 0 / bottom p s 0

theorem top_shift (K : ℝ) : top p s x K = Real.exp (-K) * top p s x 0 := by
  unfold top
  rw [Finset.mul_sum]
  refine Finset.sum_congr rfl fun n _ => ?_
  split
  · rw [← mul_assoc, ← Real.exp_add]; congr 2; ring
  · simp

theorem bottom_shift (K : ℝ) : bottom p s K = Real.exp (-K) * bottom p s 0 := by
  unfold bottom
  rw [Finset.mul_sum]
  refine Finset.sum_congr rfl fun n _ => ?_
  split
  · rw [← Real.exp_add]; congr 1; ring
  · simp

theorem soft_shift (K : ℝ) : top p s x K / bottom p s K = soft p s x := by
  rw [top_shift, bottom_shift, mul_div_mul_left _ _ (Real.exp_ne_zero _), soft]

theorem bottom_pos (K : ℝ) (n : ι) (h : p n) : 0 < bottom p s K := by
  unfold bottom
  refine Finset.sum_pos' (fun i _ => ?_) ⟨n, Finset.mem_univ _, ?_⟩
  · split
    · exact (Real.exp_pos _).le
    · exact le_rfl
  · rw [if_pos h]; exact Real.exp_pos _

theorem bottom_zero (K : ℝ) (h : ∀ n, ¬ p n) : bottom p s K = 0 := by
  unfold bottom
  exact Finset.sum_eq_zero fun n _ => if_neg (h n)

theorem soft_zero (h : ∀ n, ¬ p n) : soft p s x = 0 := by
  unfold soft
  rw [bottom_zero p s 0 h, div_zero]

/-- Each member's weight first divided by the sum. -/
theorem weights_first (K : ℝ) : (∑ n, if p n then Real.exp (s n - K) / bottom p s K * x n else 0) = soft p s x := by
  rw [← soft_shift p s x K]
  unfold top
  rw [Finset.sum_div]
  refine Finset.sum_congr rfl fun n _ => ?_
  split
  · ring
  · simp
end Soft

/-- Node `i` of chunk `r`. -/
def nodeAt (r : Fin 128) (i : Fin 256) : Fin 32768 := ⟨256 * r.val + i.val, by omega⟩

theorem sum_chunks {M : Type} [AddCommMonoid M] (f : Fin 32768 → M) : (∑ r, ∑ i, f (nodeAt r i)) = ∑ n, f n := by
  rw [← Fintype.sum_prod_type']
  exact Fintype.sum_equiv (finProdFinEquiv (m := 128) (n := 256)) _ _ fun q => congrArg f (Fin.ext (by
    show 256 * q.1.val + q.2.val = q.2.val + 256 * q.1.val
    omega))

/-- Chunks with their own shifts, brought to one shift and added up. -/
theorem chunks_top (p : Fin 32768 → Prop) [DecidablePred p] (s x : Fin 32768 → ℝ) (c : Fin 128 → ℝ) (K : ℝ) :
    (∑ r, (∑ i, if p (nodeAt r i) then Real.exp (s (nodeAt r i) - c r) * x (nodeAt r i) else 0) * Real.exp (c r - K)) = top p s x K := by
  unfold top
  rw [← sum_chunks]
  refine Finset.sum_congr rfl fun r _ => ?_
  rw [Finset.sum_mul]
  refine Finset.sum_congr rfl fun i _ => ?_
  split
  · rw [mul_right_comm, ← Real.exp_add]; congr 2; ring
  · simp

theorem chunks_bottom (p : Fin 32768 → Prop) [DecidablePred p] (s : Fin 32768 → ℝ) (c : Fin 128 → ℝ) (K : ℝ) :
    (∑ r, (∑ i, if p (nodeAt r i) then Real.exp (s (nodeAt r i) - c r) else 0) * Real.exp (c r - K)) = bottom p s K := by
  have h := chunks_top p s (fun _ => 1) c K
  simpa [top, bottom] using h

/-- The quotient of two reals, the divisor not zero. -/
theorem div_reals (a b : ℝ) (hb : b ≠ 0) : Ideal.div (a : EReal) (b : EReal) = ((a / b : ℝ) : EReal) := by
  rw [Ideal.div_coe hb, ← EReal.coe_mul]
  congr 1
  ring

/-- The projected query of a segment. -/
def rotReal (h : Fin 16 → Fin 128 → ℝ) (a : Fin 128 → Fin 128 → ℝ) (i : Fin 16) (k : Fin 128) : ℝ := ∑ l, h i l * a l k

/-- The score of a node: its row times the projected query of its segment. -/
def scoreReal (x : Fin 32768 → Fin 128 → ℝ) (h : Fin 16 → Fin 128 → ℝ) (a : Fin 128 → Fin 128 → ℝ) (g : Fin 32768 → Fin 16)
    (n : Fin 32768) : ℝ := ∑ k, x n k * rotReal h a (g n) k

end Cert.Proof
-- ==== Proof.RefValue.lean ====
/-
  The value of the reference over the extended reals: every segment's softmax mean of its nodes' rows.
-/
module

public import proofs.«01_k».proof.Proof.Finite
public import proofs.«01_k».proof.Proof.Soft
public import proofs.«01_k».proof.Proof.Gen.ReferenceIdeal.Run
public import Idealize.ShloMosaic.Lib.Pointwise
public import Idealize.ShloMosaic.Lib.Routing.OpsSet
public import Idealize.ShloMosaic.Lib.Routing.OpsPair

@[expose] public section

set_option maxRecDepth 16384

noncomputable section

namespace Cert.Proof.Ref

open Cert.ReferenceIdeal Cert.ReferenceIdeal.Facts₀ Cert.ReferenceIdeal.Facts Idealize.ShloMosaic
open Idealize.ShloMosaic.TcCoe

section Stages

variable (a0 : FVec Ideal S16x128 .f32) (a1 : FVec Ideal S32768x128 .f32) (a2 : IVec S32768 32) (a3 : FVec Ideal S128x128 .f32)

/-- The segment numbers as a column. -/
def column : IVec S32768x1 32 := broadcastInDim S32768x1 ![0] bcast_S32768_S32768x1_0 a2

/-- The same with negative numbers wrapped, of which there are none. -/
def wrapped : IVec S32768x1 32 :=
  broadcastInDim S32768x1 ![0] bcast_S32768_S32768x1_0 (select (cmpi .slt a2 (broadcastInDim S32768 ![] bcast_S_S32768 (constantI S_ 32 0#32)))
    (addi a2 (broadcastInDim S32768 ![] bcast_S_S32768 (constantI S_ 32 16#32))) a2)

/-- The scores. -/
def scores : FVec Ideal S32768 .f32 :=
  Host.reduceAdd (mulf a1 (Host.gather gather_S16x128_S32768x1_S32768x128_1_0_n_n_0_1_1128
    (Host.dotGeneral dot_S16x128_S128x128_S16x128_1_0_0_1_n_n none a0 a3) (wrapped a2))) (constant S_ .f32 0x00000000#32) reducesTo_S32768x128_S32768_d1 h_S_

/-- The segments' largest scores. -/
def largest (s : FVec Ideal S32768 .f32) : FVec Ideal S16 .f32 :=
  Host.reduce FloatOps.maximumf (select (cmpi .eq (broadcastInDim S32768x16 ![0, 1] bcast_S32768x1_S32768x16_0_1 (column a2))
      (broadcastInDim S32768x16 ![0, 1] bcast_S1x16_S32768x16_0_1 (broadcastInDim S1x16 ![1] bcast_S16_S1x16_1 (iotaInDim S16 32 0))))
    (broadcastInDim S32768x16 ![0, 1] bcast_S32768x1_S32768x16_0_1 (broadcastInDim S32768x1 ![0] bcast_S32768_S32768x1_0 s))
    (broadcastInDim S32768x16 ![] bcast_S_S32768x16 (id (constant S_ .f32 0xFF800000#32)))) (constant S_ .f32 0xFF800000#32) reducesTo_S32768x16_S16_d0 h_S_

/-- The shifts: the largest scores where they are finite, else `0`. -/
def shifts (s : FVec Ideal S32768 .f32) : FVec Ideal S16 .f32 :=
  select (cmpf .olt (Host.absf (largest a2 s)) (broadcastInDim S16 ![] bcast_S_S16 (constant S_ .f32 0x7F800000#32))) (largest a2 s)
    (broadcastInDim S16 ![] bcast_S_S16 (id (constant S_ .f32 0x00000000#32)))

/-- The shifted exponentials. -/
def exps (s : FVec Ideal S32768 .f32) : FVec Ideal S32768 .f32 :=
  Host.exp (subf s (Host.gather gather_S16_S32768x1_S32768_n_0_n_n_0_1_1 (shifts a2 s) (wrapped a2)))

/-- The segments' sums of them. -/
def sums (e : FVec Ideal S32768 .f32) : FVec Ideal S16 .f32 :=
  Host.scatterAdd scatter_S16_S32768x1_S32768_n_0_0_1 (broadcastInDim S16 ![] bcast_S_S16 (constant S_ .f32 0x00000000#32)) (column a2) e

/-- The weights. -/
def weights (e : FVec Ideal S32768 .f32) : FVec Ideal S32768 .f32 :=
  Host.divf e (Host.gather gather_S16_S32768x1_S32768_n_0_n_n_0_1_1 (sums a2 e) (wrapped a2))

/-- The segments' weighted sums of the rows. -/
def out (w : FVec Ideal S32768 .f32) : FVec Ideal S16x128 .f32 :=
  Host.scatterAdd scatter_S16x128_S32768x1_S32768x128_1_0_0_1 (broadcastInDim S16x128 ![] bcast_S_S16x128 (constant S_ .f32 0x00000000#32)) (column a2)
    (mulf (broadcastInDim S32768x128 ![0, 1] bcast_S32768x1_S32768x128_0_1 (broadcastInDim S32768x1 ![0] bcast_S32768_S32768x1_0 w)) a1)

/-- The whole reference. -/
def whole : FVec Ideal S16x128 .f32 := out a1 a2 (weights a2 (exps a2 (scores a0 a1 a2 a3)))

end Stages

/-- What the reference leaves in its result is the stages' composition. -/
theorem res_eq (m : (ℓ : Loc nD τ sig) → Buf (Elt Ideal) ℓ) (c : Dev nD) :
    Value.res_main_v48 m c = whole (m ((c.tc : Thread nD τ).loc main_arg0)) (m ((c.tc : Thread nD τ).loc main_arg1))
      (m ((c.tc : Thread nD τ).loc main_arg2)) (m ((c.tc : Thread nD τ).loc main_arg3)) := rfl

open Idealize.ShloMosaic.Routing in
theorem wrapped_at (a2 : IVec S32768 32) (g : Fin 32768 → Fin 16) (hg : ∀ n, a2 (ValueIdx.ix1 n) = BitVec.ofNat 32 (g n).val) (n : Fin 32768) :
    wrapped a2 (ValueIdx.ix2 n (0 : Fin 1)) = BitVec.ofNat 32 (g n).val := by
  have e : wrapped a2 (ValueIdx.ix2 n (0 : Fin 1)) = Scalar.select (IntOp.cmpi .slt (a2 (ValueIdx.ix1 n)) 0#32) (a2 (ValueIdx.ix1 n) + 16#32) (a2 (ValueIdx.ix1 n)) := by
    pointwise [wrapped]
    exact congrArg (fun q => Scalar.select (IntOp.cmpi .slt (a2 q) 0#32) (IntOp.addi (a2 q) 16#32) (a2 q)) (ix1_eq_valueIdx n)
  rw [e, wrap_of_lt, hg]
  rw [hg, BitVec.toNat_ofNat]
  have := (g n).isLt
  omega

theorem column_at (a2 : IVec S32768 32) (n : Fin 32768) : column a2 (ValueIdx.ix2 n (0 : Fin 1)) = a2 (ValueIdx.ix1 n) := by
  pointwise [column]
  exact congrArg a2 (ix1_eq_valueIdx n)

open Idealize.ShloMosaic.Routing in
theorem row_lands (idx : IVec S32768x1 32) (n : Fin 32768) (j : Fin 16) :
    scatter_S16_S32768x1_S32768_n_0_0_1.resultIdx? (ValueIdx.ix1 n) idx = some (ValueIdx.ix1 j)
      ↔ (idx (ValueIdx.ix2 n (0 : Fin 1))).toInt = (j.val : Int) := by
  rw [resultIdx?_ix1]
  have hw : scatter_S16_S32768x1_S32768_n_0_0_1.window (ValueIdx.ix1 n) 0 = 0 := rfl
  have hs : scatter_S16_S32768x1_S32768_n_0_0_1.start (ValueIdx.ix1 n) idx 0 = (idx (ValueIdx.ix2 n (0 : Fin 1))).toInt := by
    refine congrArg (fun q => (idx q).toInt) (funext fun b => Fin.ext ?_)
    match b with
    | ⟨0, _⟩ => rfl
    | ⟨1, _⟩ => rfl
  rw [hw, hs]
  simp

open Idealize.ShloMosaic.Routing in
theorem entry_lands (idx : IVec S32768x1 32) (n : Fin 32768) (k : Fin 128) (j : Fin 16) (d : Fin 128) :
    scatter_S16x128_S32768x1_S32768x128_1_0_0_1.resultIdx? (ValueIdx.ix2 n k) idx = some (ValueIdx.ix2 j d)
      ↔ (idx (ValueIdx.ix2 n (0 : Fin 1))).toInt = (j.val : Int) ∧ k = d := by
  rw [resultIdx?_ix2]
  have hw0 : scatter_S16x128_S32768x1_S32768x128_1_0_0_1.window (ValueIdx.ix2 n k) 0 = 0 := rfl
  have hw1 : scatter_S16x128_S32768x1_S32768x128_1_0_0_1.window (ValueIdx.ix2 n k) 1 = k.val := rfl
  have hs1 : scatter_S16x128_S32768x1_S32768x128_1_0_0_1.start (ValueIdx.ix2 n k) idx 1 = 0 := rfl
  have hs : scatter_S16x128_S32768x1_S32768x128_1_0_0_1.start (ValueIdx.ix2 n k) idx 0 = (idx (ValueIdx.ix2 n (0 : Fin 1))).toInt := by
    refine congrArg (fun q => (idx q).toInt) (funext fun b => Fin.ext ?_)
    match b with
    | ⟨0, _⟩ => rfl
    | ⟨1, _⟩ => rfl
  rw [hw0, hs, hw1, hs1]
  constructor
  · rintro ⟨h, h'⟩; exact ⟨by simpa using h, Fin.ext (by omega)⟩
  · rintro ⟨h, rfl⟩; exact ⟨by simpa using h, by omega⟩

/-- The places of a vector over the nodes are the nodes. -/
def vecEquiv : Fin 32768 ≃ S32768.Idx where
  toFun := ValueIdx.ix1
  invFun i := i 0
  left_inv _ := rfl
  right_inv i := (ValueIdx.eq_ix1 i).symm

theorem rotated_at (a0 : FVec Ideal S16x128 .f32) (a3 : FVec Ideal S128x128 .f32) (h : Fin 16 → Fin 128 → ℝ) (a : Fin 128 → Fin 128 → ℝ)
    (hh : ∀ i l, a0 (ix2 i l) = (h i l : EReal)) (ha : ∀ l k, a3 (ix2 l k) = (a l k : EReal)) (i : Fin 16) (k : Fin 128) :
    Host.dotGeneral dot_S16x128_S128x128_S16x128_1_0_0_1_n_n none a0 a3 (ix2 i k) = (rotReal h a i k : EReal) := by
  pointwise
  rw [rotReal, coe_sum]
  exact Finset.sum_congr rfl fun l _ => by rw [hh, ha, EReal.coe_mul]

section Values

variable (a0 : FVec Ideal S16x128 .f32) (a1 : FVec Ideal S32768x128 .f32) (a2 : IVec S32768 32) (a3 : FVec Ideal S128x128 .f32)
variable (x : Fin 32768 → Fin 128 → ℝ) (h : Fin 16 → Fin 128 → ℝ) (a : Fin 128 → Fin 128 → ℝ) (g : Fin 32768 → Fin 16)
variable (hg : ∀ n, a2 (ValueIdx.ix1 n) = BitVec.ofNat 32 (g n).val) (hx : ∀ n k, a1 (ix2 n k) = (x n k : EReal))

include hg

open Idealize.ShloMosaic.Routing in
/-- A vector over the segments, brought to the nodes. -/
theorem taken (v : FVec Ideal S16 .f32) (n : Fin 32768) :
    Host.gather gather_S16_S32768x1_S32768_n_0_n_n_0_1_1 v (wrapped a2) (ValueIdx.ix1 n) = v (ValueIdx.ix1 (g n)) :=
  gather_take1 gather_S16_S32768x1_S32768_n_0_n_n_0_1_1 rfl rfl rfl rfl v (wrapped a2) n (g n) (wrapped_at a2 g hg n) (by norm_num)

open Idealize.ShloMosaic.Routing in
theorem taken_row (v : FVec Ideal S16x128 .f32) (n : Fin 32768) (k : Fin 128) :
    Host.gather gather_S16x128_S32768x1_S32768x128_1_0_n_n_0_1_1128 v (wrapped a2) (ValueIdx.ix2 n k) = v (ValueIdx.ix2 (g n) k) :=
  gather_row gather_S16x128_S32768x1_S32768x128_1_0_n_n_0_1_1128 rfl rfl rfl rfl rfl v (wrapped a2) n k (g n) (wrapped_at a2 g hg n) (by norm_num)

theorem lands (n : Fin 32768) (j : Fin 16) : (column a2 (ValueIdx.ix2 n (0 : Fin 1))).toInt = (j.val : Int) ↔ g n = j := by
  rw [column_at, hg, StableHlo.Predicate.toInt_ofNat_small _ (by have := (g n).isLt; omega)]
  constructor
  · intro e; exact Fin.ext (by omega)
  · rintro rfl; rfl

include hx in
theorem scores_at (hh : ∀ i l, a0 (ix2 i l) = (h i l : EReal)) (ha : ∀ l k, a3 (ix2 l k) = (a l k : EReal)) (n : Fin 32768) :
    scores a0 a1 a2 a3 (ValueIdx.ix1 n) = (scoreReal x h a g n : EReal) := by
  rw [← ix1_eq_valueIdx]
  pointwise [scores]
  rw [scoreReal, coe_sum]
  refine Finset.sum_congr rfl fun k _ => ?_
  rw [hx, ix2_eq_valueIdx, taken_row a2 g hg, ← ix2_eq_valueIdx]
  exact (congrArg _ (rotated_at a0 a3 h a hh ha (g n) k)).trans (EReal.coe_mul _ _).symm

omit hg in
/-- The shift of every segment is a real. -/
theorem shifts_real (s : FVec Ideal S32768 .f32) (j : Fin 16) : ∃ r : ℝ, shifts a2 s (ValueIdx.ix1 j) = (r : EReal) := by
  have e : shifts a2 s (ValueIdx.ix1 j)
      = Scalar.select (FloatOps.cmpf .olt (FloatOps.hostAbsf (largest a2 s (ValueIdx.ix1 j))) (FloatOps.ofBits (F := Ideal) .f32 0x7F800000#32))
        (largest a2 s (ValueIdx.ix1 j)) (Ideal.ofBits .f32 0x00000000#32) := rfl
  rw [e]
  by_cases c : FloatOps.cmpf .olt (FloatOps.hostAbsf (largest a2 s (ValueIdx.ix1 j))) (FloatOps.ofBits (F := Ideal) .f32 0x7F800000#32) = 1#1
  · obtain ⟨r, hr⟩ := real_of_abs c
    exact ⟨r, (if_pos c).trans hr⟩
  · exact ⟨0, (if_neg c).trans (by rw [Ideal.ofBits_zero_f32]; rfl)⟩

variable (s : Fin 32768 → ℝ) (K : Fin 16 → ℝ)

theorem exps_at (S : FVec Ideal S32768 .f32) (hS : ∀ n, S (ValueIdx.ix1 n) = (s n : EReal)) (hK : ∀ j, shifts a2 S (ValueIdx.ix1 j) = (K j : EReal))
    (n : Fin 32768) : exps a2 S (ValueIdx.ix1 n) = (Real.exp (s n - K (g n)) : EReal) := by
  have e : exps a2 S (ValueIdx.ix1 n) = Ideal.exp (S (ValueIdx.ix1 n)
      - Host.gather gather_S16_S32768x1_S32768_n_0_n_n_0_1_1 (shifts a2 S) (wrapped a2) (ValueIdx.ix1 n)) := rfl
  rw [e, taken a2 g hg, hS, hK, ← EReal.coe_sub, Ideal.exp_coe]

theorem sums_at (E : FVec Ideal S32768 .f32) (hE : ∀ n, E (ValueIdx.ix1 n) = (Real.exp (s n - K (g n)) : EReal)) (j : Fin 16) :
    sums a2 E (ValueIdx.ix1 j) = (bottom (fun n => g n = j) s (K j) : EReal) := by
  have e : sums a2 E (ValueIdx.ix1 j) = Ideal.ofBits .f32 0x00000000#32 + ∑ n ∈ Finset.univ.filter
      (fun n => scatter_S16_S32768x1_S32768_n_0_0_1.resultIdx? n (column a2) = some (ValueIdx.ix1 j)), E n := rfl
  rw [e, Ideal.ofBits_zero_f32, zero_add, bottom, coe_sum, Finset.sum_filter]
  refine (Fintype.sum_equiv vecEquiv _ _ fun n => ?_).symm
  show _ = if scatter_S16_S32768x1_S32768_n_0_0_1.resultIdx? (ValueIdx.ix1 n) (column a2) = some (ValueIdx.ix1 j) then E (ValueIdx.ix1 n) else 0
  simp only [row_lands, lands a2 g hg]
  by_cases c : g n = j
  · rw [if_pos c, if_pos c, hE, c]
  · rw [if_neg c, if_neg c]; rfl

theorem weights_at (E : FVec Ideal S32768 .f32) (hE : ∀ n, E (ValueIdx.ix1 n) = (Real.exp (s n - K (g n)) : EReal)) (n : Fin 32768) :
    weights a2 E (ValueIdx.ix1 n) = (Real.exp (s n - K (g n)) / bottom (fun i => g i = g n) s (K (g n)) : ℝ) := by
  have hpos : ∀ n, 0 < bottom (fun i => g i = g n) s (K (g n)) := fun n => bottom_pos _ s (K (g n)) n (Eq.refl (g n))
  have e : weights a2 E (ValueIdx.ix1 n) = Ideal.div (E (ValueIdx.ix1 n))
      (Host.gather gather_S16_S32768x1_S32768_n_0_n_n_0_1_1 (sums a2 E) (wrapped a2) (ValueIdx.ix1 n)) := by
    unfold weights
    generalize sums a2 E = z
    rfl
  rw [e, taken a2 g hg, hE, sums_at a2 g hg s K E hE, div_reals _ _ (hpos n).ne']

include hx in
theorem out_at (W : FVec Ideal S32768 .f32) (w : Fin 32768 → ℝ) (hW : ∀ n, W (ValueIdx.ix1 n) = (w n : EReal)) (j : Fin 16) (d : Fin 128) :
    out a1 a2 W (ValueIdx.ix2 j d) = ((∑ n, if g n = j then w n * x n d else 0 : ℝ) : EReal) := by
  have e : out a1 a2 W (ValueIdx.ix2 j d) = Ideal.ofBits .f32 0x00000000#32 + ∑ i ∈ Finset.univ.filter
      (fun i => scatter_S16x128_S32768x1_S32768x128_1_0_0_1.resultIdx? i (column a2) = some (ValueIdx.ix2 j d)),
        mulf (broadcastInDim S32768x128 ![0, 1] bcast_S32768x1_S32768x128_0_1 (broadcastInDim S32768x1 ![0] bcast_S32768_S32768x1_0 W)) a1 i := rfl
  have hu : ∀ n k, mulf (broadcastInDim S32768x128 ![0, 1] bcast_S32768x1_S32768x128_0_1 (broadcastInDim S32768x1 ![0] bcast_S32768_S32768x1_0 W)) a1 (ix2 n k)
      = W (ix1 n) * a1 (ix2 n k) := fun n k => by pointwise
  rw [e, Ideal.ofBits_zero_f32, zero_add, coe_sum, Finset.sum_filter, ValueIdx.sum_idx2]
  refine Finset.sum_congr rfl fun n _ => ?_
  simp only [entry_lands, lands a2 g hg]
  by_cases c : g n = j
  · rw [if_pos c, Finset.sum_eq_single d]
    · rw [if_pos ⟨c, rfl⟩, ← ix2_eq_valueIdx, hu, hx, ix1_eq_valueIdx, hW, EReal.coe_mul]
    · intro k _ hk; rw [if_neg fun q => hk q.2]
    · intro q; exact absurd (Finset.mem_univ d) q
  · rw [if_neg c]
    exact Finset.sum_eq_zero fun k _ => if_neg fun q => c q.1

include hx in
/-- The reference's value: every segment's softmax mean. -/
theorem whole_at (hh : ∀ i l, a0 (ix2 i l) = (h i l : EReal)) (ha : ∀ l k, a3 (ix2 l k) = (a l k : EReal)) (j : Fin 16) (d : Fin 128) :
    whole a0 a1 a2 a3 (ValueIdx.ix2 j d) = (soft (fun n => g n = j) (scoreReal x h a g) (fun n => x n d) : EReal) := by
  have hS := scores_at a0 a1 a2 a3 x h a g hg hx hh ha
  choose K hK using shifts_real a2 (scores a0 a1 a2 a3)
  have hE := exps_at a2 g hg (scoreReal x h a g) K _ hS hK
  have hW := weights_at a2 g hg (scoreReal x h a g) K _ hE
  refine (out_at a1 a2 x g hg hx _ _ hW j d).trans ?_
  rw [← weights_first _ _ _ (K j)]
  refine congrArg _ (Finset.sum_congr rfl fun n _ => ?_)
  by_cases c : g n = j
  · rw [if_pos c, if_pos c, c]
  · rw [if_neg c, if_neg c]

end Values

end Cert.Proof.Ref
-- ==== Proof.Calls.lean ====
/-
  What the two TensorCore kernels leave in their outputs, as functions of the arrays they read.
-/
module

public import proofs.«01_k».proof.Proof.Main
public import Idealize.ShloMosaic.Lib.Pointwise

@[expose] public section

set_option maxRecDepth 16384

noncomputable section

namespace Cert.Proof

open Cert.KernelIdeal Cert.KernelIdeal.Gen
open Idealize.ShloMosaic
open Idealize.ShloMosaic.TcCoe

variable {F : FTy → Type} [FloatOps F]
variable (W : (c : Dev nD) → (b : Ref sig .tc) → Buf (Elt F) ((c : Thread nD τ).loc b))

/-! ## The combination: every window is its whole array -/

theorem whole0 (t : Fin cfg2.N) (j : S128x16.Idx) : ((cfg2.win 0).blk t).view.emb j = j := by
  funext a; apply Fin.ext
  match a with
  | ⟨0, _⟩ => show 0 * 128 + 1 * (j 0).val = (j 0).val; omega
  | ⟨1, _⟩ => show 0 * 16 + 1 * (j 1).val = (j 1).val; omega

theorem whole1 (t : Fin cfg2.N) (j : S128x16.Idx) : ((cfg2.win 1).blk t).view.emb j = j := by
  funext a; apply Fin.ext
  match a with
  | ⟨0, _⟩ => show 0 * 128 + 1 * (j 0).val = (j 0).val; omega
  | ⟨1, _⟩ => show 0 * 16 + 1 * (j 1).val = (j 1).val; omega

theorem whole2 (t : Fin cfg2.N) (j : S128x2048.Idx) : ((cfg2.win 2).blk t).view.emb j = j := by
  funext a; apply Fin.ext
  match a with
  | ⟨0, _⟩ => show 0 * 128 + 1 * (j 0).val = (j 0).val; omega
  | ⟨1, _⟩ => show 0 * 2048 + 1 * (j 1).val = (j 1).val; omega

theorem whole3 (t : Fin cfg2.N) (j : S16x128.Idx) : ((cfg2.win 3).blk t).view.emb j = j := by
  funext a; apply Fin.ext
  match a with
  | ⟨0, _⟩ => show 0 * 16 + 1 * (j 0).val = (j 0).val; omega
  | ⟨1, _⟩ => show 0 * 128 + 1 * (j 1).val = (j 1).val; omega

theorem given0 (c : Dev nD) (t : Fin cfg2.N) : blk2 W 0 c t = W c main_v3_0 := by
  funext j; show W c main_v3_0 (((cfg2.win 0).blk t).view.emb j) = W c main_v3_0 j; rw [whole0]

theorem given1 (c : Dev nD) (t : Fin cfg2.N) : blk2 W 1 c t = W c main_v3_1 := by
  funext j; show W c main_v3_1 (((cfg2.win 1).blk t).view.emb j) = W c main_v3_1 j; rw [whole1]

theorem given2 (c : Dev nD) (t : Fin cfg2.N) : blk2 W 2 c t = W c main_v3_2 := by
  funext j; show W c main_v3_2 (((cfg2.win 2).blk t).view.emb j) = W c main_v3_2 j; rw [whole2]

theorem cut3 (t : Fin cfg2.N) (X : Vec F S16x128 .f32) :
    (cfg2.win 3).cut (grid2.coords t) X = ((cfg2.win 3).blk t).view.read (Elt F) X := by
  funext j
  show X j = X (((cfg2.win 3).blk t).view.emb j)
  rw [whole3]

/-- What the combination leaves in its output. -/
theorem pooled_eq (c : Dev nD) : pooled W c = k2_pay1 (W c main_v3_0) (W c main_v3_1) (W c main_v3_2) := by
  refine (dat2 W c).arrAt_eq_of_cover 3 (k2_pay1 (W c main_v3_0) (W c main_v3_1) (W c main_v3_2)) (fun t _ => ?_)
    (fun i => ⟨⟨0, by decide⟩, flush2_3 _, ?_⟩)
  · show (cfg2.win 3).cut (grid2.coords t) (k2_pay1 (blk2 W 0 c t) (blk2 W 1 c t) (blk2 W 2 c t)) = _
    rw [given0, given1, given2]
    exact cut3 t _
  · have h := ((cfg2.win 3).blk (⟨0, by decide⟩ : Fin cfg2.N)).view.emb_mem_set i
    rwa [whole3] at h

/-! ## The scoring: sixteen blocks -/

theorem at0_0 : ∀ t : Fin cfg0.N, win0_0.index t (0 : Fin 2) = 0 ∧ win0_0.index t (1 : Fin 2) = 0 := (by decide +kernel : ∀ t : Fin grid0.N, _)
theorem at0_1 : ∀ t : Fin cfg0.N, win0_1.index t (0 : Fin 2) = 0 ∧ win0_1.index t (1 : Fin 2) = 0 := (by decide +kernel : ∀ t : Fin grid0.N, _)
theorem at0_2 : ∀ t : Fin cfg0.N, win0_2.index t (0 : Fin 2) = t.val ∧ win0_2.index t (1 : Fin 2) = 0 := (by decide +kernel : ∀ t : Fin grid0.N, _)
theorem at0_3 : ∀ t : Fin cfg0.N, win0_3.index t (0 : Fin 3) = t.val ∧ win0_3.index t (1 : Fin 3) = 0 ∧ win0_3.index t (2 : Fin 3) = 0 :=
  (by decide +kernel : ∀ t : Fin grid0.N, _)
theorem at0_4 : ∀ t : Fin cfg0.N, win0_4.index t (0 : Fin 3) = t.val ∧ win0_4.index t (1 : Fin 3) = 0 ∧ win0_4.index t (2 : Fin 3) = 0 :=
  (by decide +kernel : ∀ t : Fin grid0.N, _)

theorem tlt (t : Fin cfg0.N) : t.val < 16 := t.isLt

/-- The queries and the projection matrix are staged whole. -/
theorem staged0 (c : Dev nD) (t : Fin cfg0.N) (i : Fin 16) (k : Fin 128) : blk0 W 0 c t (ix2 i k) = W c main_arg0 (ix2 i k) := by
  obtain ⟨e0, e1⟩ := at0_0 t
  refine congrArg (W c main_arg0) (funext fun a => Fin.ext ?_)
  match a with
  | ⟨0, _⟩ => show win0_0.index t (0 : Fin 2) * 16 + 1 * i.val = i.val; omega
  | ⟨1, _⟩ => show win0_0.index t (1 : Fin 2) * 128 + 1 * k.val = k.val; omega

theorem staged1 (c : Dev nD) (t : Fin cfg0.N) (i : Fin 128) (k : Fin 128) : blk0 W 1 c t (ix2 i k) = W c main_arg3 (ix2 i k) := by
  obtain ⟨e0, e1⟩ := at0_1 t
  refine congrArg (W c main_arg3) (funext fun a => Fin.ext ?_)
  match a with
  | ⟨0, _⟩ => show win0_1.index t (0 : Fin 2) * 128 + 1 * i.val = i.val; omega
  | ⟨1, _⟩ => show win0_1.index t (1 : Fin 2) * 128 + 1 * k.val = k.val; omega

/-- Block `t` of the rows and of the segment numbers. -/
theorem staged2 (c : Dev nD) (t : Fin cfg0.N) (q : Fin 2048) (k : Fin 128) :
    blk0 W 2 c t (ix2 q k) = W c main_arg1 (ix2 ⟨2048 * t.val + q.val, by have := tlt t; omega⟩ k) := by
  obtain ⟨e0, e1⟩ := at0_2 t
  refine congrArg (W c main_arg1) (funext fun a => Fin.ext ?_)
  match a with
  | ⟨0, _⟩ => show win0_2.index t (0 : Fin 2) * 2048 + 1 * q.val = 2048 * t.val + q.val; omega
  | ⟨1, _⟩ => show win0_2.index t (1 : Fin 2) * 128 + 1 * k.val = k.val; omega

theorem staged3 (c : Dev nD) (t : Fin cfg0.N) (q : Fin 2048) :
    blk0 W 3 c t (ix3 0 0 q) = W c main_v0 (ix3 ⟨t.val, tlt t⟩ 0 q) := by
  obtain ⟨e0, e1, e2⟩ := at0_3 t
  refine congrArg (W c main_v0) (funext fun a => Fin.ext ?_)
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 2048 + 1 * q.val = q.val; omega

theorem placed4 (t : Fin cfg0.N) (j : S1x1x2048.Idx) : ((cfg0.win 4).blk t).view.emb j = ix3 ⟨t.val, tlt t⟩ 0 (j 2) := by
  obtain ⟨e0, e1, e2⟩ := at0_4 t
  funext a; apply Fin.ext
  match a with
  | ⟨0, _⟩ => show win0_4.index t (0 : Fin 3) * 1 + 1 * (j 0).val = t.val; have : (j 0).val < 1 := (j 0).isLt; omega
  | ⟨1, _⟩ => show win0_4.index t (1 : Fin 3) * 1 + 1 * (j 1).val = 0; have : (j 1).val < 1 := (j 1).isLt; omega
  | ⟨2, _⟩ => show win0_4.index t (2 : Fin 3) * 2048 + 1 * (j 2).val = (j 2).val; omega

/-- The scores block by block. -/
def scoresOf (c : Dev nD) : Vec F S16x1x2048 .f32 := fun i =>
  k0_pay2 (blk0 W 2 c ⟨(i 0).val, (i 0).isLt⟩) (blk0 W 3 c ⟨(i 0).val, (i 0).isLt⟩) (rot W c ⟨(i 0).val, (i 0).isLt⟩) (ix3 0 0 (i 2))

theorem unit3 (j : S1x1x2048.Idx) : ix3 0 0 (j 2) = j := by
  funext a; apply Fin.ext
  match a with
  | ⟨0, _⟩ => show 0 = (j 0).val; have : (j 0).val < 1 := (j 0).isLt; omega
  | ⟨1, _⟩ => show 0 = (j 1).val; have : (j 1).val < 1 := (j 1).isLt; omega
  | ⟨2, _⟩ => rfl

/-- What the scoring leaves in its output. -/
theorem scored_eq (c : Dev nD) : scored W c = scoresOf W c := by
  refine (dat0 W c).arrAt_eq_of_cover 4 (scoresOf W c) (fun t _ => ?_) (fun i => ⟨⟨(i 0).val, (i 0).isLt⟩, flush0_4 _, ?_⟩)
  · funext j
    show k0_pay2 (blk0 W 2 c t) (blk0 W 3 c t) (rot W c t) j = scoresOf W c (((cfg0.win 4).blk t).view.emb j)
    rw [placed4]
    show _ = k0_pay2 (blk0 W 2 c t) (blk0 W 3 c t) (rot W c t) (ix3 0 0 (j 2))
    exact (congrArg (k0_pay2 (blk0 W 2 c t) (blk0 W 3 c t) (rot W c t)) (unit3 j)).symm
  · have h := ((cfg0.win 4).blk (⟨(i 0).val, (i 0).isLt⟩ : Fin cfg0.N)).view.emb_mem_set (ix3 0 0 (i 2))
    rw [placed4] at h
    have e : ix3 ⟨(i 0).val, (i 0).isLt⟩ 0 (i 2) = i := by
      funext a; apply Fin.ext
      match a with
      | ⟨0, _⟩ => rfl
      | ⟨1, _⟩ => show 0 = (i 1).val; have : (i 1).val < 1 := (i 1).isLt; omega
      | ⟨2, _⟩ => rfl
    exact e ▸ h

end Cert.Proof
-- ==== Proof.ChunkValue.lean ====
/-
  One chunk's results over the extended reals, as sums over the chunk's nodes.
-/
module

public import proofs.«01_k».proof.Proof.Chunk
public import proofs.«01_k».proof.Proof.Soft
public import Idealize.ShloMosaic.Lib.ValueIdxCore
public import Idealize.ShloMosaic.PureOps.Ideal.Laws
public import Idealize.ShloMosaic.Lib.Pointwise.ElementwiseCore

@[expose] public section

noncomputable section

namespace Cert.Proof

open Cert.KernelIdeal Cert.KernelIdeal.Gen
open Idealize.ShloMosaic
open Idealize.ShloMosaic.ValueIdx (ix2 select_apply broadcast_apply)

/-- A value that is a real. -/
def Fin' (x : EReal) : Prop := ∃ r : ℝ, x = (r : EReal)

/-! ## The iterations -/

/-- At one place, an iteration whose every step adds adds them all. -/
theorem iterTo_add {ι : Type} {n : Nat} (step : Fin n → (ι → EReal) → ι → EReal) (init : ι → EReal) (l : ι) (f : Fin n → EReal)
    (h : ∀ k a, step k a l = a l + f k) : iterTo step init n l = init l + ∑ k, f k := by
  have key : ∀ k, ∀ hk : k ≤ n, iterTo step init k l = init l + ∑ i : Fin k, f (i.castLE hk) := by
    intro k
    induction k with
    | zero => intro _; simp [iterTo]
    | succ k ih =>
      intro hk
      rw [show iterTo step init (k + 1) = step ⟨k, hk⟩ (iterTo step init k) from iterTo_succ step init ⟨k, hk⟩, h, ih (by omega),
        Fin.sum_univ_castSucc, add_assoc]
      rfl
  exact key n le_rfl

theorem iterTo_keep {α : Type} {n : Nat} (P : α → Prop) (step : Fin n → α → α) (init : α) (h0 : P init) (hs : ∀ k a, P a → P (step k a))
    (k : Nat) : P (iterTo step init k) := by
  induction k with
  | zero => exact h0
  | succ k ih =>
    unfold iterTo
    split
    · exact hs _ _ ih
    · exact ih

/-! ## The maxima are reals -/

theorem real_neg : Fin' (Ideal.ofBits .f32 0xF149F2CA#32) := by
  unfold Fin' Ideal.ofBits Ideal.ieee
  simp only []
  split
  · rename_i h; exact absurd h (by decide)
  · split
    · exact ⟨_, rfl⟩
    · exact ⟨_, rfl⟩

theorem real_max {x y : EReal} (hx : Fin' x) (hy : Fin' y) : Fin' (max x y) := by
  rcases max_choice x y with h | h <;> rw [h] <;> assumption

theorem real_select {c : BitVec 1} {x y : EReal} (hx : Fin' x) (hy : Fin' y) : Fin' (Scalar.select c x y) := by
  unfold Scalar.select
  split <;> assumption

theorem real_bfly (v : FVec Ideal S16 .f32) (h : ∀ l, Fin' (v l)) (l : S16.Idx) : Fin' (bfly maximumf v l) := by
  have step : ∀ (u : FVec Ideal S16 .f32) (hu : ∀ l, Fin' (u l)) (idx : IVec S16 32) (hi : k1_chk2 idx) (l), Fin' (maximumf u (perm u idx hi) l) :=
    fun u hu idx hi l => real_max (hu l) (hu _)
  unfold bfly
  exact step _ (step _ (step _ (step _ h _ _) _ _) _ _) _ _ l

theorem real_segAll (s : S256.Idx → Ideal .f32) (hs : ∀ i, Fin' (s i)) (g : S256.Idx → BitVec 32) (lo : BitVec 32) (n : Nat) (l : S16.Idx) :
    Fin' (segAll maximumf (Scalar.ofBits (F := Ideal) .f32 0xF149F2CA#32) s g lo n l) := by
  unfold segAll
  refine iterTo_keep (fun a : FVec Ideal S16 .f32 => ∀ l, Fin' (a l)) _ _ (fun l => real_neg) (fun k a ha l => ?_) n l
  unfold laneStep
  refine real_select (real_bfly _ (fun l => ?_) l) (ha l)
  unfold foldSeg
  exact iterTo_keep (fun a : FVec Ideal S16 .f32 => ∀ l, Fin' (a l)) _ _ (fun l => real_neg) (fun k a ha l => real_max (ha l) (real_select (hs _) real_neg)) _ l

/-! ## The sums -/

/-- A segment's share of the chunk: what the nodes of segment `j` hold, added up. -/
def segSum (s : S256.Idx → Ideal .f32) (g : S256.Idx → BitVec 32) (j : Nat) : EReal :=
  ∑ i : Fin 256, if (g (ix1 i)).toNat = j then s (ix1 i) else 0

/-- The lane numbers, and a lane number with a bit flipped. -/
theorem lanes_at : ∀ x : Fin 16, lanes (ix1 x) = BitVec.ofNat 32 x.val := by decide +kernel

abbrev flip (b : BitVec 32) (x : Fin 16) : Fin 16 := ⟨(BitVec.ofNat 32 x.val ^^^ b).toNat % 16, Nat.mod_lt _ (by decide)⟩

theorem perm_at (u : FVec Ideal S16 .f32) (b : BitVec 32) (h : k1_chk2 (xori lanes (broadcast S16 b))) (x : Fin 16) :
    perm u (xori lanes (broadcast S16 b)) h (ix1 x) = u (ix1 (flip b x)) := by
  refine congrArg u (funext fun a => ?_)
  match a with
  | 0 =>
    refine Fin.ext ?_
    have e : (xori lanes (broadcast S16 b) (ix1 x)) = BitVec.ofNat 32 x.val ^^^ b := congrArg (· ^^^ b) (lanes_at x)
    have k : (xori lanes (broadcast S16 b) (ix1 x)).toNat < 16 := k1_idx1_inb _ h 0 (ix1 x)
    show (xori lanes (broadcast S16 b) (ix1 x)).toNat = (BitVec.ofNat 32 x.val ^^^ b).toNat % 16
    rw [e] at k ⊢
    omega

/-- The lanes that the four exchanges bring together at lane `x`. -/
def brought (x : Fin 16) (k : (Fin 2 × Fin 2) × (Fin 2 × Fin 2)) : Fin 16 :=
  let y := if k.1.1 = 0 then x else flip 1#32 x
  let y := if k.1.2 = 0 then y else flip 2#32 y
  let y := if k.2.1 = 0 then y else flip 4#32 y
  if k.2.2 = 0 then y else flip 8#32 y

theorem brought_bij : ∀ x : Fin 16, Function.Bijective (brought x) := by decide +kernel

theorem bfly_add (v : FVec Ideal S16 .f32) (x : Fin 16) : bfly addf v (ix1 x) = ∑ y : Fin 16, (v (ix1 y) : EReal) := by
  have st : ∀ (u : FVec Ideal S16 .f32) (b : BitVec 32) (h : k1_chk2 (xori lanes (broadcast S16 b))) (x : Fin 16),
      addf u (perm u (xori lanes (broadcast S16 b)) h) (ix1 x) = (u (ix1 x) + u (ix1 (flip b x)) : EReal) := fun u b h x =>
    congrArg (fun z : EReal => (u (ix1 x) : EReal) + z) (perm_at u b h x)
  obtain ⟨a, ea⟩ : ∃ a, a = addf v (perm v (k1_pay177 lanes) chk_lanes.1) := ⟨_, rfl⟩
  obtain ⟨b, eb⟩ : ∃ b, b = addf a (perm a (k1_pay179 lanes) chk_lanes.2.1) := ⟨_, rfl⟩
  obtain ⟨c, ec⟩ : ∃ c, c = addf b (perm b (k1_pay181 lanes) chk_lanes.2.2.1) := ⟨_, rfl⟩
  have ha : ∀ x, a (ix1 x) = (v (ix1 x) + v (ix1 (flip 8#32 x)) : EReal) := fun x => ea ▸ st v 8#32 chk_lanes.1 x
  have hb : ∀ x, b (ix1 x) = (a (ix1 x) + a (ix1 (flip 4#32 x)) : EReal) := fun x => eb ▸ st a 4#32 chk_lanes.2.1 x
  have hc : ∀ x, c (ix1 x) = (b (ix1 x) + b (ix1 (flip 2#32 x)) : EReal) := fun x => ec ▸ st b 2#32 chk_lanes.2.2.1 x
  have e : bfly addf v (ix1 x) = (c (ix1 x) + c (ix1 (flip 1#32 x)) : EReal) := by
    subst ec eb ea
    exact st _ 1#32 chk_lanes.2.2.2 x
  rw [e, ← Function.Bijective.sum_comp (brought_bij x) (fun y => (v (ix1 y) : EReal)), Fintype.sum_prod_type, Fintype.sum_prod_type]
  simp only [Fintype.sum_prod_type, Fin.sum_univ_two, hc, hb, ha]
  rfl

theorem foldSeg_add (s : S256.Idx → Ideal .f32) (g : S256.Idx → BitVec 32) (seg : BitVec 32) (l : Fin 16) :
    foldSeg addf (Scalar.ofBits (F := Ideal) .f32 0x00000000#32) s g seg (ix1 l)
      = ∑ t : Fin 16, if g (ix1 ⟨16 * t.val + l.val, by omega⟩) = seg then (s (ix1 ⟨16 * t.val + l.val, by omega⟩) : EReal) else 0 := by
  unfold foldSeg
  refine (iterTo_add _ _ (ix1 l) (fun t : Fin 16 => if g (ix1 ⟨16 * t.val + l.val, by omega⟩) = seg then (s (ix1 ⟨16 * t.val + l.val, by omega⟩) : EReal) else 0) ?_).trans ?_
  · intro k a
    unfold segStep
    refine congrArg (a (ix1 l) + ·) ?_
    have e : (Rect.unit (s := S256) (k1_off3 k) S16.size (k1_off3_inb k)).emb (ix1 l) = ix1 ⟨16 * k.val + l.val, by have : k.val < 16 := k.isLt; omega⟩ := by
      funext a
      match a with
      | 0 => exact Fin.ext (by
          show k1_off3 k 0 + 1 * l.val = 16 * k.val + l.val
          rw [congrFun (k1_off3_eq k) 0]
          show 16 * k.val + 1 * l.val = _
          omega)
    show Scalar.select (IntOp.cmpi .eq (g ((Rect.unit (s := S256) (k1_off3 k) S16.size (k1_off3_inb k)).emb (ix1 l))) seg)
      (s ((Rect.unit (s := S256) (k1_off3 k) S16.size (k1_off3_inb k)).emb (ix1 l))) (Ideal.ofBits .f32 0x00000000#32) = _
    rw [e, Ideal.ofBits_zero_f32]
    unfold Scalar.select
    exact if_congr IntOp.cmpi_eq rfl rfl
  · show Ideal.ofBits .f32 0x00000000#32 + _ = _
    rw [Ideal.ofBits_zero_f32, zero_add]

theorem all_add (s : S256.Idx → Ideal .f32) (g : S256.Idx → BitVec 32) (seg : BitVec 32) (x : Fin 16) :
    bfly addf (foldSeg addf (Scalar.ofBits (F := Ideal) .f32 0x00000000#32) s g seg) (ix1 x) = segSum s g seg.toNat := by
  rw [bfly_add]
  simp only [foldSeg_add]
  rw [Finset.sum_comm, ← Fintype.sum_prod_type']
  unfold segSum
  refine Fintype.sum_equiv (finProdFinEquiv (m := 16) (n := 16)) _ _ fun q => ?_
  have e : (⟨16 * q.1.val + q.2.val, by omega⟩ : Fin 256) = finProdFinEquiv q := Fin.ext (by
    show 16 * q.1.val + q.2.val = q.2.val + 16 * q.1.val; omega)
  rw [e]
  simp only [BitVec.toNat_eq]

/-- The sums of the segments of a chunk whose segment numbers lie between `lo` and the `n` from it on. -/
theorem segAll_add (s : S256.Idx → Ideal .f32) (g : S256.Idx → BitVec 32) (lo : BitVec 32) (n : Nat) (hn : lo.toNat + n ≤ 16)
    (hg : ∀ i, lo.toNat ≤ (g i).toNat ∧ (g i).toNat < lo.toNat + n) (j : Fin 16) :
    segAll addf (Scalar.ofBits (F := Ideal) .f32 0x00000000#32) s g lo n (ix1 j) = segSum s g j.val := by
  have key : ∀ k, k ≤ n → iterTo (n := n) (fun k acc => laneStep addf (Scalar.ofBits (F := Ideal) .f32 0x00000000#32) s g (Scf.iv lo 1#32 k) acc)
      (broadcast S16 (Scalar.ofBits (F := Ideal) .f32 0x00000000#32)) k (ix1 j)
      = if lo.toNat ≤ j.val ∧ j.val < lo.toNat + k then segSum s g j.val else 0 := by
    intro k
    induction k with
    | zero => intro _; rw [if_neg (by omega)]; exact Ideal.ofBits_zero_f32
    | succ k ih =>
      intro hk
      rw [iterTo_succ _ _ (⟨k, hk⟩ : Fin n)]
      have e : (Scf.iv lo 1#32 k).toNat = lo.toNat + k := by
        unfold Scf.iv
        simp only [BitVec.mul_one, BitVec.toNat_add, BitVec.toNat_ofNat]
        omega
      have c : (IntOp.cmpi .eq (BitVec.ofNat 32 j.val) (Scf.iv lo 1#32 k) = 1#1) ↔ j.val = lo.toNat + k := by
        rw [IntOp.cmpi_eq, BitVec.toNat_eq, e, BitVec.toNat_ofNat]
        omega
      unfold laneStep
      rw [select_apply, cmpi_apply, lanes_at, broadcast_apply, all_add]
      have ih := ih (by omega)
      unfold laneStep at ih
      rw [show (⟨k, hk⟩ : Fin n).val = k from rfl, ih, e]
      unfold Scalar.select
      by_cases hj : j.val = lo.toNat + k
      · exact (if_pos (c.2 hj)).trans (by rw [if_pos (by omega), hj])
      · exact (if_neg (fun h => hj (c.1 h))).trans (if_congr (by omega) rfl rfl)
  refine (key n le_rfl).trans ?_
  split
  · rfl
  · rename_i h
    refine (Finset.sum_eq_zero fun i _ => if_neg fun hi => h ?_).symm
    have := hg (ix1 i)
    omega

/-- The rows added up per segment. -/
theorem accAll_add (X : S256x128.Idx → Ideal .f32) (E : S256.Idx → Ideal .f32) (g : S256.Idx → BitVec 32) (j : Fin 16) (c : Fin 128) :
    accAll X E g 256 (ix1 ⟨128 * j.val + c.val, by omega⟩)
      = ∑ i : Fin 256, if (g (ix1 i)).toNat = j.val then (E (ix1 i) * X (ix2 i c) : EReal) else 0 := by
  unfold accAll
  refine (iterTo_add _ _ _ (fun i : Fin 256 => if (g (ix1 i)).toNat = j.val then (E (ix1 i) * X (ix2 i c) : EReal) else 0) ?_).trans ?_
  · intro k a
    have d1 : (128 * j.val + c.val) / 128 = j.val := by omega
    have d2 : (128 * j.val + c.val) % 128 = c.val := by omega
    unfold nodeCols
    by_cases h : (g (ix1 k)).toNat = j.val
    · refine (if_pos ⟨d1.trans h.symm, Nat.mod_lt _ (by decide)⟩).trans ?_
      rw [if_pos h]
      refine congrArg (fun z : EReal => (a (ix1 ⟨128 * j.val + c.val, by omega⟩) : EReal) + (E (ix1 k) : EReal) * z) (congrArg X (funext fun b => ?_))
      match b with
      | 0 => rfl
      | 1 => exact Fin.ext d2
    · refine (if_neg fun h' => h (h'.1.symm.trans d1)).trans ?_
      rw [if_neg h, add_zero]
  · show Ideal.ofBits .f32 0x00000000#32 + _ = _
    rw [Ideal.ofBits_zero_f32, zero_add]

end Cert.Proof
-- ==== Proof.Payloads.lean ====
/- The values of the two TensorCore kernels, read at an index, over the extended reals. -/
module

public import proofs.«01_k».proof.Proof.Soft
public import proofs.«01_k».proof.Proof.Gen.KernelIdeal.Skeleton
public import Idealize.ShloMosaic.Lib.Pointwise

@[expose] public section

set_option maxRecDepth 16384

noncomputable section

namespace Cert.Proof

open Cert.KernelIdeal Cert.KernelIdeal.Gen Idealize.ShloMosaic

/-- The projected queries: rows of the first matrix against columns of the second. -/
theorem pay_rot (h : FVec Ideal S16x128 .f32) (a : FVec Ideal S128x128 .f32) (i : Fin 16) (k : Fin 128) :
    k0_pay1 (F := Ideal) h a (ix2 i k) = ∑ l : Fin 128, h (ix2 i l) * a (ix2 l k) := by
  pointwise [k0_pay1]

/-- The score of a node: the product of its row with the projected query whose number is the node's word. -/
theorem pay_score (x : FVec Ideal S2048x128 .f32) (g : IVec S1x1x2048 32) (q : FVec Ideal S16x128 .f32) (n : Fin 2048) :
    k0_pay2 (F := Ideal) x g q (ix3 0 0 n) = ∑ i : Fin 16, if (g (ix3 0 0 n)).toNat = i.val then ∑ k : Fin 128, q (ix2 i k) * x (ix2 n k) else 0 := by
  pointwise [k0_pay2]
  refine Finset.sum_congr rfl fun i _ => ?_
  by_cases h : (g (ix3 0 0 n)).toNat = i.val
  · rw [if_pos h]
    have e : g (ix3 0 0 n) = BitVec.ofNat 32 i.val := by
      apply BitVec.eq_of_toNat_eq
      rw [h, BitVec.toNat_ofNat, Nat.mod_eq_of_lt (by have := i.isLt; omega)]
    rw [e]
    simp [IntOp.cmpi, Scalar.select]
  · rw [if_neg h]
    have e : g (ix3 0 0 n) ≠ BitVec.ofNat 32 i.val := by
      intro e
      apply h
      rw [e, BitVec.toNat_ofNat, Nat.mod_eq_of_lt (by have := i.isLt; omega)]
    have b : (g (ix3 0 0 n) == BitVec.ofNat 32 i.val) = false := beq_eq_false_iff_ne.mpr e
    simp [IntOp.cmpi, Scalar.select, b]

/-- The largest of a segment's maxima over the chunks. -/
def peak (c : FVec Ideal S128x16 .f32) (j : Fin 16) : EReal :=
  Finset.univ.fold max (Ideal.ofBits .f32 0xFF800000#32) fun r : Fin 128 => c (ix2 r j)

/-- The combination: the chunks' sums, each brought to the common shift, divided; `0` where the divisor is not positive. -/
theorem pay_out (c z : FVec Ideal S128x16 .f32) (y : FVec Ideal S128x2048 .f32) (j : Fin 16) (d : Fin 128) :
    k2_pay1 (F := Ideal) c z y (ix2 j d)
      = if 0 < ∑ r : Fin 128, z (ix2 r j) * Ideal.exp (c (ix2 r j) - peak c j) then
          Ideal.div (∑ r : Fin 128, y (ix2 r ⟨j.val * 128 + d.val, by omega⟩) * Ideal.exp (c (ix2 r j) - peak c j))
            (∑ r : Fin 128, z (ix2 r j) * Ideal.exp (c (ix2 r j) - peak c j))
        else 0 := by
  pointwise [k2_pay1]
  rfl

end Cert.Proof
-- ==== Proof.KernelValue.lean ====
/-
  The value of the kernel over the extended reals: every segment's softmax mean of its nodes' rows.
-/
module

public import proofs.«01_k».proof.Proof.Calls
public import proofs.«01_k».proof.Proof.ChunkValue
public import proofs.«01_k».proof.Proof.Payloads

@[expose] public section

set_option maxRecDepth 16384

noncomputable section

namespace Cert.Proof

open Cert.KernelIdeal Cert.KernelIdeal.Gen
open Idealize.ShloMosaic
open Idealize.ShloMosaic.TcCoe

/-! ## The chunks -/

section Chunks

variable (X : S32768x128.Idx → Ideal .f32) (S : S32768.Idx → Ideal .f32) (G : S32768.Idx → BitVec 32)
variable (x : Fin 32768 → Fin 128 → ℝ) (s : Fin 32768 → ℝ) (g : Fin 32768 → Fin 16)
variable (hX : ∀ n k, X (ix2 n k) = (x n k : EReal)) (hS : ∀ n, S (ix1 n) = (s n : EReal)) (hG : ∀ n, (G (ix1 n)).toNat = (g n).val)
variable (hm : Monotone g)

include hS in
theorem maxima_real (r : Fin 128) (j : Fin 16) : ∃ c : ℝ, cmOf S G r (ix1 j) = (c : EReal) :=
  real_segAll (part1 S r) (fun i => ⟨_, hS _⟩) (part1 G r) (loSeg G r) _ (ix1 j)

variable (c : Fin 128 → Fin 16 → ℝ) (hc : ∀ r j, cmOf S G r (ix1 j) = (c r j : EReal))

include hS hG hc in
theorem exps_real (r : Fin 128) (i : Fin 256) :
    exOf S G r (ix1 i) = (Real.exp (s (nodeAt r i) - c r (g (nodeAt r i))) : EReal) := by
  have e : exOf S G r (ix1 i) = Ideal.exp (S (ix1 (nodeAt r i)) - cmOf S G r (ix1 ⟨(G (ix1 (nodeAt r i))).toNat % 16, Nat.mod_lt _ (by decide)⟩)) := rfl
  have f : (⟨(G (ix1 (nodeAt r i))).toNat % 16, Nat.mod_lt _ (by decide)⟩ : Fin 16) = g (nodeAt r i) :=
    Fin.ext (by show (G (ix1 (nodeAt r i))).toNat % 16 = _; rw [hG]; exact Nat.mod_eq_of_lt (g _).isLt)
  rw [e, f, hS, hc, ← EReal.coe_sub, Ideal.exp_coe]

include hS hG hc hm in
theorem sums_real (r : Fin 128) (j : Fin 16) :
    zsOf S G r (ix1 j) = ((∑ i, if g (nodeAt r i) = j then Real.exp (s (nodeAt r i) - c r j) else 0 : ℝ) : EReal) := by
  have hlo : (loSeg G r).toNat = (g (nodeAt r 0)).val := hG (nodeAt r 0)
  have hhi : (hiSeg G r).toNat = (g (nodeAt r 255)).val := hG (nodeAt r 255)
  have b1 : ∀ i, (g (nodeAt r 0)).val ≤ (g (nodeAt r i)).val := fun i => hm (by
    show 256 * r.val + 0 ≤ 256 * r.val + i.val; omega)
  have b2 : ∀ i, (g (nodeAt r i)).val ≤ (g (nodeAt r 255)).val := fun i => hm (by
    show 256 * r.val + i.val ≤ 256 * r.val + 255; omega)
  have b3 := (g (nodeAt r 255)).isLt
  have b4 := b1 255
  refine (segAll_add (exOf S G r) (part1 G r) (loSeg G r) _ (by omega) (fun i => ?_) j).trans ?_
  · have q : (part1 G r i).toNat = (g (nodeAt r (i 0))).val := hG (nodeAt r (i 0))
    have := b1 (i 0)
    have := b2 (i 0)
    omega
  · rw [segSum, coe_sum]
    refine Finset.sum_congr rfl fun i _ => ?_
    have q : (part1 G r (ix1 i)).toNat = (g (nodeAt r i)).val := hG (nodeAt r i)
    by_cases h : g (nodeAt r i) = j
    · rw [if_pos (q.trans (congrArg _ h)), if_pos h, exps_real S G s g hS hG c hc, h]
    · rw [if_neg (fun h' => h (Fin.ext (q.symm.trans h'))), if_neg h]; rfl

include hX hS hG hc in
theorem rows_real (r : Fin 128) (j : Fin 16) (k : Fin 128) :
    nmOf X S G r (ix1 ⟨128 * j.val + k.val, by omega⟩)
      = ((∑ i, if g (nodeAt r i) = j then Real.exp (s (nodeAt r i) - c r j) * x (nodeAt r i) k else 0 : ℝ) : EReal) := by
  refine (accAll_add (part2 X r) (exOf S G r) (part1 G r) j k).trans ?_
  rw [coe_sum]
  refine Finset.sum_congr rfl fun i _ => ?_
  have q : (part1 G r (ix1 i)).toNat = (g (nodeAt r i)).val := hG (nodeAt r i)
  by_cases h : g (nodeAt r i) = j
  · rw [if_pos (q.trans (congrArg _ h)), if_pos h, exps_real S G s g hS hG c hc, h, EReal.coe_mul]
    refine congrArg (_ * ·) ((congrArg X (funext fun b => ?_)).trans (hX (nodeAt r i) k))
    match b with
    | 0 => rfl
    | 1 => rfl
  · rw [if_neg (fun h' => h (Fin.ext (q.symm.trans h'))), if_neg h]; rfl

end Chunks

/-! ## The combination -/

theorem peak_real (c : FVec Ideal S128x16 .f32) (j : Fin 16) (h : ∀ r, Fin' (c (ix2 r j))) : Fin' (peak c j) := by
  have bot : Ideal.ofBits .f32 0xFF800000#32 = ⊥ := by simp [Ideal.ofBits, Ideal.ieee]
  have key : ∀ t : Finset (Fin 128), t = ∅ ∨ Fin' (t.fold max (Ideal.ofBits .f32 0xFF800000#32) fun r : Fin 128 => c (ix2 r j)) := by
    intro t
    induction t using Finset.induction_on with
    | empty => exact .inl rfl
    | insert a t ha ih =>
      right
      rw [Finset.fold_insert ha]
      rcases ih with rfl | ih
      · rw [Finset.fold_empty, bot, max_eq_left bot_le]; exact h a
      · exact real_max (h a) ih
  exact (key Finset.univ).resolve_left Finset.univ_nonempty.ne_empty

section Combine

variable (X : S32768x128.Idx → Ideal .f32) (S : S32768.Idx → Ideal .f32) (G : S32768.Idx → BitVec 32)
variable (x : Fin 32768 → Fin 128 → ℝ) (s : Fin 32768 → ℝ) (g : Fin 32768 → Fin 16)
variable (hX : ∀ n k, X (ix2 n k) = (x n k : EReal)) (hS : ∀ n, S (ix1 n) = (s n : EReal)) (hG : ∀ n, (G (ix1 n)).toNat = (g n).val)
variable (hm : Monotone g)

include hX hS hG hm in
theorem combined (j : Fin 16) (d : Fin 128) :
    k2_pay1 (F := Ideal) (msAll S G) (zsAll S G) (nsAll X S G) (ix2 j d) = (soft (fun n => g n = j) s (fun n => x n d) : EReal) := by
  choose c hc using maxima_real S G s hS
  obtain ⟨K, hK⟩ := peak_real (msAll S G) j fun r => ⟨c r j, hc r j⟩
  have hexp : ∀ r, Ideal.exp (msAll S G (ix2 r j) - peak (msAll S G) j) = (Real.exp (c r j - K) : EReal) := fun r => by
    have e : msAll S G (ix2 r j) = (c r j : EReal) := hc r j
    rw [e, hK, ← EReal.coe_sub, Ideal.exp_coe]
  have hz : (∑ r : Fin 128, zsAll S G (ix2 r j) * Ideal.exp (msAll S G (ix2 r j) - peak (msAll S G) j) : EReal)
      = (bottom (fun n => g n = j) s K : EReal) := by
    rw [← chunks_bottom (fun n => g n = j) s (fun r => c r j) K, coe_sum]
    refine Finset.sum_congr rfl fun r _ => ?_
    rw [hexp, EReal.coe_mul]
    exact congrArg (· * _) (sums_real S G s g hS hG hm c hc r j)
  have hn : (∑ r : Fin 128, nsAll X S G (ix2 r ⟨j.val * 128 + d.val, by omega⟩) * Ideal.exp (msAll S G (ix2 r j) - peak (msAll S G) j) : EReal)
      = (top (fun n => g n = j) s (fun n => x n d) K : EReal) := by
    rw [← chunks_top (fun n => g n = j) s (fun n => x n d) (fun r => c r j) K, coe_sum]
    refine Finset.sum_congr rfl fun r _ => ?_
    rw [hexp, EReal.coe_mul]
    refine congrArg (· * _) (Eq.trans ?_ (rows_real X S G x s g hX hS hG c hc r j d))
    exact congrArg (nmOf X S G r) (congrArg (ix1 (n := 2048)) (Fin.ext (by show j.val * 128 + d.val = 128 * j.val + d.val; omega)))
  rw [pay_out, hz, hn]
  by_cases h : ∃ n, g n = j
  · obtain ⟨n, hn'⟩ := h
    have hp := bottom_pos (fun n => g n = j) s K n hn'
    rw [if_pos (EReal.coe_pos.2 hp), div_reals _ _ hp.ne', soft_shift]
  · have h' : ∀ n, ¬ g n = j := fun n q => h ⟨n, q⟩
    rw [bottom_zero (fun n => g n = j) s K h', soft_zero (fun n => g n = j) s _ h', if_neg (by simp)]
    rfl

end Combine

/-! ## The scores -/

section Launch

variable (m : (ℓ : Loc nD τ sig) → Buf (Elt Ideal) ℓ) (d : Dev nD)
variable (x : Fin 32768 → Fin 128 → ℝ) (h : Fin 16 → Fin 128 → ℝ) (a : Fin 128 → Fin 128 → ℝ) (g : Fin 32768 → Fin 16)
variable (hh : ∀ i l, m ((d : Thread nD τ).loc main_arg0) (ix2 i l) = (h i l : EReal))
variable (hx : ∀ n k, m ((d : Thread nD τ).loc main_arg1) (ix2 n k) = (x n k : EReal))
variable (hg : ∀ n, (m ((d : Thread nD τ).loc main_arg2) (ix1 n)).toNat = (g n).val)
variable (ha : ∀ l k, m ((d : Thread nD τ).loc main_arg3) (ix2 l k) = (a l k : EReal))

theorem vec_eq (n : Fin 32768) : ix1 n = Idealize.ShloMosaic.ix1 n := by
  funext b
  match b with
  | 0 => rfl

theorem split_at {w : Nat} (v : IVec S32768 w) (t : Fin 16) (q : Fin 2048) :
    shapeCast S16x1x2048 v shapeCasts_S32768_S16x1x2048 (ix3 t 0 q) = v (ix1 ⟨2048 * t.val + q.val, by omega⟩) := by
  pointwise
  refine congrArg v (funext fun b => ?_)
  match b with
  | 0 => exact Fin.ext (by show t.val * 2048 + q.val = 2048 * t.val + q.val; omega)

theorem joined_at (v : FVec Ideal S16x1x2048 .f32) (n : Fin 32768) :
    shapeCast S32768 v shapeCasts_S16x1x2048_S32768 (Idealize.ShloMosaic.ix1 n) = v (ix3 ⟨n.val / 2048, by omega⟩ 0 ⟨n.val % 2048, by omega⟩) := by
  pointwise

theorem column_in (t : Fin 16) (q : Fin 2048) :
    W1 m d main_v0 (ix3 t 0 q) = m ((d : Thread nD τ).loc main_arg2) (ix1 ⟨2048 * t.val + q.val, by omega⟩) := by
  have e : W1 m d main_v0 = shapeCast S16x1x2048 (m ((d : Thread nD τ).loc main_arg2)) shapeCasts_S32768_S16x1x2048 := by
    show (op1 (F := Ideal)).result (V0 m d) (Proc.devRef .tc main_v0) = _
    unfold op1
    rw [StableHlo.reshape_result]
    rfl
  rw [e]
  exact split_at _ t q

theorem scores_in (n : Fin 32768) :
    sc2 m d (ix1 n) = scored (W1 m) d (ix3 ⟨n.val / 2048, by omega⟩ 0 ⟨n.val % 2048, by omega⟩) := by
  have e : sc2 m d = shapeCast S32768 (W2 m d main_v1) shapeCasts_S16x1x2048_S32768 := by
    show (op2 (F := Ideal)).result (V2 m d) (Proc.devRef .tc main_v2) = _
    unfold op2
    rw [StableHlo.reshape_result]
    rfl
  rw [e, W2_out]
  exact (congrArg (shapeCast S32768 (scored (W1 m) d) shapeCasts_S16x1x2048_S32768) (vec_eq n)).trans (joined_at _ n)

include hh hx hg ha in
theorem score_block (t : Fin 16) (q : Fin 2048) :
    scored (W1 m) d (ix3 t 0 q) = (scoreReal x h a g ⟨2048 * t.val + q.val, by omega⟩ : EReal) := by
  rw [scored_eq]
  show (scoresOf (W1 m) d (ix3 t 0 q) : EReal) = _
  have e : scoresOf (W1 m) d (ix3 t 0 q) = k0_pay2 (blk0 (W1 m) 2 d ⟨t.val, t.isLt⟩) (blk0 (W1 m) 3 d ⟨t.val, t.isLt⟩) (rot (W1 m) d ⟨t.val, t.isLt⟩) (ix3 0 0 q) := rfl
  rw [e, pay_score, Finset.sum_eq_single (g ⟨2048 * t.val + q.val, by omega⟩)]
  · rw [staged3, column_in, if_pos (hg _), scoreReal, coe_sum]
    refine Finset.sum_congr rfl fun k _ => ?_
    rw [rot, pay_rot, staged2, W1_ne m d main_arg1 (by decide), hx, mul_comm, rotReal, EReal.coe_mul, coe_sum]
    refine congrArg (_ * ·) (Finset.sum_congr rfl fun l _ => ?_)
    rw [staged0, staged1, W1_ne m d main_arg0 (by decide), W1_ne m d main_arg3 (by decide), hh, ha, EReal.coe_mul]
  · intro i _ hi
    rw [staged3, column_in, if_neg (fun q => hi (Fin.ext ((hg _).symm.trans q)).symm)]
  · intro q; exact absurd (Finset.mem_univ _) q

include hh hx hg ha in
theorem score_at (n : Fin 32768) : sc2 m d (ix1 n) = (scoreReal x h a g n : EReal) := by
  rw [scores_in, score_block m d x h a g hh hx hg ha]
  exact congrArg (fun n => (scoreReal x h a g n : EReal)) (Fin.ext (by show 2048 * (n.val / 2048) + n.val % 2048 = n.val; omega))

include hh hx hg ha in
/-- The kernel's value: every segment's softmax mean. -/
theorem pooled_at (hm : Monotone g) (j : Fin 16) (k : Fin 128) :
    pooled (W4 m) d (ix2 j k) = (soft (fun n => g n = j) (scoreReal x h a g) (fun n => x n k) : EReal) := by
  rw [pooled_eq, W4_0, W4_1, W4_2]
  exact combined (m (xLoc d)) (sc2 m d) (m (gLoc d)) x (scoreReal x h a g) g hx (score_at m d x h a g hh hx hg ha) hg hm j k

end Launch

end Cert.Proof
-- ==== Proof.Algebraic.lean ====
/-
  The kernel and the reference compute the same extended reals.
-/
module

public import proofs.«01_k».proof.Proof.QuietFinite
public import proofs.«01_k».proof.Proof.RefValue
public import proofs.«01_k».proof.Proof.KernelValue

@[expose] public section

set_option maxRecDepth 16384

noncomputable section

namespace Cert.Proof

open Idealize.ShloMosaic
open Idealize.ShloMosaic.TcCoe

/-- Every node's segment, of a sorted column. -/
def segOf (G : Cert.KernelIdeal.S32768.Idx → BitVec 32) (hs : Sorted G) (n : Fin 32768) : Fin 16 := ⟨(G (nd n)).toNat, hs.lt _⟩

theorem segOf_mono (G : Cert.KernelIdeal.S32768.Idx → BitVec 32) (hs : Sorted G) : Monotone (segOf G hs) := by
  have key : ∀ k n : ℕ, ∀ h : n + k < 32768, (G (nd ⟨n, by omega⟩)).toNat ≤ (G (nd ⟨n + k, h⟩)).toNat := by
    intro k
    induction k with
    | zero => intro n h; exact le_rfl
    | succ k ih => intro n h; exact (ih n (by omega)).trans (hs.step (n + k) h)
  intro p q hpq
  have hp : p.val ≤ q.val := hpq
  have e : (⟨p.val + (q.val - p.val), by omega⟩ : Fin 32768) = q := Fin.ext (by show p.val + (q.val - p.val) = q.val; omega)
  have k := key (q.val - p.val) p.val (by omega)
  rw [e] at k
  exact k

theorem nd_eq (n : Fin 32768) : ix1 n = nd n := by
  funext b
  match b with
  | 0 => rfl

/-- One device's kernel value is the reference's value of the same arguments. -/
theorem same_value (m : (ℓ : Loc Cert.KernelIdeal.nD Cert.KernelIdeal.τ Cert.KernelIdeal.sig) → Buf (Elt Ideal) ℓ) (d : Dev Cert.KernelIdeal.nD)
    (hs : Sorted (m ((d : Thread Cert.KernelIdeal.nD Cert.KernelIdeal.τ).loc Cert.KernelIdeal.main_arg2)))
    (h0 : ∀ j, ∃ r : ℝ, m ((d : Thread Cert.KernelIdeal.nD Cert.KernelIdeal.τ).loc Cert.KernelIdeal.main_arg0) j = (r : EReal))
    (h1 : ∀ j, ∃ r : ℝ, m ((d : Thread Cert.KernelIdeal.nD Cert.KernelIdeal.τ).loc Cert.KernelIdeal.main_arg1) j = (r : EReal))
    (h3 : ∀ j, ∃ r : ℝ, m ((d : Thread Cert.KernelIdeal.nD Cert.KernelIdeal.τ).loc Cert.KernelIdeal.main_arg3) j = (r : EReal)) :
    Ref.whole (m ((d : Thread Cert.KernelIdeal.nD Cert.KernelIdeal.τ).loc Cert.KernelIdeal.main_arg0))
      (m ((d : Thread Cert.KernelIdeal.nD Cert.KernelIdeal.τ).loc Cert.KernelIdeal.main_arg1))
      (m ((d : Thread Cert.KernelIdeal.nD Cert.KernelIdeal.τ).loc Cert.KernelIdeal.main_arg2))
      (m ((d : Thread Cert.KernelIdeal.nD Cert.KernelIdeal.τ).loc Cert.KernelIdeal.main_arg3)) = pooled (W4 m) d := by
  choose h hh using fun (i : Fin 16) (l : Fin 128) => h0 (ix2 i l)
  choose x hx using fun (n : Fin 32768) (k : Fin 128) => h1 (ix2 n k)
  choose a ha using fun (l : Fin 128) (k : Fin 128) => h3 (ix2 l k)
  have hg : ∀ n, (m ((d : Thread Cert.KernelIdeal.nD Cert.KernelIdeal.τ).loc Cert.KernelIdeal.main_arg2) (nd n)).toNat = (segOf _ hs n).val := fun _ => rfl
  have hb : ∀ n, m ((d : Thread Cert.KernelIdeal.nD Cert.KernelIdeal.τ).loc Cert.KernelIdeal.main_arg2) (nd n) = BitVec.ofNat 32 (segOf _ hs n).val := fun n => by
    apply BitVec.eq_of_toNat_eq
    rw [BitVec.toNat_ofNat, hg]
    exact (Nat.mod_eq_of_lt (by have := (segOf _ hs n).isLt; omega)).symm
  funext i
  rw [show i = ix2 (i 0) (i 1) from by
    funext b
    match b with
    | 0 => rfl
    | 1 => rfl]
  refine Eq.trans ?_ (pooled_at m d x h a (segOf _ hs) hh hx (fun n => by rw [nd_eq]; exact hg n) ha (segOf_mono _ hs) (i 0) (i 1)).symm
  refine Eq.trans (congrArg _ (ix2_eq_valueIdx (i 0) (i 1))) ?_
  exact Ref.whole_at _ _ _ _ x h a (segOf _ hs) hb hx hh ha (i 0) (i 1)

/-- Under the second precondition both programs end with the same pooled rows. -/
theorem algebraic : Cert.algebraic_KernelIdeal_ReferenceIdeal_pre_sorted_finite := fun m ρ m' ρ' hp hm =>
  ⟨fun c => pooled (W4 m) c,
    (θ_run Cert.KernelIdeal.defs _ _).mono
      (fun _ h c => ⟨(h.1 c).2.2.2.2, (h.1 c).1, (h.1 c).2.1, (h.1 c).2.2.1, (h.1 c).2.2.2.1⟩)
      (run_main (F := Ideal) m ρ fun d j => (finite_of_pre _ _ _ _ (hp d)).1.lt j),
    (θ_run Cert.ReferenceIdeal.defs _ _).mono
      (fun _ h c => ⟨(h c).1.trans (by
        have f := finite_of_pre _ _ _ _ (hp c)
        rw [Ref.res_eq, (hm c).1, (hm c).2.1, (hm c).2.2.1, (hm c).2.2.2]
        exact same_value m c f.1 f.2.1 f.2.2.1 f.2.2.2), (h c).2⟩)
      (Cert.ReferenceIdeal.Value.run (F := Ideal) m' ρ')⟩

end Cert.Proof
-- ==== Proof.lean ====
/-
  The claim: every program runs quietly, the idealized kernel is the kernel, and the reference's result is its
  result.
-/
module

public import proofs.«01_k».proof.Defs
public import proofs.«01_k».proof.Proof.QuietFinite
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Cert.Pre_sorted_ids.Gen.facts,
  Cert.Pre_sorted_finite.Gen.facts, frame_kernel, frame_ideal, frame_ideal_finite, frame_reference, frame_reference_finite, trivial, algebraic⟩

end Cert.Proof

end
